-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)

variable [Facts]

def fn {F : FTy → Type} [FloatOps F] (main_arg0 : FVec F S128x100000 .f32) (main_arg1 : IVec S_ 32) : IVec S128x100000 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  main_v2
-- ==== Kernel.lean ====
abbrev S128x100000 : Shape := ⟨2, ![128, 100000]⟩
abbrev S_ : Shape := ⟨0, ![]⟩
abbrev S1 : Shape := ⟨1, ![1]⟩
abbrev S2 : Shape := ⟨1, ![2]⟩
abbrev S6 : Shape := ⟨1, ![6]⟩
abbrev S128x4 : Shape := ⟨2, ![128, 4]⟩
abbrev S8x100000 : Shape := ⟨2, ![8, 100000]⟩
abbrev S8x4 : Shape := ⟨2, ![8, 4]⟩
abbrev S8x2048 : Shape := ⟨2, ![8, 2048]⟩
abbrev S8x1 : Shape := ⟨2, ![8, 1]⟩
abbrev S8 : Shape := ⟨1, ![8]⟩
abbrev S8x1696 : Shape := ⟨2, ![8, 1696]⟩

abbrev nBuf : Space → Nat
  | .hbm => 725
  | .vmem => 4
  | .smem => 2
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S1, .i32⟩
  | 25 => ⟨S1, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S128x100000, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S2, .i32⟩
  | 121 => ⟨S_, .i32⟩
  | 122 => ⟨S_, .i32⟩
  | 123 => ⟨S_, .i32⟩
  | 124 => ⟨S1, .i32⟩
  | 125 => ⟨S_, .i32⟩
  | 126 => ⟨S_, .i32⟩
  | 127 => ⟨S1, .i32⟩
  | _ => ⟨S128x100000, .f32⟩

abbrev hbmTy0_2 (i : Nat) : BufTy := match i % 128 with
  | 0 => ⟨S2, .i32⟩
  | 1 => ⟨S1, .i32⟩
  | 2 => ⟨S_, .i32⟩
  | 3 => ⟨S1, .i32⟩
  | 4 => ⟨S_, .i32⟩
  | 5 => ⟨S1, .i32⟩
  | 6 => ⟨S1, .i32⟩
  | 7 => ⟨S_, .i32⟩
  | 8 => ⟨S_, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S1, .i32⟩
  | 24 => ⟨S_, .i32⟩
  | 25 => ⟨S1, .i32⟩
  | 26 => ⟨S1, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S128x100000, .f32⟩

abbrev hbmTy0_3 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S_, .i32⟩
  | 60 => ⟨S1, .i32⟩
  | 61 => ⟨S1, .i32⟩
  | 62 => ⟨S_, .i32⟩
  | 63 => ⟨S1, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S_, .i32⟩
  | 72 => ⟨S1, .i32⟩
  | 73 => ⟨S1, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S2, .i32⟩
  | 102 => ⟨S_, .i32⟩
  | 103 => ⟨S_, .i32⟩
  | 104 => ⟨S_, .i32⟩
  | 105 => ⟨S1, .i32⟩
  | 106 => ⟨S_, .i32⟩
  | 107 => ⟨S_, .i32⟩
  | 108 => ⟨S1, .i32⟩
  | 109 => ⟨S2, .i32⟩
  | 110 => ⟨S1, .i32⟩
  | 111 => ⟨S_, .i32⟩
  | 112 => ⟨S1, .i32⟩
  | 113 => ⟨S_, .i32⟩
  | 114 => ⟨S1, .i32⟩
  | 115 => ⟨S1, .i32⟩
  | 116 => ⟨S_, .i32⟩
  | 117 => ⟨S_, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S128x100000, .f32⟩

abbrev hbmTy0_4 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S_, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S1, .i32⟩
  | 13 => ⟨S1, .i32⟩
  | 14 => ⟨S_, .i32⟩
  | 15 => ⟨S1, .i32⟩
  | 16 => ⟨S1, .i32⟩
  | 17 => ⟨S_, .i32⟩
  | 18 => ⟨S1, .i32⟩
  | 19 => ⟨S1, .i32⟩
  | 20 => ⟨S1, .i32⟩
  | 21 => ⟨S1, .i32⟩
  | 22 => ⟨S1, .i32⟩
  | 23 => ⟨S_, .i32⟩
  | 24 => ⟨S1, .i32⟩
  | 25 => ⟨S1, .i32⟩
  | 26 => ⟨S_, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S1, .i32⟩
  | 65 => ⟨S1, .i32⟩
  | 66 => ⟨S_, .i32⟩
  | 67 => ⟨S1, .i32⟩
  | 68 => ⟨S1, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S128x100000, .f32⟩

abbrev hbmTy0_5 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S1, .i32⟩
  | 24 => ⟨S_, .i32⟩
  | 25 => ⟨S1, .i32⟩
  | 26 => ⟨S1, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S2, .i32⟩
  | 83 => ⟨S6, .i32⟩
  | 84 => ⟨S128x4, .f32⟩
  | _ => ⟨S128x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S128x100000, .f32⟩

abbrev bufTy : (tb : Table) → Fin (tcTables nBuf tb) → BufTy
  | .hbm, ⟨i, _⟩ => hbmTy i
  | .local _ .vmem, ⟨0, _⟩ => ⟨S8x100000, .f32⟩
  | .local _ .vmem, ⟨1, _⟩ => ⟨S8x100000, .f32⟩
  | .local _ .vmem, ⟨2, _⟩ => ⟨S8x4, .f32⟩
  | .local _ .vmem, ⟨3, _⟩ => ⟨S8x4, .f32⟩
  | .local _ .smem, ⟨0, _⟩ => ⟨S1, .i32⟩
  | .local _ .smem, ⟨1, _⟩ => ⟨S6, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_v7 : Ref sig .tc := ⟨.hbm, 248, rfl⟩
abbrev main_c_3 : Ref sig .tc := ⟨.hbm, 249, rfl⟩
abbrev main_call1_c : Ref sig .tc := ⟨.hbm, 250, rfl⟩
abbrev main_call1_v0 : Ref sig .tc := ⟨.hbm, 251, rfl⟩
abbrev main_call1_v1 : Ref sig .tc := ⟨.hbm, 252, rfl⟩
abbrev main_call1_c_0 : Ref sig .tc := ⟨.hbm, 253, rfl⟩
abbrev main_call1_v2 : Ref sig .tc := ⟨.hbm, 254, rfl⟩
abbrev main_call1_v3 : Ref sig .tc := ⟨.hbm, 255, rfl⟩
abbrev main_call1_v4 : Ref sig .tc := ⟨.hbm, 256, rfl⟩
abbrev main_call1_v5 : Ref sig .tc := ⟨.hbm, 257, rfl⟩
abbrev main_call1_v6 : Ref sig .tc := ⟨.hbm, 258, rfl⟩
abbrev main_call1_v7 : Ref sig .tc := ⟨.hbm, 259, rfl⟩
abbrev main_call1_v8 : Ref sig .tc := ⟨.hbm, 260, rfl⟩
abbrev main_call1_v9 : Ref sig .tc := ⟨.hbm, 261, rfl⟩
abbrev main_call1_v10 : Ref sig .tc := ⟨.hbm, 262, rfl⟩
abbrev main_call1_call0_v0 : Ref sig .tc := ⟨.hbm, 263, rfl⟩
abbrev main_call1_call0_c : Ref sig .tc := ⟨.hbm, 264, rfl⟩
abbrev main_call1_call0_v1 : Ref sig .tc := ⟨.hbm, 265, rfl⟩
abbrev main_call1_call0_v2 : Ref sig .tc := ⟨.hbm, 266, rfl⟩
abbrev main_call1_call0_v3 : Ref sig .tc := ⟨.hbm, 267, rfl⟩
abbrev main_call1_call0_v4 : Ref sig .tc := ⟨.hbm, 268, rfl⟩
abbrev main_call1_call0_v5 : Ref sig .tc := ⟨.hbm, 269, rfl⟩
abbrev main_call1_call0_v6 : Ref sig .tc := ⟨.hbm, 270, rfl⟩
abbrev main_call1_call0_c_0 : Ref sig .tc := ⟨.hbm, 271, rfl⟩
abbrev main_call1_call0_v7 : Ref sig .tc := ⟨.hbm, 272, rfl⟩
abbrev main_call1_call0_v8 : Ref sig .tc := ⟨.hbm, 273, rfl⟩
abbrev main_call1_call0_c_1 : Ref sig .tc := ⟨.hbm, 274, rfl⟩
abbrev main_call1_call0_v9 : Ref sig .tc := ⟨.hbm, 275, rfl⟩
abbrev main_call1_call0_v10 : Ref sig .tc := ⟨.hbm, 276, rfl⟩
abbrev main_call1_call0_v11 : Ref sig .tc := ⟨.hbm, 277, rfl⟩
abbrev main_call1_call0_v12 : Ref sig .tc := ⟨.hbm, 278, rfl⟩
abbrev main_call1_call0_v13 : Ref sig .tc := ⟨.hbm, 279, rfl⟩
abbrev main_call1_call0_c_2 : Ref sig .tc := ⟨.hbm, 280, rfl⟩
abbrev main_call1_call0_v14 : Ref sig .tc := ⟨.hbm, 281, rfl⟩
abbrev main_call1_call0_v15 : Ref sig .tc := ⟨.hbm, 282, rfl⟩
abbrev main_call1_call0_c_3 : Ref sig .tc := ⟨.hbm, 283, rfl⟩
abbrev main_call1_call0_v16 : Ref sig .tc := ⟨.hbm, 284, rfl⟩
abbrev main_call1_call0_v17 : Ref sig .tc := ⟨.hbm, 285, rfl⟩
abbrev main_call1_call0_v18 : Ref sig .tc := ⟨.hbm, 286, rfl⟩
abbrev main_call1_call0_v19 : Ref sig .tc := ⟨.hbm, 287, rfl⟩
abbrev main_call1_call0_v20 : Ref sig .tc := ⟨.hbm, 288, rfl⟩
abbrev main_call1_call0_c_4 : Ref sig .tc := ⟨.hbm, 289, rfl⟩
abbrev main_call1_call0_v21 : Ref sig .tc := ⟨.hbm, 290, rfl⟩
abbrev main_call1_call0_v22 : Ref sig .tc := ⟨.hbm, 291, rfl⟩
abbrev main_call1_call0_c_5 : Ref sig .tc := ⟨.hbm, 292, rfl⟩
abbrev main_call1_call0_v23 : Ref sig .tc := ⟨.hbm, 293, rfl⟩
abbrev main_call1_call0_v24 : Ref sig .tc := ⟨.hbm, 294, rfl⟩
abbrev main_call1_call0_v25 : Ref sig .tc := ⟨.hbm, 295, rfl⟩
abbrev main_call1_call0_v26 : Ref sig .tc := ⟨.hbm, 296, rfl⟩
abbrev main_call1_call0_v27 : Ref sig .tc := ⟨.hbm, 297, rfl⟩
abbrev main_call1_call0_c_6 : Ref sig .tc := ⟨.hbm, 298, rfl⟩
abbrev main_call1_call0_v28 : Ref sig .tc := ⟨.hbm, 299, rfl⟩
abbrev main_call1_call0_v29 : Ref sig .tc := ⟨.hbm, 300, rfl⟩
abbrev main_call1_call0_c_7 : Ref sig .tc := ⟨.hbm, 301, rfl⟩
abbrev main_call1_call0_v30 : Ref sig .tc := ⟨.hbm, 302, rfl⟩
abbrev main_call1_call0_v31 : Ref sig .tc := ⟨.hbm, 303, rfl⟩
abbrev main_call1_call0_v32 : Ref sig .tc := ⟨.hbm, 304, rfl⟩
abbrev main_call1_call0_v33 : Ref sig .tc := ⟨.hbm, 305, rfl⟩
abbrev main_call1_call0_v34 : Ref sig .tc := ⟨.hbm, 306, rfl⟩
abbrev main_call1_call0_v35 : Ref sig .tc := ⟨.hbm, 307, rfl⟩
abbrev main_call1_call0_v36 : Ref sig .tc := ⟨.hbm, 308, rfl⟩
abbrev main_call1_call0_v37 : Ref sig .tc := ⟨.hbm, 309, rfl⟩
abbrev main_call1_call0_c_8 : Ref sig .tc := ⟨.hbm, 310, rfl⟩
abbrev main_call1_call0_v38 : Ref sig .tc := ⟨.hbm, 311, rfl⟩
abbrev main_call1_call0_v39 : Ref sig .tc := ⟨.hbm, 312, rfl⟩
abbrev main_call1_call0_v40 : Ref sig .tc := ⟨.hbm, 313, rfl⟩
abbrev main_call1_call0_c_9 : Ref sig .tc := ⟨.hbm, 314, rfl⟩
abbrev main_call1_call0_v41 : Ref sig .tc := ⟨.hbm, 315, rfl⟩
abbrev main_call1_call0_v42 : Ref sig .tc := ⟨.hbm, 316, rfl⟩
abbrev main_call1_call0_c_10 : Ref sig .tc := ⟨.hbm, 317, rfl⟩
abbrev main_call1_call0_v43 : Ref sig .tc := ⟨.hbm, 318, rfl⟩
abbrev main_call1_call0_v44 : Ref sig .tc := ⟨.hbm, 319, rfl⟩
abbrev main_call1_call0_v45 : Ref sig .tc := ⟨.hbm, 320, rfl⟩
abbrev main_call1_call0_v46 : Ref sig .tc := ⟨.hbm, 321, rfl⟩
abbrev main_call1_call0_v47 : Ref sig .tc := ⟨.hbm, 322, rfl⟩
abbrev main_call1_call0_c_11 : Ref sig .tc := ⟨.hbm, 323, rfl⟩
abbrev main_call1_call0_v48 : Ref sig .tc := ⟨.hbm, 324, rfl⟩
abbrev main_call1_call0_v49 : Ref sig .tc := ⟨.hbm, 325, rfl⟩
abbrev main_call1_call0_c_12 : Ref sig .tc := ⟨.hbm, 326, rfl⟩
abbrev main_call1_call0_v50 : Ref sig .tc := ⟨.hbm, 327, rfl⟩
abbrev main_call1_call0_v51 : Ref sig .tc := ⟨.hbm, 328, rfl⟩
abbrev main_call1_call0_v52 : Ref sig .tc := ⟨.hbm, 329, rfl⟩
abbrev main_call1_call0_v53 : Ref sig .tc := ⟨.hbm, 330, rfl⟩
abbrev main_call1_call0_v54 : Ref sig .tc := ⟨.hbm, 331, rfl⟩
abbrev main_call1_call0_c_13 : Ref sig .tc := ⟨.hbm, 332, rfl⟩
abbrev main_call1_call0_v55 : Ref sig .tc := ⟨.hbm, 333, rfl⟩
abbrev main_call1_call0_v56 : Ref sig .tc := ⟨.hbm, 334, rfl⟩
abbrev main_call1_call0_c_14 : Ref sig .tc := ⟨.hbm, 335, rfl⟩
abbrev main_call1_call0_v57 : Ref sig .tc := ⟨.hbm, 336, rfl⟩
abbrev main_call1_call0_v58 : Ref sig .tc := ⟨.hbm, 337, rfl⟩
abbrev main_call1_call0_v59 : Ref sig .tc := ⟨.hbm, 338, rfl⟩
abbrev main_call1_call0_v60 : Ref sig .tc := ⟨.hbm, 339, rfl⟩
abbrev main_call1_call0_v61 : Ref sig .tc := ⟨.hbm, 340, rfl⟩
abbrev main_call1_call0_c_15 : Ref sig .tc := ⟨.hbm, 341, rfl⟩
abbrev main_call1_call0_v62 : Ref sig .tc := ⟨.hbm, 342, rfl⟩
abbrev main_call1_call0_v63 : Ref sig .tc := ⟨.hbm, 343, rfl⟩
abbrev main_call1_call0_c_16 : Ref sig .tc := ⟨.hbm, 344, rfl⟩
abbrev main_call1_call0_v64 : Ref sig .tc := ⟨.hbm, 345, rfl⟩
abbrev main_call1_call0_v65 : Ref sig .tc := ⟨.hbm, 346, rfl⟩
abbrev main_call1_call0_v66 : Ref sig .tc := ⟨.hbm, 347, rfl⟩
abbrev main_call1_call0_v67 : Ref sig .tc := ⟨.hbm, 348, rfl⟩
abbrev main_call1_call0_v68 : Ref sig .tc := ⟨.hbm, 349, rfl⟩
abbrev main_call1_call0_v69 : Ref sig .tc := ⟨.hbm, 350, rfl⟩
abbrev main_call1_call0_v70 : Ref sig .tc := ⟨.hbm, 351, rfl⟩
abbrev main_call1_call0_v71 : Ref sig .tc := ⟨.hbm, 352, rfl⟩
abbrev main_call1_call0_c_17 : Ref sig .tc := ⟨.hbm, 353, rfl⟩
abbrev main_call1_call0_v72 : Ref sig .tc := ⟨.hbm, 354, rfl⟩
abbrev main_call1_call0_v73 : Ref sig .tc := ⟨.hbm, 355, rfl⟩
abbrev main_call1_call0_v74 : Ref sig .tc := ⟨.hbm, 356, rfl⟩
abbrev main_call1_call0_c_18 : Ref sig .tc := ⟨.hbm, 357, rfl⟩
abbrev main_call1_call0_v75 : Ref sig .tc := ⟨.hbm, 358, rfl⟩
abbrev main_call1_call0_v76 : Ref sig .tc := ⟨.hbm, 359, rfl⟩
abbrev main_call1_call0_c_19 : Ref sig .tc := ⟨.hbm, 360, rfl⟩
abbrev main_call1_call0_v77 : Ref sig .tc := ⟨.hbm, 361, rfl⟩
abbrev main_call1_call0_v78 : Ref sig .tc := ⟨.hbm, 362, rfl⟩
abbrev main_call1_call0_v79 : Ref sig .tc := ⟨.hbm, 363, rfl⟩
abbrev main_call1_call0_v80 : Ref sig .tc := ⟨.hbm, 364, rfl⟩
abbrev main_call1_call0_v81 : Ref sig .tc := ⟨.hbm, 365, rfl⟩
abbrev main_call1_call0_c_20 : Ref sig .tc := ⟨.hbm, 366, rfl⟩
abbrev main_call1_call0_v82 : Ref sig .tc := ⟨.hbm, 367, rfl⟩
abbrev main_call1_call0_v83 : Ref sig .tc := ⟨.hbm, 368, rfl⟩
abbrev main_call1_call0_c_21 : Ref sig .tc := ⟨.hbm, 369, rfl⟩
abbrev main_call1_call0_v84 : Ref sig .tc := ⟨.hbm, 370, rfl⟩
abbrev main_call1_call0_v85 : Ref sig .tc := ⟨.hbm, 371, rfl⟩
abbrev main_call1_call0_v86 : Ref sig .tc := ⟨.hbm, 372, rfl⟩
abbrev main_call1_call0_v87 : Ref sig .tc := ⟨.hbm, 373, rfl⟩
abbrev main_call1_call0_v88 : Ref sig .tc := ⟨.hbm, 374, rfl⟩
abbrev main_call1_call0_c_22 : Ref sig .tc := ⟨.hbm, 375, rfl⟩
abbrev main_call1_call0_v89 : Ref sig .tc := ⟨.hbm, 376, rfl⟩
abbrev main_call1_call0_v90 : Ref sig .tc := ⟨.hbm, 377, rfl⟩
abbrev main_call1_call0_c_23 : Ref sig .tc := ⟨.hbm, 378, rfl⟩
abbrev main_call1_call0_v91 : Ref sig .tc := ⟨.hbm, 379, rfl⟩
abbrev main_call1_call0_v92 : Ref sig .tc := ⟨.hbm, 380, rfl⟩
abbrev main_call1_call0_v93 : Ref sig .tc := ⟨.hbm, 381, rfl⟩
abbrev main_call1_call0_v94 : Ref sig .tc := ⟨.hbm, 382, rfl⟩
abbrev main_call1_call0_v95 : Ref sig .tc := ⟨.hbm, 383, rfl⟩
abbrev main_call1_call0_c_24 : Ref sig .tc := ⟨.hbm, 384, rfl⟩
abbrev main_call1_call0_v96 : Ref sig .tc := ⟨.hbm, 385, rfl⟩
abbrev main_call1_call0_v97 : Ref sig .tc := ⟨.hbm, 386, rfl⟩
abbrev main_call1_call0_c_25 : Ref sig .tc := ⟨.hbm, 387, rfl⟩
abbrev main_call1_call0_v98 : Ref sig .tc := ⟨.hbm, 388, rfl⟩
abbrev main_call1_call0_v99 : Ref sig .tc := ⟨.hbm, 389, rfl⟩
abbrev main_call1_call0_v100 : Ref sig .tc := ⟨.hbm, 390, rfl⟩
abbrev main_call1_call0_v101 : Ref sig .tc := ⟨.hbm, 391, rfl⟩
abbrev main_call1_call0_v102 : Ref sig .tc := ⟨.hbm, 392, rfl⟩
abbrev main_call1_call0_v103 : Ref sig .tc := ⟨.hbm, 393, rfl⟩
abbrev main_call1_call0_v104 : Ref sig .tc := ⟨.hbm, 394, rfl⟩
abbrev main_call1_call0_v105 : Ref sig .tc := ⟨.hbm, 395, rfl⟩
abbrev main_call1_call0_c_26 : Ref sig .tc := ⟨.hbm, 396, rfl⟩
abbrev main_call1_call0_v106 : Ref sig .tc := ⟨.hbm, 397, rfl⟩
abbrev main_call1_call0_v107 : Ref sig .tc := ⟨.hbm, 398, rfl⟩
abbrev main_call1_call0_v108 : Ref sig .tc := ⟨.hbm, 399, rfl⟩
abbrev main_call1_call0_c_27 : Ref sig .tc := ⟨.hbm, 400, rfl⟩
abbrev main_call1_call0_v109 : Ref sig .tc := ⟨.hbm, 401, rfl⟩
abbrev main_call1_call0_v110 : Ref sig .tc := ⟨.hbm, 402, rfl⟩
abbrev main_call1_call0_c_28 : Ref sig .tc := ⟨.hbm, 403, rfl⟩
abbrev main_call1_call0_v111 : Ref sig .tc := ⟨.hbm, 404, rfl⟩
abbrev main_call1_call0_v112 : Ref sig .tc := ⟨.hbm, 405, rfl⟩
abbrev main_call1_call0_v113 : Ref sig .tc := ⟨.hbm, 406, rfl⟩
abbrev main_call1_call0_v114 : Ref sig .tc := ⟨.hbm, 407, rfl⟩
abbrev main_call1_call0_v115 : Ref sig .tc := ⟨.hbm, 408, rfl⟩
abbrev main_call1_call0_c_29 : Ref sig .tc := ⟨.hbm, 409, rfl⟩
abbrev main_call1_call0_v116 : Ref sig .tc := ⟨.hbm, 410, rfl⟩
abbrev main_call1_call0_v117 : Ref sig .tc := ⟨.hbm, 411, rfl⟩
abbrev main_call1_call0_c_30 : Ref sig .tc := ⟨.hbm, 412, rfl⟩
abbrev main_call1_call0_v118 : Ref sig .tc := ⟨.hbm, 413, rfl⟩
abbrev main_call1_call0_v119 : Ref sig .tc := ⟨.hbm, 414, rfl⟩
abbrev main_call1_call0_v120 : Ref sig .tc := ⟨.hbm, 415, rfl⟩
abbrev main_call1_call0_v121 : Ref sig .tc := ⟨.hbm, 416, rfl⟩
abbrev main_call1_call0_v122 : Ref sig .tc := ⟨.hbm, 417, rfl⟩
abbrev main_call1_call0_c_31 : Ref sig .tc := ⟨.hbm, 418, rfl⟩
abbrev main_call1_call0_v123 : Ref sig .tc := ⟨.hbm, 419, rfl⟩
abbrev main_call1_call0_v124 : Ref sig .tc := ⟨.hbm, 420, rfl⟩
abbrev main_call1_call0_c_32 : Ref sig .tc := ⟨.hbm, 421, rfl⟩
abbrev main_call1_call0_v125 : Ref sig .tc := ⟨.hbm, 422, rfl⟩
abbrev main_call1_call0_v126 : Ref sig .tc := ⟨.hbm, 423, rfl⟩
abbrev main_call1_call0_v127 : Ref sig .tc := ⟨.hbm, 424, rfl⟩
abbrev main_call1_call0_v128 : Ref sig .tc := ⟨.hbm, 425, rfl⟩
abbrev main_call1_call0_v129 : Ref sig .tc := ⟨.hbm, 426, rfl⟩
abbrev main_call1_call0_c_33 : Ref sig .tc := ⟨.hbm, 427, rfl⟩
abbrev main_call1_call0_v130 : Ref sig .tc := ⟨.hbm, 428, rfl⟩
abbrev main_call1_call0_v131 : Ref sig .tc := ⟨.hbm, 429, rfl⟩
abbrev main_call1_call0_c_34 : Ref sig .tc := ⟨.hbm, 430, rfl⟩
abbrev main_call1_call0_v132 : Ref sig .tc := ⟨.hbm, 431, rfl⟩
abbrev main_call1_call0_v133 : Ref sig .tc := ⟨.hbm, 432, rfl⟩
abbrev main_call1_call0_v134 : Ref sig .tc := ⟨.hbm, 433, rfl⟩
abbrev main_call1_call0_v135 : Ref sig .tc := ⟨.hbm, 434, rfl⟩
abbrev main_call1_call0_v136 : Ref sig .tc := ⟨.hbm, 435, rfl⟩
abbrev main_call1_call0_v137 : Ref sig .tc := ⟨.hbm, 436, rfl⟩
abbrev main_call1_call0_v138 : Ref sig .tc := ⟨.hbm, 437, rfl⟩
abbrev main_call1_call0_v139 : Ref sig .tc := ⟨.hbm, 438, rfl⟩
abbrev main_call1_call0_c_35 : Ref sig .tc := ⟨.hbm, 439, rfl⟩
abbrev main_call1_call0_v140 : Ref sig .tc := ⟨.hbm, 440, rfl⟩
abbrev main_call1_call0_v141 : Ref sig .tc := ⟨.hbm, 441, rfl⟩
abbrev main_call1_call0_v142 : Ref sig .tc := ⟨.hbm, 442, rfl⟩
abbrev main_call1_call0_c_36 : Ref sig .tc := ⟨.hbm, 443, rfl⟩
abbrev main_call1_call0_v143 : Ref sig .tc := ⟨.hbm, 444, rfl⟩
abbrev main_call1_call0_v144 : Ref sig .tc := ⟨.hbm, 445, rfl⟩
abbrev main_call1_call0_c_37 : Ref sig .tc := ⟨.hbm, 446, rfl⟩
abbrev main_call1_call0_v145 : Ref sig .tc := ⟨.hbm, 447, rfl⟩
abbrev main_call1_call0_v146 : Ref sig .tc := ⟨.hbm, 448, rfl⟩
abbrev main_call1_call0_v147 : Ref sig .tc := ⟨.hbm, 449, rfl⟩
abbrev main_call1_call0_v148 : Ref sig .tc := ⟨.hbm, 450, rfl⟩
abbrev main_call1_call0_v149 : Ref sig .tc := ⟨.hbm, 451, rfl⟩
abbrev main_call1_call0_c_38 : Ref sig .tc := ⟨.hbm, 452, rfl⟩
abbrev main_call1_call0_v150 : Ref sig .tc := ⟨.hbm, 453, rfl⟩
abbrev main_call1_call0_v151 : Ref sig .tc := ⟨.hbm, 454, rfl⟩
abbrev main_call1_call0_c_39 : Ref sig .tc := ⟨.hbm, 455, rfl⟩
abbrev main_call1_call0_v152 : Ref sig .tc := ⟨.hbm, 456, rfl⟩
abbrev main_call1_call0_v153 : Ref sig .tc := ⟨.hbm, 457, rfl⟩
abbrev main_call1_call0_v154 : Ref sig .tc := ⟨.hbm, 458, rfl⟩
abbrev main_call1_call0_v155 : Ref sig .tc := ⟨.hbm, 459, rfl⟩
abbrev main_call1_call0_v156 : Ref sig .tc := ⟨.hbm, 460, rfl⟩
abbrev main_call1_call0_c_40 : Ref sig .tc := ⟨.hbm, 461, rfl⟩
abbrev main_call1_call0_v157 : Ref sig .tc := ⟨.hbm, 462, rfl⟩
abbrev main_call1_call0_v158 : Ref sig .tc := ⟨.hbm, 463, rfl⟩
abbrev main_call1_call0_c_41 : Ref sig .tc := ⟨.hbm, 464, rfl⟩
abbrev main_call1_call0_v159 : Ref sig .tc := ⟨.hbm, 465, rfl⟩
abbrev main_call1_call0_v160 : Ref sig .tc := ⟨.hbm, 466, rfl⟩
abbrev main_call1_call0_v161 : Ref sig .tc := ⟨.hbm, 467, rfl⟩
abbrev main_call1_call0_v162 : Ref sig .tc := ⟨.hbm, 468, rfl⟩
abbrev main_call1_call0_v163 : Ref sig .tc := ⟨.hbm, 469, rfl⟩
abbrev main_call1_call0_c_42 : Ref sig .tc := ⟨.hbm, 470, rfl⟩
abbrev main_call1_call0_v164 : Ref sig .tc := ⟨.hbm, 471, rfl⟩
abbrev main_call1_call0_v165 : Ref sig .tc := ⟨.hbm, 472, rfl⟩
abbrev main_call1_call0_c_43 : Ref sig .tc := ⟨.hbm, 473, rfl⟩
abbrev main_call1_call0_v166 : Ref sig .tc := ⟨.hbm, 474, rfl⟩
abbrev main_call1_call0_v167 : Ref sig .tc := ⟨.hbm, 475, rfl⟩
abbrev main_call1_call0_v168 : Ref sig .tc := ⟨.hbm, 476, rfl⟩
abbrev main_call1_call0_v169 : Ref sig .tc := ⟨.hbm, 477, rfl⟩
abbrev main_call1_call0_v170 : Ref sig .tc := ⟨.hbm, 478, rfl⟩
abbrev main_call1_v11_0 : Ref sig .tc := ⟨.hbm, 479, rfl⟩
abbrev main_call1_call0_v172 : Ref sig .tc := ⟨.hbm, 480, rfl⟩
abbrev main_call1_call0_v173 : Ref sig .tc := ⟨.hbm, 481, rfl⟩
abbrev main_call1_call0_c_44 : Ref sig .tc := ⟨.hbm, 482, rfl⟩
abbrev main_call1_call0_v174 : Ref sig .tc := ⟨.hbm, 483, rfl⟩
abbrev main_call1_v11_1 : Ref sig .tc := ⟨.hbm, 484, rfl⟩
abbrev main_v8 : Ref sig .tc := ⟨.hbm, 485, rfl⟩
abbrev main_c_4 : Ref sig .tc := ⟨.hbm, 486, rfl⟩
abbrev main_call2_c : Ref sig .tc := ⟨.hbm, 487, rfl⟩
abbrev main_call2_v0 : Ref sig .tc := ⟨.hbm, 488, rfl⟩
abbrev main_call2_v1 : Ref sig .tc := ⟨.hbm, 489, rfl⟩
abbrev main_call2_c_0 : Ref sig .tc := ⟨.hbm, 490, rfl⟩
abbrev main_call2_v2 : Ref sig .tc := ⟨.hbm, 491, rfl⟩
abbrev main_call2_v3 : Ref sig .tc := ⟨.hbm, 492, rfl⟩
abbrev main_call2_v4 : Ref sig .tc := ⟨.hbm, 493, rfl⟩
abbrev main_call2_v5 : Ref sig .tc := ⟨.hbm, 494, rfl⟩
abbrev main_call2_v6 : Ref sig .tc := ⟨.hbm, 495, rfl⟩
abbrev main_call2_v7 : Ref sig .tc := ⟨.hbm, 496, rfl⟩
abbrev main_call2_v8 : Ref sig .tc := ⟨.hbm, 497, rfl⟩
abbrev main_call2_v9 : Ref sig .tc := ⟨.hbm, 498, rfl⟩
abbrev main_call2_v10 : Ref sig .tc := ⟨.hbm, 499, rfl⟩
abbrev main_call2_call0_v0 : Ref sig .tc := ⟨.hbm, 500, rfl⟩
abbrev main_call2_call0_c : Ref sig .tc := ⟨.hbm, 501, rfl⟩
abbrev main_call2_call0_v1 : Ref sig .tc := ⟨.hbm, 502, rfl⟩
abbrev main_call2_call0_v2 : Ref sig .tc := ⟨.hbm, 503, rfl⟩
abbrev main_call2_call0_v3 : Ref sig .tc := ⟨.hbm, 504, rfl⟩
abbrev main_call2_call0_v4 : Ref sig .tc := ⟨.hbm, 505, rfl⟩
abbrev main_call2_call0_v5 : Ref sig .tc := ⟨.hbm, 506, rfl⟩
abbrev main_call2_call0_v6 : Ref sig .tc := ⟨.hbm, 507, rfl⟩
abbrev main_call2_call0_c_0 : Ref sig .tc := ⟨.hbm, 508, rfl⟩
abbrev main_call2_call0_v7 : Ref sig .tc := ⟨.hbm, 509, rfl⟩
abbrev main_call2_call0_v8 : Ref sig .tc := ⟨.hbm, 510, rfl⟩
abbrev main_call2_call0_c_1 : Ref sig .tc := ⟨.hbm, 511, rfl⟩
abbrev main_call2_call0_v9 : Ref sig .tc := ⟨.hbm, 512, rfl⟩
abbrev main_call2_call0_v10 : Ref sig .tc := ⟨.hbm, 513, rfl⟩
abbrev main_call2_call0_v11 : Ref sig .tc := ⟨.hbm, 514, rfl⟩
abbrev main_call2_call0_v12 : Ref sig .tc := ⟨.hbm, 515, rfl⟩
abbrev main_call2_call0_v13 : Ref sig .tc := ⟨.hbm, 516, rfl⟩
abbrev main_call2_call0_c_2 : Ref sig .tc := ⟨.hbm, 517, rfl⟩
abbrev main_call2_call0_v14 : Ref sig .tc := ⟨.hbm, 518, rfl⟩
abbrev main_call2_call0_v15 : Ref sig .tc := ⟨.hbm, 519, rfl⟩
abbrev main_call2_call0_c_3 : Ref sig .tc := ⟨.hbm, 520, rfl⟩
abbrev main_call2_call0_v16 : Ref sig .tc := ⟨.hbm, 521, rfl⟩
abbrev main_call2_call0_v17 : Ref sig .tc := ⟨.hbm, 522, rfl⟩
abbrev main_call2_call0_v18 : Ref sig .tc := ⟨.hbm, 523, rfl⟩
abbrev main_call2_call0_v19 : Ref sig .tc := ⟨.hbm, 524, rfl⟩
abbrev main_call2_call0_v20 : Ref sig .tc := ⟨.hbm, 525, rfl⟩
abbrev main_call2_call0_c_4 : Ref sig .tc := ⟨.hbm, 526, rfl⟩
abbrev main_call2_call0_v21 : Ref sig .tc := ⟨.hbm, 527, rfl⟩
abbrev main_call2_call0_v22 : Ref sig .tc := ⟨.hbm, 528, rfl⟩
abbrev main_call2_call0_c_5 : Ref sig .tc := ⟨.hbm, 529, rfl⟩
abbrev main_call2_call0_v23 : Ref sig .tc := ⟨.hbm, 530, rfl⟩
abbrev main_call2_call0_v24 : Ref sig .tc := ⟨.hbm, 531, rfl⟩
abbrev main_call2_call0_v25 : Ref sig .tc := ⟨.hbm, 532, rfl⟩
abbrev main_call2_call0_v26 : Ref sig .tc := ⟨.hbm, 533, rfl⟩
abbrev main_call2_call0_v27 : Ref sig .tc := ⟨.hbm, 534, rfl⟩
abbrev main_call2_call0_c_6 : Ref sig .tc := ⟨.hbm, 535, rfl⟩
abbrev main_call2_call0_v28 : Ref sig .tc := ⟨.hbm, 536, rfl⟩
abbrev main_call2_call0_v29 : Ref sig .tc := ⟨.hbm, 537, rfl⟩
abbrev main_call2_call0_c_7 : Ref sig .tc := ⟨.hbm, 538, rfl⟩
abbrev main_call2_call0_v30 : Ref sig .tc := ⟨.hbm, 539, rfl⟩
abbrev main_call2_call0_v31 : Ref sig .tc := ⟨.hbm, 540, rfl⟩
abbrev main_call2_call0_v32 : Ref sig .tc := ⟨.hbm, 541, rfl⟩
abbrev main_call2_call0_v33 : Ref sig .tc := ⟨.hbm, 542, rfl⟩
abbrev main_call2_call0_v34 : Ref sig .tc := ⟨.hbm, 543, rfl⟩
abbrev main_call2_call0_v35 : Ref sig .tc := ⟨.hbm, 544, rfl⟩
abbrev main_call2_call0_v36 : Ref sig .tc := ⟨.hbm, 545, rfl⟩
abbrev main_call2_call0_v37 : Ref sig .tc := ⟨.hbm, 546, rfl⟩
abbrev main_call2_call0_c_8 : Ref sig .tc := ⟨.hbm, 547, rfl⟩
abbrev main_call2_call0_v38 : Ref sig .tc := ⟨.hbm, 548, rfl⟩
abbrev main_call2_call0_v39 : Ref sig .tc := ⟨.hbm, 549, rfl⟩
abbrev main_call2_call0_v40 : Ref sig .tc := ⟨.hbm, 550, rfl⟩
abbrev main_call2_call0_c_9 : Ref sig .tc := ⟨.hbm, 551, rfl⟩
abbrev main_call2_call0_v41 : Ref sig .tc := ⟨.hbm, 552, rfl⟩
abbrev main_call2_call0_v42 : Ref sig .tc := ⟨.hbm, 553, rfl⟩
abbrev main_call2_call0_c_10 : Ref sig .tc := ⟨.hbm, 554, rfl⟩
abbrev main_call2_call0_v43 : Ref sig .tc := ⟨.hbm, 555, rfl⟩
abbrev main_call2_call0_v44 : Ref sig .tc := ⟨.hbm, 556, rfl⟩
abbrev main_call2_call0_v45 : Ref sig .tc := ⟨.hbm, 557, rfl⟩
abbrev main_call2_call0_v46 : Ref sig .tc := ⟨.hbm, 558, rfl⟩
abbrev main_call2_call0_v47 : Ref sig .tc := ⟨.hbm, 559, rfl⟩
abbrev main_call2_call0_c_11 : Ref sig .tc := ⟨.hbm, 560, rfl⟩
abbrev main_call2_call0_v48 : Ref sig .tc := ⟨.hbm, 561, rfl⟩
abbrev main_call2_call0_v49 : Ref sig .tc := ⟨.hbm, 562, rfl⟩
abbrev main_call2_call0_c_12 : Ref sig .tc := ⟨.hbm, 563, rfl⟩
abbrev main_call2_call0_v50 : Ref sig .tc := ⟨.hbm, 564, rfl⟩
abbrev main_call2_call0_v51 : Ref sig .tc := ⟨.hbm, 565, rfl⟩
abbrev main_call2_call0_v52 : Ref sig .tc := ⟨.hbm, 566, rfl⟩
abbrev main_call2_call0_v53 : Ref sig .tc := ⟨.hbm, 567, rfl⟩
abbrev main_call2_call0_v54 : Ref sig .tc := ⟨.hbm, 568, rfl⟩
abbrev main_call2_call0_c_13 : Ref sig .tc := ⟨.hbm, 569, rfl⟩
abbrev main_call2_call0_v55 : Ref sig .tc := ⟨.hbm, 570, rfl⟩
abbrev main_call2_call0_v56 : Ref sig .tc := ⟨.hbm, 571, rfl⟩
abbrev main_call2_call0_c_14 : Ref sig .tc := ⟨.hbm, 572, rfl⟩
abbrev main_call2_call0_v57 : Ref sig .tc := ⟨.hbm, 573, rfl⟩
abbrev main_call2_call0_v58 : Ref sig .tc := ⟨.hbm, 574, rfl⟩
abbrev main_call2_call0_v59 : Ref sig .tc := ⟨.hbm, 575, rfl⟩
abbrev main_call2_call0_v60 : Ref sig .tc := ⟨.hbm, 576, rfl⟩
abbrev main_call2_call0_v61 : Ref sig .tc := ⟨.hbm, 577, rfl⟩
abbrev main_call2_call0_c_15 : Ref sig .tc := ⟨.hbm, 578, rfl⟩
abbrev main_call2_call0_v62 : Ref sig .tc := ⟨.hbm, 579, rfl⟩
abbrev main_call2_call0_v63 : Ref sig .tc := ⟨.hbm, 580, rfl⟩
abbrev main_call2_call0_c_16 : Ref sig .tc := ⟨.hbm, 581, rfl⟩
abbrev main_call2_call0_v64 : Ref sig .tc := ⟨.hbm, 582, rfl⟩
abbrev main_call2_call0_v65 : Ref sig .tc := ⟨.hbm, 583, rfl⟩
abbrev main_call2_call0_v66 : Ref sig .tc := ⟨.hbm, 584, rfl⟩
abbrev main_call2_call0_v67 : Ref sig .tc := ⟨.hbm, 585, rfl⟩
abbrev main_call2_call0_v68 : Ref sig .tc := ⟨.hbm, 586, rfl⟩
abbrev main_call2_call0_v69 : Ref sig .tc := ⟨.hbm, 587, rfl⟩
abbrev main_call2_call0_v70 : Ref sig .tc := ⟨.hbm, 588, rfl⟩
abbrev main_call2_call0_v71 : Ref sig .tc := ⟨.hbm, 589, rfl⟩
abbrev main_call2_call0_c_17 : Ref sig .tc := ⟨.hbm, 590, rfl⟩
abbrev main_call2_call0_v72 : Ref sig .tc := ⟨.hbm, 591, rfl⟩
abbrev main_call2_call0_v73 : Ref sig .tc := ⟨.hbm, 592, rfl⟩
abbrev main_call2_call0_v74 : Ref sig .tc := ⟨.hbm, 593, rfl⟩
abbrev main_call2_call0_c_18 : Ref sig .tc := ⟨.hbm, 594, rfl⟩
abbrev main_call2_call0_v75 : Ref sig .tc := ⟨.hbm, 595, rfl⟩
abbrev main_call2_call0_v76 : Ref sig .tc := ⟨.hbm, 596, rfl⟩
abbrev main_call2_call0_c_19 : Ref sig .tc := ⟨.hbm, 597, rfl⟩
abbrev main_call2_call0_v77 : Ref sig .tc := ⟨.hbm, 598, rfl⟩
abbrev main_call2_call0_v78 : Ref sig .tc := ⟨.hbm, 599, rfl⟩
abbrev main_call2_call0_v79 : Ref sig .tc := ⟨.hbm, 600, rfl⟩
abbrev main_call2_call0_v80 : Ref sig .tc := ⟨.hbm, 601, rfl⟩
abbrev main_call2_call0_v81 : Ref sig .tc := ⟨.hbm, 602, rfl⟩
abbrev main_call2_call0_c_20 : Ref sig .tc := ⟨.hbm, 603, rfl⟩
abbrev main_call2_call0_v82 : Ref sig .tc := ⟨.hbm, 604, rfl⟩
abbrev main_call2_call0_v83 : Ref sig .tc := ⟨.hbm, 605, rfl⟩
abbrev main_call2_call0_c_21 : Ref sig .tc := ⟨.hbm, 606, rfl⟩
abbrev main_call2_call0_v84 : Ref sig .tc := ⟨.hbm, 607, rfl⟩
abbrev main_call2_call0_v85 : Ref sig .tc := ⟨.hbm, 608, rfl⟩
abbrev main_call2_call0_v86 : Ref sig .tc := ⟨.hbm, 609, rfl⟩
abbrev main_call2_call0_v87 : Ref sig .tc := ⟨.hbm, 610, rfl⟩
abbrev main_call2_call0_v88 : Ref sig .tc := ⟨.hbm, 611, rfl⟩
abbrev main_call2_call0_c_22 : Ref sig .tc := ⟨.hbm, 612, rfl⟩
abbrev main_call2_call0_v89 : Ref sig .tc := ⟨.hbm, 613, rfl⟩
abbrev main_call2_call0_v90 : Ref sig .tc := ⟨.hbm, 614, rfl⟩
abbrev main_call2_call0_c_23 : Ref sig .tc := ⟨.hbm, 615, rfl⟩
abbrev main_call2_call0_v91 : Ref sig .tc := ⟨.hbm, 616, rfl⟩
abbrev main_call2_call0_v92 : Ref sig .tc := ⟨.hbm, 617, rfl⟩
abbrev main_call2_call0_v93 : Ref sig .tc := ⟨.hbm, 618, rfl⟩
abbrev main_call2_call0_v94 : Ref sig .tc := ⟨.hbm, 619, rfl⟩
abbrev main_call2_call0_v95 : Ref sig .tc := ⟨.hbm, 620, rfl⟩
abbrev main_call2_call0_c_24 : Ref sig .tc := ⟨.hbm, 621, rfl⟩
abbrev main_call2_call0_v96 : Ref sig .tc := ⟨.hbm, 622, rfl⟩
abbrev main_call2_call0_v97 : Ref sig .tc := ⟨.hbm, 623, rfl⟩
abbrev main_call2_call0_c_25 : Ref sig .tc := ⟨.hbm, 624, rfl⟩
abbrev main_call2_call0_v98 : Ref sig .tc := ⟨.hbm, 625, rfl⟩
abbrev main_call2_call0_v99 : Ref sig .tc := ⟨.hbm, 626, rfl⟩
abbrev main_call2_call0_v100 : Ref sig .tc := ⟨.hbm, 627, rfl⟩
abbrev main_call2_call0_v101 : Ref sig .tc := ⟨.hbm, 628, rfl⟩
abbrev main_call2_call0_v102 : Ref sig .tc := ⟨.hbm, 629, rfl⟩
abbrev main_call2_call0_v103 : Ref sig .tc := ⟨.hbm, 630, rfl⟩
abbrev main_call2_call0_v104 : Ref sig .tc := ⟨.hbm, 631, rfl⟩
abbrev main_call2_call0_v105 : Ref sig .tc := ⟨.hbm, 632, rfl⟩
abbrev main_call2_call0_c_26 : Ref sig .tc := ⟨.hbm, 633, rfl⟩
abbrev main_call2_call0_v106 : Ref sig .tc := ⟨.hbm, 634, rfl⟩
abbrev main_call2_call0_v107 : Ref sig .tc := ⟨.hbm, 635, rfl⟩
abbrev main_call2_call0_v108 : Ref sig .tc := ⟨.hbm, 636, rfl⟩
abbrev main_call2_call0_c_27 : Ref sig .tc := ⟨.hbm, 637, rfl⟩
abbrev main_call2_call0_v109 : Ref sig .tc := ⟨.hbm, 638, rfl⟩
abbrev main_call2_call0_v110 : Ref sig .tc := ⟨.hbm, 639, rfl⟩
abbrev main_call2_call0_c_28 : Ref sig .tc := ⟨.hbm, 640, rfl⟩
abbrev main_call2_call0_v111 : Ref sig .tc := ⟨.hbm, 641, rfl⟩
abbrev main_call2_call0_v112 : Ref sig .tc := ⟨.hbm, 642, rfl⟩
abbrev main_call2_call0_v113 : Ref sig .tc := ⟨.hbm, 643, rfl⟩
abbrev main_call2_call0_v114 : Ref sig .tc := ⟨.hbm, 644, rfl⟩
abbrev main_call2_call0_v115 : Ref sig .tc := ⟨.hbm, 645, rfl⟩
abbrev main_call2_call0_c_29 : Ref sig .tc := ⟨.hbm, 646, rfl⟩
abbrev main_call2_call0_v116 : Ref sig .tc := ⟨.hbm, 647, rfl⟩
abbrev main_call2_call0_v117 : Ref sig .tc := ⟨.hbm, 648, rfl⟩
abbrev main_call2_call0_c_30 : Ref sig .tc := ⟨.hbm, 649, rfl⟩
abbrev main_call2_call0_v118 : Ref sig .tc := ⟨.hbm, 650, rfl⟩
abbrev main_call2_call0_v119 : Ref sig .tc := ⟨.hbm, 651, rfl⟩
abbrev main_call2_call0_v120 : Ref sig .tc := ⟨.hbm, 652, rfl⟩
abbrev main_call2_call0_v121 : Ref sig .tc := ⟨.hbm, 653, rfl⟩
abbrev main_call2_call0_v122 : Ref sig .tc := ⟨.hbm, 654, rfl⟩
abbrev main_call2_call0_c_31 : Ref sig .tc := ⟨.hbm, 655, rfl⟩
abbrev main_call2_call0_v123 : Ref sig .tc := ⟨.hbm, 656, rfl⟩
abbrev main_call2_call0_v124 : Ref sig .tc := ⟨.hbm, 657, rfl⟩
abbrev main_call2_call0_c_32 : Ref sig .tc := ⟨.hbm, 658, rfl⟩
abbrev main_call2_call0_v125 : Ref sig .tc := ⟨.hbm, 659, rfl⟩
abbrev main_call2_call0_v126 : Ref sig .tc := ⟨.hbm, 660, rfl⟩
abbrev main_call2_call0_v127 : Ref sig .tc := ⟨.hbm, 661, rfl⟩
abbrev main_call2_call0_v128 : Ref sig .tc := ⟨.hbm, 662, rfl⟩
abbrev main_call2_call0_v129 : Ref sig .tc := ⟨.hbm, 663, rfl⟩
abbrev main_call2_call0_c_33 : Ref sig .tc := ⟨.hbm, 664, rfl⟩
abbrev main_call2_call0_v130 : Ref sig .tc := ⟨.hbm, 665, rfl⟩
abbrev main_call2_call0_v131 : Ref sig .tc := ⟨.hbm, 666, rfl⟩
abbrev main_call2_call0_c_34 : Ref sig .tc := ⟨.hbm, 667, rfl⟩
abbrev main_call2_call0_v132 : Ref sig .tc := ⟨.hbm, 668, rfl⟩
abbrev main_call2_call0_v133 : Ref sig .tc := ⟨.hbm, 669, rfl⟩
abbrev main_call2_call0_v134 : Ref sig .tc := ⟨.hbm, 670, rfl⟩
abbrev main_call2_call0_v135 : Ref sig .tc := ⟨.hbm, 671, rfl⟩
abbrev main_call2_call0_v136 : Ref sig .tc := ⟨.hbm, 672, rfl⟩
abbrev main_call2_call0_v137 : Ref sig .tc := ⟨.hbm, 673, rfl⟩
abbrev main_call2_call0_v138 : Ref sig .tc := ⟨.hbm, 674, rfl⟩
abbrev main_call2_call0_v139 : Ref sig .tc := ⟨.hbm, 675, rfl⟩
abbrev main_call2_call0_c_35 : Ref sig .tc := ⟨.hbm, 676, rfl⟩
abbrev main_call2_call0_v140 : Ref sig .tc := ⟨.hbm, 677, rfl⟩
abbrev main_call2_call0_v141 : Ref sig .tc := ⟨.hbm, 678, rfl⟩
abbrev main_call2_call0_v142 : Ref sig .tc := ⟨.hbm, 679, rfl⟩
abbrev main_call2_call0_c_36 : Ref sig .tc := ⟨.hbm, 680, rfl⟩
abbrev main_call2_call0_v143 : Ref sig .tc := ⟨.hbm, 681, rfl⟩
abbrev main_call2_call0_v144 : Ref sig .tc := ⟨.hbm, 682, rfl⟩
abbrev main_call2_call0_c_37 : Ref sig .tc := ⟨.hbm, 683, rfl⟩
abbrev main_call2_call0_v145 : Ref sig .tc := ⟨.hbm, 684, rfl⟩
abbrev main_call2_call0_v146 : Ref sig .tc := ⟨.hbm, 685, rfl⟩
abbrev main_call2_call0_v147 : Ref sig .tc := ⟨.hbm, 686, rfl⟩
abbrev main_call2_call0_v148 : Ref sig .tc := ⟨.hbm, 687, rfl⟩
abbrev main_call2_call0_v149 : Ref sig .tc := ⟨.hbm, 688, rfl⟩
abbrev main_call2_call0_c_38 : Ref sig .tc := ⟨.hbm, 689, rfl⟩
abbrev main_call2_call0_v150 : Ref sig .tc := ⟨.hbm, 690, rfl⟩
abbrev main_call2_call0_v151 : Ref sig .tc := ⟨.hbm, 691, rfl⟩
abbrev main_call2_call0_c_39 : Ref sig .tc := ⟨.hbm, 692, rfl⟩
abbrev main_call2_call0_v152 : Ref sig .tc := ⟨.hbm, 693, rfl⟩
abbrev main_call2_call0_v153 : Ref sig .tc := ⟨.hbm, 694, rfl⟩
abbrev main_call2_call0_v154 : Ref sig .tc := ⟨.hbm, 695, rfl⟩
abbrev main_call2_call0_v155 : Ref sig .tc := ⟨.hbm, 696, rfl⟩
abbrev main_call2_call0_v156 : Ref sig .tc := ⟨.hbm, 697, rfl⟩
abbrev main_call2_call0_c_40 : Ref sig .tc := ⟨.hbm, 698, rfl⟩
abbrev main_call2_call0_v157 : Ref sig .tc := ⟨.hbm, 699, rfl⟩
abbrev main_call2_call0_v158 : Ref sig .tc := ⟨.hbm, 700, rfl⟩
abbrev main_call2_call0_c_41 : Ref sig .tc := ⟨.hbm, 701, rfl⟩
abbrev main_call2_call0_v159 : Ref sig .tc := ⟨.hbm, 702, rfl⟩
abbrev main_call2_call0_v160 : Ref sig .tc := ⟨.hbm, 703, rfl⟩
abbrev main_call2_call0_v161 : Ref sig .tc := ⟨.hbm, 704, rfl⟩
abbrev main_call2_call0_v162 : Ref sig .tc := ⟨.hbm, 705, rfl⟩
abbrev main_call2_call0_v163 : Ref sig .tc := ⟨.hbm, 706, rfl⟩
abbrev main_call2_call0_c_42 : Ref sig .tc := ⟨.hbm, 707, rfl⟩
abbrev main_call2_call0_v164 : Ref sig .tc := ⟨.hbm, 708, rfl⟩
abbrev main_call2_call0_v165 : Ref sig .tc := ⟨.hbm, 709, rfl⟩
abbrev main_call2_call0_c_43 : Ref sig .tc := ⟨.hbm, 710, rfl⟩
abbrev main_call2_call0_v166 : Ref sig .tc := ⟨.hbm, 711, rfl⟩
abbrev main_call2_call0_v167 : Ref sig .tc := ⟨.hbm, 712, rfl⟩
abbrev main_call2_call0_v168 : Ref sig .tc := ⟨.hbm, 713, rfl⟩
abbrev main_call2_call0_v169 : Ref sig .tc := ⟨.hbm, 714, rfl⟩
abbrev main_call2_call0_v170 : Ref sig .tc := ⟨.hbm, 715, rfl⟩
abbrev main_call2_v11_0 : Ref sig .tc := ⟨.hbm, 716, rfl⟩
abbrev main_call2_call0_v172 : Ref sig .tc := ⟨.hbm, 717, rfl⟩
abbrev main_call2_call0_v173 : Ref sig .tc := ⟨.hbm, 718, rfl⟩
abbrev main_call2_call0_c_44 : Ref sig .tc := ⟨.hbm, 719, rfl⟩
abbrev main_call2_call0_v174 : Ref sig .tc := ⟨.hbm, 720, rfl⟩
abbrev main_call2_v11_1 : Ref sig .tc := ⟨.hbm, 721, rfl⟩
abbrev main_v9 : Ref sig .tc := ⟨.hbm, 722, rfl⟩
abbrev main_v10 : Ref sig .tc := ⟨.hbm, 723, rfl⟩
abbrev main_v13 : Ref sig .tc := ⟨.hbm, 724, rfl⟩
abbrev main_v12 : Ref sig .tc := ⟨.smem, 0, rfl⟩
abbrev main_v11 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_v12.idx, main_v11.idx], fun | 0 => main_v12.names | 1 => main_v11.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32_1 : BitVec 32 := 0#32
  let c48_i32 : BitVec 32 := 48#32
  let v18 : BitVec 32 := Scalar.addi c0_i32_1 c48_i32
  let c1_i32 : BitVec 32 := 1#32
  ⟨c0_i32_1, v18, c1_i32⟩
def k0_off1 (k0_t1 : Fin k0_t1_loop.trips) : Fin 2 → Nat :=
  let c0_206 : Index := 0#32
  let c0_i32_1 : BitVec 32 := 0#32
  let c1_i32 : BitVec 32 := 1#32
  let arg5 : BitVec 32 := Scf.iv c0_i32_1 c1_i32 k0_t1
  let c2048_i32_205 : BitVec 32 := 2048#32
  let v735 : BitVec 32 := Scalar.muli arg5 c2048_i32_205
  let v736 : Index := Scalar.indexCast v735
  ![0, v736.toNat]
@[reducible] def k0_t2_loop : Scf.Loop 32 :=
  let c0_i32_54 : BitVec 32 := 0#32
  let c48_i32_55 : BitVec 32 := 48#32
  let v248 : BitVec 32 := Scalar.addi c0_i32_54 c48_i32_55
  let c1_i32_56 : BitVec 32 := 1#32
  ⟨c0_i32_54, v248, c1_i32_56⟩
def k0_off2 (k0_t2 : Fin k0_t2_loop.trips) : Fin 2 → Nat :=
  let c0_206 : Index := 0#32
  let c0_i32_54 : BitVec 32 := 0#32
  let c1_i32_56 : BitVec 32 := 1#32
  let arg5 : BitVec 32 := Scf.iv c0_i32_54 c1_i32_56 k0_t2
  let c2048_i32_205 : BitVec 32 := 2048#32
  let v735 : BitVec 32 := Scalar.muli arg5 c2048_i32_205
  let v736 : Index := Scalar.indexCast v735
  ![0, v736.toNat]
@[reducible] def k0_t3_loop : Scf.Loop 32 :=
  let c0_i32_127 : BitVec 32 := 0#32
  let c48_i32_128 : BitVec 32 := 48#32
  let v481 : BitVec 32 := Scalar.addi c0_i32_127 c48_i32_128
  let c1_i32_129 : BitVec 32 := 1#32
  ⟨c0_i32_127, v481, c1_i32_129⟩
def k0_off3 (k0_t3 : Fin k0_t3_loop.trips) : Fin 2 → Nat :=
  let c0_206 : Index := 0#32
  let c0_i32_127 : BitVec 32 := 0#32
  let c1_i32_129 : BitVec 32 := 1#32
  let arg5 : BitVec 32 := Scf.iv c0_i32_127 c1_i32_129 k0_t3
  let c2048_i32_205 : BitVec 32 := 2048#32
  let v735 : BitVec 32 := Scalar.muli arg5 c2048_i32_205
  let v736 : Index := Scalar.indexCast v735
  ![0, v736.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S100000 : Shape := ⟨1, ![100000]⟩
abbrev S1x1 : Shape := ⟨2, ![1, 1]⟩
abbrev S1x1x1x1 : Shape := ⟨4, ![1, 1, 1, 1]⟩
abbrev S128x1x1x1 : Shape := ⟨4, ![128, 1, 1, 1]⟩
abbrev S128x1 : Shape := ⟨2, ![128, 1]⟩
abbrev S1x100000 : Shape := ⟨2, ![1, 100000]⟩
abbrev S1 : Shape := ⟨1, ![1]⟩
abbrev S2 : Shape := ⟨1, ![2]⟩
abbrev S128 : Shape := ⟨1, ![128]⟩
abbrev S128x2 : Shape := ⟨2, ![128, 2]⟩
abbrev S128x3 : Shape := ⟨2, ![128, 3]⟩
abbrev S128x4 : Shape := ⟨2, ![128, 4]⟩

abbrev nBuf : Space → Nat
  | .hbm => 1748
  | .vmem => 0
  | .smem => 0
  | _ => 0

abbrev hbmTy0_0 (i : Nat) : BufTy := match i % 128 with
  | 0 => ⟨S128x100000, .f32⟩
  | 1 => ⟨S_, .i32⟩
  | 2 => ⟨S100000, .i32⟩
  | 3 => ⟨S100000, .i32⟩
  | 4 => ⟨S100000, .i1⟩
  | 5 => ⟨S_, .f32⟩
  | 6 => ⟨S1x1, .f32⟩
  | 7 => ⟨S1x1x1x1, .f32⟩
  | 8 => ⟨S128x1x1x1, .f32⟩
  | 9 => ⟨S128x1, .f32⟩
  | 10 => ⟨S100000, .f32⟩
  | 11 => ⟨S1x100000, .f32⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S100000, .i1⟩
  | 23 => ⟨S100000, .f32⟩
  | 24 => ⟨S1x100000, .f32⟩
  | 25 => ⟨S128x100000, .f32⟩
  | 26 => ⟨S128x100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S1x100000, .f32⟩
  | 34 => ⟨S128x100000, .f32⟩
  | 35 => ⟨S128x100000, .f32⟩
  | 36 => ⟨S_, .f32⟩
  | 37 => ⟨S128, .f32⟩
  | 38 => ⟨S128x1, .f32⟩
  | 39 => ⟨S128x100000, .f32⟩
  | 40 => ⟨S128x100000, .f32⟩
  | 41 => ⟨S1x100000, .f32⟩
  | 42 => ⟨S128x100000, .f32⟩
  | 43 => ⟨S128x100000, .f32⟩
  | 44 => ⟨S128x100000, .f32⟩
  | 45 => ⟨S1x100000, .f32⟩
  | 46 => ⟨S128x100000, .f32⟩
  | 47 => ⟨S128x100000, .f32⟩
  | 48 => ⟨S_, .f32⟩
  | 49 => ⟨S128, .f32⟩
  | 50 => ⟨S128x1, .f32⟩
  | 51 => ⟨S_, .f32⟩
  | 52 => ⟨S128x1, .f32⟩
  | 53 => ⟨S128x1, .f32⟩
  | 54 => ⟨S128x100000, .f32⟩
  | 55 => ⟨S128x100000, .f32⟩
  | 56 => ⟨S_, .i32⟩
  | 57 => ⟨S_, .i32⟩
  | 58 => ⟨S_, .i32⟩
  | 59 => ⟨S1, .i32⟩
  | 60 => ⟨S_, .i32⟩
  | 61 => ⟨S_, .i32⟩
  | 62 => ⟨S1, .i32⟩
  | 63 => ⟨S2, .i32⟩
  | 64 => ⟨S1, .i32⟩
  | 65 => ⟨S_, .i32⟩
  | 66 => ⟨S1, .i32⟩
  | 67 => ⟨S_, .i32⟩
  | 68 => ⟨S1, .i32⟩
  | 69 => ⟨S1, .i32⟩
  | 70 => ⟨S_, .i32⟩
  | 71 => ⟨S_, .i32⟩
  | 72 => ⟨S_, .i32⟩
  | 73 => ⟨S1, .i32⟩
  | 74 => ⟨S1, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S128x100000, .f32⟩

abbrev hbmTy0_1 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S_, .i32⟩
  | 126 => ⟨S1, .i32⟩
  | 127 => ⟨S1, .i32⟩
  | _ => ⟨S128x100000, .f32⟩

abbrev hbmTy0_2 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S2, .i32⟩
  | 37 => ⟨S128x100000, .f32⟩
  | 38 => ⟨S_, .f32⟩
  | 39 => ⟨S_, .f32⟩
  | 40 => ⟨S_, .f32⟩
  | 41 => ⟨S_, .f32⟩
  | 42 => ⟨S1x1, .f32⟩
  | 43 => ⟨S1x1, .f32⟩
  | 44 => ⟨S1, .i32⟩
  | 45 => ⟨S_, .i32⟩
  | 46 => ⟨S1, .i32⟩
  | 47 => ⟨S_, .i32⟩
  | 48 => ⟨S128x100000, .i64⟩
  | 49 => ⟨S128x100000, .i64⟩
  | 50 => ⟨S_, .i64⟩
  | 51 => ⟨S128x100000, .i64⟩
  | 52 => ⟨S128x100000, .i64⟩
  | 53 => ⟨S_, .i64⟩
  | 54 => ⟨S128x100000, .i64⟩
  | 55 => ⟨S128x100000, .i64⟩
  | 56 => ⟨S128x100000, .i64⟩
  | 57 => ⟨S_, .i64⟩
  | 58 => ⟨S128x100000, .i64⟩
  | 59 => ⟨S128x100000, .i64⟩
  | 60 => ⟨S128x100000, .i32⟩
  | 61 => ⟨S128x100000, .i32⟩
  | 62 => ⟨S_, .i32⟩
  | 63 => ⟨S_, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_3 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_4 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S128x100000, .f32⟩
  | 36 => ⟨S_, .f32⟩
  | 37 => ⟨S128x100000, .f32⟩
  | 38 => ⟨S128x100000, .f32⟩
  | 39 => ⟨S1x1, .f32⟩
  | 40 => ⟨S128x100000, .f32⟩
  | 41 => ⟨S128x100000, .f32⟩
  | 42 => ⟨S128x100000, .f32⟩
  | 43 => ⟨S128x100000, .f32⟩
  | 44 => ⟨S128x100000, .f32⟩
  | 45 => ⟨S128x100000, .f32⟩
  | 46 => ⟨S_, .f32⟩
  | 47 => ⟨S128x100000, .f32⟩
  | 48 => ⟨S128x100000, .f32⟩
  | 49 => ⟨S_, .f32⟩
  | 50 => ⟨S128x100000, .f32⟩
  | 51 => ⟨S128x100000, .f32⟩
  | 52 => ⟨S_, .f32⟩
  | 53 => ⟨S128x100000, .f32⟩
  | 54 => ⟨S128x100000, .f32⟩
  | 55 => ⟨S128x100000, .f32⟩
  | 56 => ⟨S128x100000, .f32⟩
  | 57 => ⟨S128x100000, .f32⟩
  | 58 => ⟨S128x100000, .f32⟩
  | 59 => ⟨S128x100000, .f32⟩
  | 60 => ⟨S128x100000, .i32⟩
  | 61 => ⟨S_, .f32⟩
  | 62 => ⟨S_, .i32⟩
  | 63 => ⟨S128, .f32⟩
  | 64 => ⟨S128, .i32⟩
  | 65 => ⟨S128x1, .i32⟩
  | 66 => ⟨S1x100000, .i32⟩
  | 67 => ⟨S128x100000, .i32⟩
  | 68 => ⟨S128x100000, .i32⟩
  | 69 => ⟨S128x100000, .i1⟩
  | 70 => ⟨S128x100000, .f32⟩
  | 71 => ⟨S_, .f32⟩
  | 72 => ⟨S128x100000, .f32⟩
  | 73 => ⟨S128x100000, .f32⟩
  | 74 => ⟨S128x100000, .f32⟩
  | 75 => ⟨S_, .f32⟩
  | 76 => ⟨S128x100000, .f32⟩
  | 77 => ⟨S128x100000, .f32⟩
  | 78 => ⟨S128x100000, .f32⟩
  | 79 => ⟨S_, .f32⟩
  | 80 => ⟨S128x100000, .f32⟩
  | 81 => ⟨S128x100000, .i1⟩
  | 82 => ⟨S128x100000, .i1⟩
  | 83 => ⟨S1x100000, .i1⟩
  | 84 => ⟨S128x100000, .i1⟩
  | 85 => ⟨S128x100000, .i1⟩
  | 86 => ⟨S128x100000, .f32⟩
  | 87 => ⟨S128x100000, .f32⟩
  | 88 => ⟨S_, .f32⟩
  | 89 => ⟨S128, .f32⟩
  | 90 => ⟨S128x1, .f32⟩
  | 91 => ⟨S128x2, .f32⟩
  | 92 => ⟨S128x100000, .i1⟩
  | 93 => ⟨S128x100000, .f32⟩
  | 94 => ⟨S128x100000, .f32⟩
  | 95 => ⟨S_, .f32⟩
  | 96 => ⟨S128x100000, .f32⟩
  | 97 => ⟨S128x100000, .f32⟩
  | 98 => ⟨S_, .f32⟩
  | 99 => ⟨S128x100000, .f32⟩
  | 100 => ⟨S128x100000, .f32⟩
  | 101 => ⟨S128x100000, .f32⟩
  | 102 => ⟨S_, .f32⟩
  | 103 => ⟨S128, .f32⟩
  | 104 => ⟨S128x1, .f32⟩
  | 105 => ⟨S128x100000, .f32⟩
  | 106 => ⟨S128x100000, .f32⟩
  | 107 => ⟨S128x100000, .f32⟩
  | 108 => ⟨S128x100000, .f32⟩
  | 109 => ⟨S128x100000, .f32⟩
  | 110 => ⟨S_, .f32⟩
  | 111 => ⟨S128, .f32⟩
  | 112 => ⟨S128x1, .f32⟩
  | 113 => ⟨S_, .f32⟩
  | 114 => ⟨S128x1, .f32⟩
  | 115 => ⟨S128x1, .f32⟩
  | 116 => ⟨S128x100000, .f32⟩
  | 117 => ⟨S128x100000, .f32⟩
  | 118 => ⟨S_, .i32⟩
  | 119 => ⟨S_, .i32⟩
  | 120 => ⟨S_, .i32⟩
  | 121 => ⟨S1, .i32⟩
  | 122 => ⟨S_, .i32⟩
  | 123 => ⟨S_, .i32⟩
  | 124 => ⟨S1, .i32⟩
  | 125 => ⟨S2, .i32⟩
  | 126 => ⟨S1, .i32⟩
  | 127 => ⟨S_, .i32⟩
  | _ => ⟨S128x100000, .f32⟩

abbrev hbmTy0_5 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S_, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S128x100000, .f32⟩

abbrev hbmTy0_6 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S_, .i32⟩
  | 17 => ⟨S1, .i32⟩
  | 18 => ⟨S1, .i32⟩
  | 19 => ⟨S1, .i32⟩
  | 20 => ⟨S1, .i32⟩
  | 21 => ⟨S1, .i32⟩
  | 22 => ⟨S_, .i32⟩
  | 23 => ⟨S1, .i32⟩
  | 24 => ⟨S1, .i32⟩
  | 25 => ⟨S_, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S_, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S2, .i32⟩
  | 99 => ⟨S128x100000, .f32⟩
  | 100 => ⟨S_, .f32⟩
  | 101 => ⟨S_, .f32⟩
  | 102 => ⟨S_, .f32⟩
  | 103 => ⟨S_, .f32⟩
  | 104 => ⟨S1x1, .f32⟩
  | 105 => ⟨S1x1, .f32⟩
  | 106 => ⟨S1, .i32⟩
  | 107 => ⟨S_, .i32⟩
  | 108 => ⟨S1, .i32⟩
  | 109 => ⟨S_, .i32⟩
  | 110 => ⟨S128x100000, .i64⟩
  | 111 => ⟨S128x100000, .i64⟩
  | 112 => ⟨S_, .i64⟩
  | 113 => ⟨S128x100000, .i64⟩
  | 114 => ⟨S128x100000, .i64⟩
  | 115 => ⟨S_, .i64⟩
  | 116 => ⟨S128x100000, .i64⟩
  | 117 => ⟨S128x100000, .i64⟩
  | 118 => ⟨S128x100000, .i64⟩
  | 119 => ⟨S_, .i64⟩
  | 120 => ⟨S128x100000, .i64⟩
  | 121 => ⟨S128x100000, .i64⟩
  | 122 => ⟨S128x100000, .i32⟩
  | 123 => ⟨S128x100000, .i32⟩
  | 124 => ⟨S_, .i32⟩
  | 125 => ⟨S_, .i32⟩
  | 126 => ⟨S_, .i32⟩
  | 127 => ⟨S128x100000, .i32⟩
  | _ => ⟨S128x100000, .f32⟩

abbrev hbmTy0_7 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_8 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S128x100000, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .f32⟩
  | 98 => ⟨S_, .f32⟩
  | 99 => ⟨S128x100000, .f32⟩
  | 100 => ⟨S128x100000, .f32⟩
  | 101 => ⟨S1x1, .f32⟩
  | 102 => ⟨S128x100000, .f32⟩
  | 103 => ⟨S128x100000, .f32⟩
  | 104 => ⟨S128x100000, .f32⟩
  | 105 => ⟨S128x100000, .f32⟩
  | 106 => ⟨S128x100000, .f32⟩
  | 107 => ⟨S128x100000, .f32⟩
  | 108 => ⟨S_, .f32⟩
  | 109 => ⟨S128x100000, .f32⟩
  | 110 => ⟨S128x100000, .f32⟩
  | 111 => ⟨S_, .f32⟩
  | 112 => ⟨S128x100000, .f32⟩
  | 113 => ⟨S128x100000, .f32⟩
  | 114 => ⟨S_, .f32⟩
  | 115 => ⟨S128x100000, .f32⟩
  | 116 => ⟨S128x100000, .f32⟩
  | 117 => ⟨S128x100000, .f32⟩
  | 118 => ⟨S128x100000, .f32⟩
  | 119 => ⟨S128x100000, .f32⟩
  | 120 => ⟨S128x100000, .f32⟩
  | 121 => ⟨S128x100000, .f32⟩
  | 122 => ⟨S128x100000, .i32⟩
  | 123 => ⟨S_, .f32⟩
  | 124 => ⟨S_, .i32⟩
  | 125 => ⟨S128, .f32⟩
  | 126 => ⟨S128, .i32⟩
  | 127 => ⟨S128x1, .i32⟩
  | _ => ⟨S128x100000, .f32⟩

abbrev hbmTy0_9 (i : Nat) : BufTy := match i % 128 with
  | 0 => ⟨S1x100000, .i32⟩
  | 1 => ⟨S128x100000, .i32⟩
  | 2 => ⟨S128x100000, .i32⟩
  | 3 => ⟨S128x100000, .i1⟩
  | 4 => ⟨S128x100000, .f32⟩
  | 5 => ⟨S_, .f32⟩
  | 6 => ⟨S128x100000, .f32⟩
  | 7 => ⟨S128x100000, .f32⟩
  | 8 => ⟨S128x100000, .f32⟩
  | 9 => ⟨S_, .f32⟩
  | 10 => ⟨S128x100000, .f32⟩
  | 11 => ⟨S128x100000, .f32⟩
  | 12 => ⟨S128x100000, .f32⟩
  | 13 => ⟨S_, .f32⟩
  | 14 => ⟨S128x100000, .f32⟩
  | 15 => ⟨S128x100000, .i1⟩
  | 16 => ⟨S128x100000, .i1⟩
  | 17 => ⟨S128x100000, .i1⟩
  | 18 => ⟨S128x100000, .f32⟩
  | 19 => ⟨S128x100000, .f32⟩
  | 20 => ⟨S_, .f32⟩
  | 21 => ⟨S128, .f32⟩
  | 22 => ⟨S128x1, .f32⟩
  | 23 => ⟨S128x3, .f32⟩
  | 24 => ⟨S128x100000, .i1⟩
  | 25 => ⟨S128x100000, .f32⟩
  | 26 => ⟨S128x100000, .f32⟩
  | 27 => ⟨S_, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S128x100000, .f32⟩
  | 34 => ⟨S_, .f32⟩
  | 35 => ⟨S128, .f32⟩
  | 36 => ⟨S128x1, .f32⟩
  | 37 => ⟨S128x100000, .f32⟩
  | 38 => ⟨S128x100000, .f32⟩
  | 39 => ⟨S128x100000, .f32⟩
  | 40 => ⟨S128x100000, .f32⟩
  | 41 => ⟨S128x100000, .f32⟩
  | 42 => ⟨S_, .f32⟩
  | 43 => ⟨S128, .f32⟩
  | 44 => ⟨S128x1, .f32⟩
  | 45 => ⟨S_, .f32⟩
  | 46 => ⟨S128x1, .f32⟩
  | 47 => ⟨S128x1, .f32⟩
  | 48 => ⟨S128x100000, .f32⟩
  | 49 => ⟨S128x100000, .f32⟩
  | 50 => ⟨S_, .i32⟩
  | 51 => ⟨S_, .i32⟩
  | 52 => ⟨S_, .i32⟩
  | 53 => ⟨S1, .i32⟩
  | 54 => ⟨S_, .i32⟩
  | 55 => ⟨S_, .i32⟩
  | 56 => ⟨S1, .i32⟩
  | 57 => ⟨S2, .i32⟩
  | 58 => ⟨S1, .i32⟩
  | 59 => ⟨S_, .i32⟩
  | 60 => ⟨S1, .i32⟩
  | 61 => ⟨S_, .i32⟩
  | 62 => ⟨S1, .i32⟩
  | 63 => ⟨S1, .i32⟩
  | 64 => ⟨S_, .i32⟩
  | 65 => ⟨S_, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S1, .i32⟩
  | 107 => ⟨S1, .i32⟩
  | 108 => ⟨S1, .i32⟩
  | 109 => ⟨S1, .i32⟩
  | 110 => ⟨S1, .i32⟩
  | 111 => ⟨S_, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S128x100000, .f32⟩

abbrev hbmTy0_10 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S_, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S1, .i32⟩
  | 13 => ⟨S1, .i32⟩
  | 14 => ⟨S_, .i32⟩
  | 15 => ⟨S1, .i32⟩
  | 16 => ⟨S1, .i32⟩
  | 17 => ⟨S_, .i32⟩
  | 18 => ⟨S1, .i32⟩
  | 19 => ⟨S1, .i32⟩
  | 20 => ⟨S1, .i32⟩
  | 21 => ⟨S1, .i32⟩
  | 22 => ⟨S1, .i32⟩
  | 23 => ⟨S1, .i32⟩
  | 24 => ⟨S1, .i32⟩
  | 25 => ⟨S1, .i32⟩
  | 26 => ⟨S_, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S1, .i32⟩
  | 65 => ⟨S1, .i32⟩
  | 66 => ⟨S1, .i32⟩
  | 67 => ⟨S1, .i32⟩
  | 68 => ⟨S1, .i32⟩
  | 69 => ⟨S_, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S1, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S128x100000, .f32⟩

abbrev hbmTy0_11 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S1, .i32⟩
  | 24 => ⟨S1, .i32⟩
  | 25 => ⟨S1, .i32⟩
  | 26 => ⟨S1, .i32⟩
  | 27 => ⟨S_, .i32⟩
  | 28 => ⟨S1, .i32⟩
  | 29 => ⟨S1, .i32⟩
  | 30 => ⟨S2, .i32⟩
  | 31 => ⟨S128x100000, .f32⟩
  | 32 => ⟨S_, .f32⟩
  | 33 => ⟨S_, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S128x100000, .i64⟩
  | 43 => ⟨S128x100000, .i64⟩
  | 44 => ⟨S_, .i64⟩
  | 45 => ⟨S128x100000, .i64⟩
  | 46 => ⟨S128x100000, .i64⟩
  | 47 => ⟨S_, .i64⟩
  | 48 => ⟨S128x100000, .i64⟩
  | 49 => ⟨S128x100000, .i64⟩
  | 50 => ⟨S128x100000, .i64⟩
  | 51 => ⟨S_, .i64⟩
  | 52 => ⟨S128x100000, .i64⟩
  | 53 => ⟨S128x100000, .i64⟩
  | 54 => ⟨S128x100000, .i32⟩
  | 55 => ⟨S128x100000, .i32⟩
  | 56 => ⟨S_, .i32⟩
  | 57 => ⟨S_, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_12 (i : Nat) : BufTy := match i % 128 with
  | 0 => ⟨S_, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_13 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .f32⟩
  | 30 => ⟨S_, .f32⟩
  | 31 => ⟨S128x100000, .f32⟩
  | 32 => ⟨S128x100000, .f32⟩
  | 33 => ⟨S1x1, .f32⟩
  | 34 => ⟨S128x100000, .f32⟩
  | 35 => ⟨S128x100000, .f32⟩
  | 36 => ⟨S128x100000, .f32⟩
  | 37 => ⟨S128x100000, .f32⟩
  | 38 => ⟨S128x100000, .f32⟩
  | 39 => ⟨S128x100000, .f32⟩
  | 40 => ⟨S_, .f32⟩
  | 41 => ⟨S128x100000, .f32⟩
  | 42 => ⟨S128x100000, .f32⟩
  | 43 => ⟨S_, .f32⟩
  | 44 => ⟨S128x100000, .f32⟩
  | 45 => ⟨S128x100000, .f32⟩
  | 46 => ⟨S_, .f32⟩
  | 47 => ⟨S128x100000, .f32⟩
  | 48 => ⟨S128x100000, .f32⟩
  | 49 => ⟨S128x100000, .f32⟩
  | 50 => ⟨S128x100000, .f32⟩
  | 51 => ⟨S128x100000, .f32⟩
  | 52 => ⟨S128x100000, .f32⟩
  | 53 => ⟨S128x100000, .f32⟩
  | 54 => ⟨S128x100000, .i32⟩
  | 55 => ⟨S_, .f32⟩
  | 56 => ⟨S_, .i32⟩
  | 57 => ⟨S128, .f32⟩
  | 58 => ⟨S128, .i32⟩
  | 59 => ⟨S128x1, .i32⟩
  | 60 => ⟨S1x100000, .i32⟩
  | 61 => ⟨S128x100000, .i32⟩
  | 62 => ⟨S128x100000, .i32⟩
  | 63 => ⟨S128x100000, .i1⟩
  | 64 => ⟨S128x100000, .f32⟩
  | 65 => ⟨S_, .f32⟩
  | 66 => ⟨S128x100000, .f32⟩
  | 67 => ⟨S128x100000, .f32⟩
  | 68 => ⟨S128x100000, .f32⟩
  | 69 => ⟨S_, .f32⟩
  | 70 => ⟨S128x100000, .f32⟩
  | 71 => ⟨S128x100000, .f32⟩
  | 72 => ⟨S128x100000, .f32⟩
  | 73 => ⟨S_, .f32⟩
  | 74 => ⟨S128x100000, .f32⟩
  | 75 => ⟨S128x100000, .i1⟩
  | 76 => ⟨S128x100000, .i1⟩
  | 77 => ⟨S128x100000, .i1⟩
  | 78 => ⟨S128x100000, .f32⟩
  | 79 => ⟨S128x100000, .f32⟩
  | 80 => ⟨S_, .f32⟩
  | 81 => ⟨S128, .f32⟩
  | 82 => ⟨S128x1, .f32⟩
  | 83 => ⟨S128x4, .f32⟩
  | _ => ⟨S128x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_6 : Ref sig .tc := ⟨.hbm, 56, rfl⟩
abbrev main_call0_c : Ref sig .tc := ⟨.hbm, 57, rfl⟩
abbrev main_call0_v0 : Ref sig .tc := ⟨.hbm, 58, rfl⟩
abbrev main_call0_v1 : Ref sig .tc := ⟨.hbm, 59, rfl⟩
abbrev main_call0_c_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_call0_v0 : Ref sig .tc := ⟨.hbm, 70, rfl⟩
abbrev main_call0_call0_c : Ref sig .tc := ⟨.hbm, 71, rfl⟩
abbrev main_call0_call0_v1 : Ref sig .tc := ⟨.hbm, 72, rfl⟩
abbrev main_call0_call0_v2 : Ref sig .tc := ⟨.hbm, 73, rfl⟩
abbrev main_call0_call0_v3 : Ref sig .tc := ⟨.hbm, 74, rfl⟩
abbrev main_call0_call0_v4 : Ref sig .tc := ⟨.hbm, 75, rfl⟩
abbrev main_call0_call0_v5 : Ref sig .tc := ⟨.hbm, 76, rfl⟩
abbrev main_call0_call0_v6 : Ref sig .tc := ⟨.hbm, 77, rfl⟩
abbrev main_call0_call0_c_0 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_c_1 : Ref sig .tc := ⟨.hbm, 81, rfl⟩
abbrev main_call0_call0_v9 : Ref sig .tc := ⟨.hbm, 82, rfl⟩
abbrev main_call0_call0_v10 : Ref sig .tc := ⟨.hbm, 83, rfl⟩
abbrev main_call0_call0_v11 : Ref sig .tc := ⟨.hbm, 84, rfl⟩
abbrev main_call0_call0_v12 : Ref sig .tc := ⟨.hbm, 85, rfl⟩
abbrev main_call0_call0_v13 : Ref sig .tc := ⟨.hbm, 86, rfl⟩
abbrev main_call0_call0_c_2 : Ref sig .tc := ⟨.hbm, 87, rfl⟩
abbrev main_call0_call0_v14 : Ref sig .tc := ⟨.hbm, 88, rfl⟩
abbrev main_call0_call0_v15 : Ref sig .tc := ⟨.hbm, 89, rfl⟩
abbrev main_call0_call0_c_3 : Ref sig .tc := ⟨.hbm, 90, rfl⟩
abbrev main_call0_call0_v16 : Ref sig .tc := ⟨.hbm, 91, rfl⟩
abbrev main_call0_call0_v17 : Ref sig .tc := ⟨.hbm, 92, rfl⟩
abbrev main_call0_call0_v18 : Ref sig .tc := ⟨.hbm, 93, rfl⟩
abbrev main_call0_call0_v19 : Ref sig .tc := ⟨.hbm, 94, rfl⟩
abbrev main_call0_call0_v20 : Ref sig .tc := ⟨.hbm, 95, rfl⟩
abbrev main_call0_call0_c_4 : Ref sig .tc := ⟨.hbm, 96, rfl⟩
abbrev main_call0_call0_v21 : Ref sig .tc := ⟨.hbm, 97, rfl⟩
abbrev main_call0_call0_v22 : Ref sig .tc := ⟨.hbm, 98, rfl⟩
abbrev main_call0_call0_c_5 : Ref sig .tc := ⟨.hbm, 99, rfl⟩
abbrev main_call0_call0_v23 : Ref sig .tc := ⟨.hbm, 100, rfl⟩
abbrev main_call0_call0_v24 : Ref sig .tc := ⟨.hbm, 101, rfl⟩
abbrev main_call0_call0_v25 : Ref sig .tc := ⟨.hbm, 102, rfl⟩
abbrev main_call0_call0_v26 : Ref sig .tc := ⟨.hbm, 103, rfl⟩
abbrev main_call0_call0_v27 : Ref sig .tc := ⟨.hbm, 104, rfl⟩
abbrev main_call0_call0_c_6 : Ref sig .tc := ⟨.hbm, 105, rfl⟩
abbrev main_call0_call0_v28 : Ref sig .tc := ⟨.hbm, 106, rfl⟩
abbrev main_call0_call0_v29 : Ref sig .tc := ⟨.hbm, 107, rfl⟩
abbrev main_call0_call0_c_7 : Ref sig .tc := ⟨.hbm, 108, rfl⟩
abbrev main_call0_call0_v30 : Ref sig .tc := ⟨.hbm, 109, rfl⟩
abbrev main_call0_call0_v31 : Ref sig .tc := ⟨.hbm, 110, rfl⟩
abbrev main_call0_call0_v32 : Ref sig .tc := ⟨.hbm, 111, rfl⟩
abbrev main_call0_call0_v33 : Ref sig .tc := ⟨.hbm, 112, rfl⟩
abbrev main_call0_call0_v34 : Ref sig .tc := ⟨.hbm, 113, rfl⟩
abbrev main_call0_call0_v35 : Ref sig .tc := ⟨.hbm, 114, rfl⟩
abbrev main_call0_call0_v36 : Ref sig .tc := ⟨.hbm, 115, rfl⟩
abbrev main_call0_call0_v37 : Ref sig .tc := ⟨.hbm, 116, rfl⟩
abbrev main_call0_call0_c_8 : Ref sig .tc := ⟨.hbm, 117, rfl⟩
abbrev main_call0_call0_v38 : Ref sig .tc := ⟨.hbm, 118, rfl⟩
abbrev main_call0_call0_v39 : Ref sig .tc := ⟨.hbm, 119, rfl⟩
abbrev main_call0_call0_v40 : Ref sig .tc := ⟨.hbm, 120, rfl⟩
abbrev main_call0_call0_c_9 : Ref sig .tc := ⟨.hbm, 121, rfl⟩
abbrev main_call0_call0_v41 : Ref sig .tc := ⟨.hbm, 122, rfl⟩
abbrev main_call0_call0_v42 : Ref sig .tc := ⟨.hbm, 123, rfl⟩
abbrev main_call0_call0_c_10 : Ref sig .tc := ⟨.hbm, 124, rfl⟩
abbrev main_call0_call0_v43 : Ref sig .tc := ⟨.hbm, 125, rfl⟩
abbrev main_call0_call0_v44 : Ref sig .tc := ⟨.hbm, 126, rfl⟩
abbrev main_call0_call0_v45 : Ref sig .tc := ⟨.hbm, 127, rfl⟩
abbrev main_call0_call0_v46 : Ref sig .tc := ⟨.hbm, 128, rfl⟩
abbrev main_call0_call0_v47 : Ref sig .tc := ⟨.hbm, 129, rfl⟩
abbrev main_call0_call0_c_11 : Ref sig .tc := ⟨.hbm, 130, rfl⟩
abbrev main_call0_call0_v48 : Ref sig .tc := ⟨.hbm, 131, rfl⟩
abbrev main_call0_call0_v49 : Ref sig .tc := ⟨.hbm, 132, rfl⟩
abbrev main_call0_call0_c_12 : Ref sig .tc := ⟨.hbm, 133, rfl⟩
abbrev main_call0_call0_v50 : Ref sig .tc := ⟨.hbm, 134, rfl⟩
abbrev main_call0_call0_v51 : Ref sig .tc := ⟨.hbm, 135, rfl⟩
abbrev main_call0_call0_v52 : Ref sig .tc := ⟨.hbm, 136, rfl⟩
abbrev main_call0_call0_v53 : Ref sig .tc := ⟨.hbm, 137, rfl⟩
abbrev main_call0_call0_v54 : Ref sig .tc := ⟨.hbm, 138, rfl⟩
abbrev main_call0_call0_c_13 : Ref sig .tc := ⟨.hbm, 139, rfl⟩
abbrev main_call0_call0_v55 : Ref sig .tc := ⟨.hbm, 140, rfl⟩
abbrev main_call0_call0_v56 : Ref sig .tc := ⟨.hbm, 141, rfl⟩
abbrev main_call0_call0_c_14 : Ref sig .tc := ⟨.hbm, 142, rfl⟩
abbrev main_call0_call0_v57 : Ref sig .tc := ⟨.hbm, 143, rfl⟩
abbrev main_call0_call0_v58 : Ref sig .tc := ⟨.hbm, 144, rfl⟩
abbrev main_call0_call0_v59 : Ref sig .tc := ⟨.hbm, 145, rfl⟩
abbrev main_call0_call0_v60 : Ref sig .tc := ⟨.hbm, 146, rfl⟩
abbrev main_call0_call0_v61 : Ref sig .tc := ⟨.hbm, 147, rfl⟩
abbrev main_call0_call0_c_15 : Ref sig .tc := ⟨.hbm, 148, rfl⟩
abbrev main_call0_call0_v62 : Ref sig .tc := ⟨.hbm, 149, rfl⟩
abbrev main_call0_call0_v63 : Ref sig .tc := ⟨.hbm, 150, rfl⟩
abbrev main_call0_call0_c_16 : Ref sig .tc := ⟨.hbm, 151, rfl⟩
abbrev main_call0_call0_v64 : Ref sig .tc := ⟨.hbm, 152, rfl⟩
abbrev main_call0_call0_v65 : Ref sig .tc := ⟨.hbm, 153, rfl⟩
abbrev main_call0_call0_v66 : Ref sig .tc := ⟨.hbm, 154, rfl⟩
abbrev main_call0_call0_v67 : Ref sig .tc := ⟨.hbm, 155, rfl⟩
abbrev main_call0_call0_v68 : Ref sig .tc := ⟨.hbm, 156, rfl⟩
abbrev main_call0_call0_v69 : Ref sig .tc := ⟨.hbm, 157, rfl⟩
abbrev main_call0_call0_v70 : Ref sig .tc := ⟨.hbm, 158, rfl⟩
abbrev main_call0_call0_v71 : Ref sig .tc := ⟨.hbm, 159, rfl⟩
abbrev main_call0_call0_c_17 : Ref sig .tc := ⟨.hbm, 160, rfl⟩
abbrev main_call0_call0_v72 : Ref sig .tc := ⟨.hbm, 161, rfl⟩
abbrev main_call0_call0_v73 : Ref sig .tc := ⟨.hbm, 162, rfl⟩
abbrev main_call0_call0_v74 : Ref sig .tc := ⟨.hbm, 163, rfl⟩
abbrev main_call0_call0_c_18 : Ref sig .tc := ⟨.hbm, 164, rfl⟩
abbrev main_call0_call0_v75 : Ref sig .tc := ⟨.hbm, 165, rfl⟩
abbrev main_call0_call0_v76 : Ref sig .tc := ⟨.hbm, 166, rfl⟩
abbrev main_call0_call0_c_19 : Ref sig .tc := ⟨.hbm, 167, rfl⟩
abbrev main_call0_call0_v77 : Ref sig .tc := ⟨.hbm, 168, rfl⟩
abbrev main_call0_call0_v78 : Ref sig .tc := ⟨.hbm, 169, rfl⟩
abbrev main_call0_call0_v79 : Ref sig .tc := ⟨.hbm, 170, rfl⟩
abbrev main_call0_call0_v80 : Ref sig .tc := ⟨.hbm, 171, rfl⟩
abbrev main_call0_call0_v81 : Ref sig .tc := ⟨.hbm, 172, rfl⟩
abbrev main_call0_call0_c_20 : Ref sig .tc := ⟨.hbm, 173, rfl⟩
abbrev main_call0_call0_v82 : Ref sig .tc := ⟨.hbm, 174, rfl⟩
abbrev main_call0_call0_v83 : Ref sig .tc := ⟨.hbm, 175, rfl⟩
abbrev main_call0_call0_c_21 : Ref sig .tc := ⟨.hbm, 176, rfl⟩
abbrev main_call0_call0_v84 : Ref sig .tc := ⟨.hbm, 177, rfl⟩
abbrev main_call0_call0_v85 : Ref sig .tc := ⟨.hbm, 178, rfl⟩
abbrev main_call0_call0_v86 : Ref sig .tc := ⟨.hbm, 179, rfl⟩
abbrev main_call0_call0_v87 : Ref sig .tc := ⟨.hbm, 180, rfl⟩
abbrev main_call0_call0_v88 : Ref sig .tc := ⟨.hbm, 181, rfl⟩
abbrev main_call0_call0_c_22 : Ref sig .tc := ⟨.hbm, 182, rfl⟩
abbrev main_call0_call0_v89 : Ref sig .tc := ⟨.hbm, 183, rfl⟩
abbrev main_call0_call0_v90 : Ref sig .tc := ⟨.hbm, 184, rfl⟩
abbrev main_call0_call0_c_23 : Ref sig .tc := ⟨.hbm, 185, rfl⟩
abbrev main_call0_call0_v91 : Ref sig .tc := ⟨.hbm, 186, rfl⟩
abbrev main_call0_call0_v92 : Ref sig .tc := ⟨.hbm, 187, rfl⟩
abbrev main_call0_call0_v93 : Ref sig .tc := ⟨.hbm, 188, rfl⟩
abbrev main_call0_call0_v94 : Ref sig .tc := ⟨.hbm, 189, rfl⟩
abbrev main_call0_call0_v95 : Ref sig .tc := ⟨.hbm, 190, rfl⟩
abbrev main_call0_call0_c_24 : Ref sig .tc := ⟨.hbm, 191, rfl⟩
abbrev main_call0_call0_v96 : Ref sig .tc := ⟨.hbm, 192, rfl⟩
abbrev main_call0_call0_v97 : Ref sig .tc := ⟨.hbm, 193, rfl⟩
abbrev main_call0_call0_c_25 : Ref sig .tc := ⟨.hbm, 194, rfl⟩
abbrev main_call0_call0_v98 : Ref sig .tc := ⟨.hbm, 195, rfl⟩
abbrev main_call0_call0_v99 : Ref sig .tc := ⟨.hbm, 196, rfl⟩
abbrev main_call0_call0_v100 : Ref sig .tc := ⟨.hbm, 197, rfl⟩
abbrev main_call0_call0_v101 : Ref sig .tc := ⟨.hbm, 198, rfl⟩
abbrev main_call0_call0_v102 : Ref sig .tc := ⟨.hbm, 199, rfl⟩
abbrev main_call0_call0_v103 : Ref sig .tc := ⟨.hbm, 200, rfl⟩
abbrev main_call0_call0_v104 : Ref sig .tc := ⟨.hbm, 201, rfl⟩
abbrev main_call0_call0_v105 : Ref sig .tc := ⟨.hbm, 202, rfl⟩
abbrev main_call0_call0_c_26 : Ref sig .tc := ⟨.hbm, 203, rfl⟩
abbrev main_call0_call0_v106 : Ref sig .tc := ⟨.hbm, 204, rfl⟩
abbrev main_call0_call0_v107 : Ref sig .tc := ⟨.hbm, 205, rfl⟩
abbrev main_call0_call0_v108 : Ref sig .tc := ⟨.hbm, 206, rfl⟩
abbrev main_call0_call0_c_27 : Ref sig .tc := ⟨.hbm, 207, rfl⟩
abbrev main_call0_call0_v109 : Ref sig .tc := ⟨.hbm, 208, rfl⟩
abbrev main_call0_call0_v110 : Ref sig .tc := ⟨.hbm, 209, rfl⟩
abbrev main_call0_call0_c_28 : Ref sig .tc := ⟨.hbm, 210, rfl⟩
abbrev main_call0_call0_v111 : Ref sig .tc := ⟨.hbm, 211, rfl⟩
abbrev main_call0_call0_v112 : Ref sig .tc := ⟨.hbm, 212, rfl⟩
abbrev main_call0_call0_v113 : Ref sig .tc := ⟨.hbm, 213, rfl⟩
abbrev main_call0_call0_v114 : Ref sig .tc := ⟨.hbm, 214, rfl⟩
abbrev main_call0_call0_v115 : Ref sig .tc := ⟨.hbm, 215, rfl⟩
abbrev main_call0_call0_c_29 : Ref sig .tc := ⟨.hbm, 216, rfl⟩
abbrev main_call0_call0_v116 : Ref sig .tc := ⟨.hbm, 217, rfl⟩
abbrev main_call0_call0_v117 : Ref sig .tc := ⟨.hbm, 218, rfl⟩
abbrev main_call0_call0_c_30 : Ref sig .tc := ⟨.hbm, 219, rfl⟩
abbrev main_call0_call0_v118 : Ref sig .tc := ⟨.hbm, 220, rfl⟩
abbrev main_call0_call0_v119 : Ref sig .tc := ⟨.hbm, 221, rfl⟩
abbrev main_call0_call0_v120 : Ref sig .tc := ⟨.hbm, 222, rfl⟩
abbrev main_call0_call0_v121 : Ref sig .tc := ⟨.hbm, 223, rfl⟩
abbrev main_call0_call0_v122 : Ref sig .tc := ⟨.hbm, 224, rfl⟩
abbrev main_call0_call0_c_31 : Ref sig .tc := ⟨.hbm, 225, rfl⟩
abbrev main_call0_call0_v123 : Ref sig .tc := ⟨.hbm, 226, rfl⟩
abbrev main_call0_call0_v124 : Ref sig .tc := ⟨.hbm, 227, rfl⟩
abbrev main_call0_call0_c_32 : Ref sig .tc := ⟨.hbm, 228, rfl⟩
abbrev main_call0_call0_v125 : Ref sig .tc := ⟨.hbm, 229, rfl⟩
abbrev main_call0_call0_v126 : Ref sig .tc := ⟨.hbm, 230, rfl⟩
abbrev main_call0_call0_v127 : Ref sig .tc := ⟨.hbm, 231, rfl⟩
abbrev main_call0_call0_v128 : Ref sig .tc := ⟨.hbm, 232, rfl⟩
abbrev main_call0_call0_v129 : Ref sig .tc := ⟨.hbm, 233, rfl⟩
abbrev main_call0_call0_c_33 : Ref sig .tc := ⟨.hbm, 234, rfl⟩
abbrev main_call0_call0_v130 : Ref sig .tc := ⟨.hbm, 235, rfl⟩
abbrev main_call0_call0_v131 : Ref sig .tc := ⟨.hbm, 236, rfl⟩
abbrev main_call0_call0_c_34 : Ref sig .tc := ⟨.hbm, 237, rfl⟩
abbrev main_call0_call0_v132 : Ref sig .tc := ⟨.hbm, 238, rfl⟩
abbrev main_call0_call0_v133 : Ref sig .tc := ⟨.hbm, 239, rfl⟩
abbrev main_call0_call0_v134 : Ref sig .tc := ⟨.hbm, 240, rfl⟩
abbrev main_call0_call0_v135 : Ref sig .tc := ⟨.hbm, 241, rfl⟩
abbrev main_call0_call0_v136 : Ref sig .tc := ⟨.hbm, 242, rfl⟩
abbrev main_call0_call0_v137 : Ref sig .tc := ⟨.hbm, 243, rfl⟩
abbrev main_call0_call0_v138 : Ref sig .tc := ⟨.hbm, 244, rfl⟩
abbrev main_call0_call0_v139 : Ref sig .tc := ⟨.hbm, 245, rfl⟩
abbrev main_call0_call0_c_35 : Ref sig .tc := ⟨.hbm, 246, rfl⟩
abbrev main_call0_call0_v140 : Ref sig .tc := ⟨.hbm, 247, rfl⟩
abbrev main_call0_call0_v141 : Ref sig .tc := ⟨.hbm, 248, rfl⟩
abbrev main_call0_call0_v142 : Ref sig .tc := ⟨.hbm, 249, rfl⟩
abbrev main_call0_call0_c_36 : Ref sig .tc := ⟨.hbm, 250, rfl⟩
abbrev main_call0_call0_v143 : Ref sig .tc := ⟨.hbm, 251, rfl⟩
abbrev main_call0_call0_v144 : Ref sig .tc := ⟨.hbm, 252, rfl⟩
abbrev main_call0_call0_c_37 : Ref sig .tc := ⟨.hbm, 253, rfl⟩
abbrev main_call0_call0_v145 : Ref sig .tc := ⟨.hbm, 254, rfl⟩
abbrev main_call0_call0_v146 : Ref sig .tc := ⟨.hbm, 255, rfl⟩
abbrev main_call0_call0_v147 : Ref sig .tc := ⟨.hbm, 256, rfl⟩
abbrev main_call0_call0_v148 : Ref sig .tc := ⟨.hbm, 257, rfl⟩
abbrev main_call0_call0_v149 : Ref sig .tc := ⟨.hbm, 258, rfl⟩
abbrev main_call0_call0_c_38 : Ref sig .tc := ⟨.hbm, 259, rfl⟩
abbrev main_call0_call0_v150 : Ref sig .tc := ⟨.hbm, 260, rfl⟩
abbrev main_call0_call0_v151 : Ref sig .tc := ⟨.hbm, 261, rfl⟩
abbrev main_call0_call0_c_39 : Ref sig .tc := ⟨.hbm, 262, rfl⟩
abbrev main_call0_call0_v152 : Ref sig .tc := ⟨.hbm, 263, rfl⟩
abbrev main_call0_call0_v153 : Ref sig .tc := ⟨.hbm, 264, rfl⟩
abbrev main_call0_call0_v154 : Ref sig .tc := ⟨.hbm, 265, rfl⟩
abbrev main_call0_call0_v155 : Ref sig .tc := ⟨.hbm, 266, rfl⟩
abbrev main_call0_call0_v156 : Ref sig .tc := ⟨.hbm, 267, rfl⟩
abbrev main_call0_call0_c_40 : Ref sig .tc := ⟨.hbm, 268, rfl⟩
abbrev main_call0_call0_v157 : Ref sig .tc := ⟨.hbm, 269, rfl⟩
abbrev main_call0_call0_v158 : Ref sig .tc := ⟨.hbm, 270, rfl⟩
abbrev main_call0_call0_c_41 : Ref sig .tc := ⟨.hbm, 271, rfl⟩
abbrev main_call0_call0_v159 : Ref sig .tc := ⟨.hbm, 272, rfl⟩
abbrev main_call0_call0_v160 : Ref sig .tc := ⟨.hbm, 273, rfl⟩
abbrev main_call0_call0_v161 : Ref sig .tc := ⟨.hbm, 274, rfl⟩
abbrev main_call0_call0_v162 : Ref sig .tc := ⟨.hbm, 275, rfl⟩
abbrev main_call0_call0_v163 : Ref sig .tc := ⟨.hbm, 276, rfl⟩
abbrev main_call0_call0_c_42 : Ref sig .tc := ⟨.hbm, 277, rfl⟩
abbrev main_call0_call0_v164 : Ref sig .tc := ⟨.hbm, 278, rfl⟩
abbrev main_call0_call0_v165 : Ref sig .tc := ⟨.hbm, 279, rfl⟩
abbrev main_call0_call0_c_43 : Ref sig .tc := ⟨.hbm, 280, rfl⟩
abbrev main_call0_call0_v166 : Ref sig .tc := ⟨.hbm, 281, rfl⟩
abbrev main_call0_call0_v167 : Ref sig .tc := ⟨.hbm, 282, rfl⟩
abbrev main_call0_call0_v168 : Ref sig .tc := ⟨.hbm, 283, rfl⟩
abbrev main_call0_call0_v169 : Ref sig .tc := ⟨.hbm, 284, rfl⟩
abbrev main_call0_call0_v170 : Ref sig .tc := ⟨.hbm, 285, rfl⟩
abbrev main_call0_v11_0 : Ref sig .tc := ⟨.hbm, 286, rfl⟩
abbrev main_call0_call0_v172 : Ref sig .tc := ⟨.hbm, 287, rfl⟩
abbrev main_call0_call0_v173 : Ref sig .tc := ⟨.hbm, 288, rfl⟩
abbrev main_call0_call0_c_44 : Ref sig .tc := ⟨.hbm, 289, rfl⟩
abbrev main_call0_call0_v174 : Ref sig .tc := ⟨.hbm, 290, rfl⟩
abbrev main_call0_v11_1 : Ref sig .tc := ⟨.hbm, 291, rfl⟩
abbrev main_v46 : Ref sig .tc := ⟨.hbm, 292, rfl⟩
abbrev main_v47 : Ref sig .tc := ⟨.hbm, 293, rfl⟩
abbrev main_cst_7 : Ref sig .tc := ⟨.hbm, 294, rfl⟩
abbrev main_cst_8 : Ref sig .tc := ⟨.hbm, 295, rfl⟩
abbrev main_call1_v0 : Ref sig .tc := ⟨.hbm, 296, rfl⟩
abbrev main_call1_v1 : Ref sig .tc := ⟨.hbm, 297, rfl⟩
abbrev main_call1_v2 : Ref sig .tc := ⟨.hbm, 298, rfl⟩
abbrev main_call1_v3 : Ref sig .tc := ⟨.hbm, 299, rfl⟩
abbrev main_call1_v4 : Ref sig .tc := ⟨.hbm, 300, rfl⟩
abbrev main_call1_v5 : Ref sig .tc := ⟨.hbm, 301, rfl⟩
abbrev main_call1_v6 : Ref sig .tc := ⟨.hbm, 302, rfl⟩
abbrev main_call1_v7 : Ref sig .tc := ⟨.hbm, 303, rfl⟩
abbrev main_call1_v8 : Ref sig .tc := ⟨.hbm, 304, rfl⟩
abbrev main_call1_v9 : Ref sig .tc := ⟨.hbm, 305, rfl⟩
abbrev main_call1_c : Ref sig .tc := ⟨.hbm, 306, rfl⟩
abbrev main_call1_v10 : Ref sig .tc := ⟨.hbm, 307, rfl⟩
abbrev main_call1_v11 : Ref sig .tc := ⟨.hbm, 308, rfl⟩
abbrev main_call1_c_0 : Ref sig .tc := ⟨.hbm, 309, rfl⟩
abbrev main_call1_v12 : Ref sig .tc := ⟨.hbm, 310, rfl⟩
abbrev main_call1_v13 : Ref sig .tc := ⟨.hbm, 311, rfl⟩
abbrev main_call1_v14 : Ref sig .tc := ⟨.hbm, 312, rfl⟩
abbrev main_call1_c_1 : Ref sig .tc := ⟨.hbm, 313, rfl⟩
abbrev main_call1_v15 : Ref sig .tc := ⟨.hbm, 314, rfl⟩
abbrev main_call1_v16 : Ref sig .tc := ⟨.hbm, 315, rfl⟩
abbrev main_call1_v17 : Ref sig .tc := ⟨.hbm, 316, rfl⟩
abbrev main_call1_v18 : Ref sig .tc := ⟨.hbm, 317, rfl⟩
abbrev main_call1_call0_v0 : Ref sig .tc := ⟨.hbm, 318, rfl⟩
abbrev main_call1_call0_c : Ref sig .tc := ⟨.hbm, 319, rfl⟩
abbrev main_call1_call0_v1 : Ref sig .tc := ⟨.hbm, 320, rfl⟩
abbrev main_call1_call0_v2 : Ref sig .tc := ⟨.hbm, 321, rfl⟩
abbrev main_call1_call0_v3 : Ref sig .tc := ⟨.hbm, 322, rfl⟩
abbrev main_call1_call0_v4 : Ref sig .tc := ⟨.hbm, 323, rfl⟩
abbrev main_call1_call0_v5 : Ref sig .tc := ⟨.hbm, 324, rfl⟩
abbrev main_call1_call0_v6 : Ref sig .tc := ⟨.hbm, 325, rfl⟩
abbrev main_call1_call0_c_0 : Ref sig .tc := ⟨.hbm, 326, rfl⟩
abbrev main_call1_call0_v7 : Ref sig .tc := ⟨.hbm, 327, rfl⟩
abbrev main_call1_call0_v8 : Ref sig .tc := ⟨.hbm, 328, rfl⟩
abbrev main_call1_call0_c_1 : Ref sig .tc := ⟨.hbm, 329, rfl⟩
abbrev main_call1_call0_v9 : Ref sig .tc := ⟨.hbm, 330, rfl⟩
abbrev main_call1_call0_v10 : Ref sig .tc := ⟨.hbm, 331, rfl⟩
abbrev main_call1_call0_v11 : Ref sig .tc := ⟨.hbm, 332, rfl⟩
abbrev main_call1_call0_v12 : Ref sig .tc := ⟨.hbm, 333, rfl⟩
abbrev main_call1_call0_v13 : Ref sig .tc := ⟨.hbm, 334, rfl⟩
abbrev main_call1_call0_c_2 : Ref sig .tc := ⟨.hbm, 335, rfl⟩
abbrev main_call1_call0_v14 : Ref sig .tc := ⟨.hbm, 336, rfl⟩
abbrev main_call1_call0_v15 : Ref sig .tc := ⟨.hbm, 337, rfl⟩
abbrev main_call1_call0_c_3 : Ref sig .tc := ⟨.hbm, 338, rfl⟩
abbrev main_call1_call0_v16 : Ref sig .tc := ⟨.hbm, 339, rfl⟩
abbrev main_call1_call0_v17 : Ref sig .tc := ⟨.hbm, 340, rfl⟩
abbrev main_call1_call0_v18 : Ref sig .tc := ⟨.hbm, 341, rfl⟩
abbrev main_call1_call0_v19 : Ref sig .tc := ⟨.hbm, 342, rfl⟩
abbrev main_call1_call0_v20 : Ref sig .tc := ⟨.hbm, 343, rfl⟩
abbrev main_call1_call0_c_4 : Ref sig .tc := ⟨.hbm, 344, rfl⟩
abbrev main_call1_call0_v21 : Ref sig .tc := ⟨.hbm, 345, rfl⟩
abbrev main_call1_call0_v22 : Ref sig .tc := ⟨.hbm, 346, rfl⟩
abbrev main_call1_call0_c_5 : Ref sig .tc := ⟨.hbm, 347, rfl⟩
abbrev main_call1_call0_v23 : Ref sig .tc := ⟨.hbm, 348, rfl⟩
abbrev main_call1_call0_v24 : Ref sig .tc := ⟨.hbm, 349, rfl⟩
abbrev main_call1_call0_v25 : Ref sig .tc := ⟨.hbm, 350, rfl⟩
abbrev main_call1_call0_v26 : Ref sig .tc := ⟨.hbm, 351, rfl⟩
abbrev main_call1_call0_v27 : Ref sig .tc := ⟨.hbm, 352, rfl⟩
abbrev main_call1_call0_c_6 : Ref sig .tc := ⟨.hbm, 353, rfl⟩
abbrev main_call1_call0_v28 : Ref sig .tc := ⟨.hbm, 354, rfl⟩
abbrev main_call1_call0_v29 : Ref sig .tc := ⟨.hbm, 355, rfl⟩
abbrev main_call1_call0_c_7 : Ref sig .tc := ⟨.hbm, 356, rfl⟩
abbrev main_call1_call0_v30 : Ref sig .tc := ⟨.hbm, 357, rfl⟩
abbrev main_call1_call0_v31 : Ref sig .tc := ⟨.hbm, 358, rfl⟩
abbrev main_call1_call0_v32 : Ref sig .tc := ⟨.hbm, 359, rfl⟩
abbrev main_call1_call0_v33 : Ref sig .tc := ⟨.hbm, 360, rfl⟩
abbrev main_call1_call0_v34 : Ref sig .tc := ⟨.hbm, 361, rfl⟩
abbrev main_call1_call0_v35 : Ref sig .tc := ⟨.hbm, 362, rfl⟩
abbrev main_call1_call0_v36 : Ref sig .tc := ⟨.hbm, 363, rfl⟩
abbrev main_call1_call0_v37 : Ref sig .tc := ⟨.hbm, 364, rfl⟩
abbrev main_call1_call0_c_8 : Ref sig .tc := ⟨.hbm, 365, rfl⟩
abbrev main_call1_call0_v38 : Ref sig .tc := ⟨.hbm, 366, rfl⟩
abbrev main_call1_call0_v39 : Ref sig .tc := ⟨.hbm, 367, rfl⟩
abbrev main_call1_call0_v40 : Ref sig .tc := ⟨.hbm, 368, rfl⟩
abbrev main_call1_call0_c_9 : Ref sig .tc := ⟨.hbm, 369, rfl⟩
abbrev main_call1_call0_v41 : Ref sig .tc := ⟨.hbm, 370, rfl⟩
abbrev main_call1_call0_v42 : Ref sig .tc := ⟨.hbm, 371, rfl⟩
abbrev main_call1_call0_c_10 : Ref sig .tc := ⟨.hbm, 372, rfl⟩
abbrev main_call1_call0_v43 : Ref sig .tc := ⟨.hbm, 373, rfl⟩
abbrev main_call1_call0_v44 : Ref sig .tc := ⟨.hbm, 374, rfl⟩
abbrev main_call1_call0_v45 : Ref sig .tc := ⟨.hbm, 375, rfl⟩
abbrev main_call1_call0_v46 : Ref sig .tc := ⟨.hbm, 376, rfl⟩
abbrev main_call1_call0_v47 : Ref sig .tc := ⟨.hbm, 377, rfl⟩
abbrev main_call1_call0_c_11 : Ref sig .tc := ⟨.hbm, 378, rfl⟩
abbrev main_call1_call0_v48 : Ref sig .tc := ⟨.hbm, 379, rfl⟩
abbrev main_call1_call0_v49 : Ref sig .tc := ⟨.hbm, 380, rfl⟩
abbrev main_call1_call0_c_12 : Ref sig .tc := ⟨.hbm, 381, rfl⟩
abbrev main_call1_call0_v50 : Ref sig .tc := ⟨.hbm, 382, rfl⟩
abbrev main_call1_call0_v51 : Ref sig .tc := ⟨.hbm, 383, rfl⟩
abbrev main_call1_call0_v52 : Ref sig .tc := ⟨.hbm, 384, rfl⟩
abbrev main_call1_call0_v53 : Ref sig .tc := ⟨.hbm, 385, rfl⟩
abbrev main_call1_call0_v54 : Ref sig .tc := ⟨.hbm, 386, rfl⟩
abbrev main_call1_call0_c_13 : Ref sig .tc := ⟨.hbm, 387, rfl⟩
abbrev main_call1_call0_v55 : Ref sig .tc := ⟨.hbm, 388, rfl⟩
abbrev main_call1_call0_v56 : Ref sig .tc := ⟨.hbm, 389, rfl⟩
abbrev main_call1_call0_c_14 : Ref sig .tc := ⟨.hbm, 390, rfl⟩
abbrev main_call1_call0_v57 : Ref sig .tc := ⟨.hbm, 391, rfl⟩
abbrev main_call1_call0_v58 : Ref sig .tc := ⟨.hbm, 392, rfl⟩
abbrev main_call1_call0_v59 : Ref sig .tc := ⟨.hbm, 393, rfl⟩
abbrev main_call1_call0_v60 : Ref sig .tc := ⟨.hbm, 394, rfl⟩
abbrev main_call1_call0_v61 : Ref sig .tc := ⟨.hbm, 395, rfl⟩
abbrev main_call1_call0_c_15 : Ref sig .tc := ⟨.hbm, 396, rfl⟩
abbrev main_call1_call0_v62 : Ref sig .tc := ⟨.hbm, 397, rfl⟩
abbrev main_call1_call0_v63 : Ref sig .tc := ⟨.hbm, 398, rfl⟩
abbrev main_call1_call0_c_16 : Ref sig .tc := ⟨.hbm, 399, rfl⟩
abbrev main_call1_call0_v64 : Ref sig .tc := ⟨.hbm, 400, rfl⟩
abbrev main_call1_call0_v65 : Ref sig .tc := ⟨.hbm, 401, rfl⟩
abbrev main_call1_call0_v66 : Ref sig .tc := ⟨.hbm, 402, rfl⟩
abbrev main_call1_call0_v67 : Ref sig .tc := ⟨.hbm, 403, rfl⟩
abbrev main_call1_call0_v68 : Ref sig .tc := ⟨.hbm, 404, rfl⟩
abbrev main_call1_call0_v69 : Ref sig .tc := ⟨.hbm, 405, rfl⟩
abbrev main_call1_call0_v70 : Ref sig .tc := ⟨.hbm, 406, rfl⟩
abbrev main_call1_call0_v71 : Ref sig .tc := ⟨.hbm, 407, rfl⟩
abbrev main_call1_call0_c_17 : Ref sig .tc := ⟨.hbm, 408, rfl⟩
abbrev main_call1_call0_v72 : Ref sig .tc := ⟨.hbm, 409, rfl⟩
abbrev main_call1_call0_v73 : Ref sig .tc := ⟨.hbm, 410, rfl⟩
abbrev main_call1_call0_v74 : Ref sig .tc := ⟨.hbm, 411, rfl⟩
abbrev main_call1_call0_c_18 : Ref sig .tc := ⟨.hbm, 412, rfl⟩
abbrev main_call1_call0_v75 : Ref sig .tc := ⟨.hbm, 413, rfl⟩
abbrev main_call1_call0_v76 : Ref sig .tc := ⟨.hbm, 414, rfl⟩
abbrev main_call1_call0_c_19 : Ref sig .tc := ⟨.hbm, 415, rfl⟩
abbrev main_call1_call0_v77 : Ref sig .tc := ⟨.hbm, 416, rfl⟩
abbrev main_call1_call0_v78 : Ref sig .tc := ⟨.hbm, 417, rfl⟩
abbrev main_call1_call0_v79 : Ref sig .tc := ⟨.hbm, 418, rfl⟩
abbrev main_call1_call0_v80 : Ref sig .tc := ⟨.hbm, 419, rfl⟩
abbrev main_call1_call0_v81 : Ref sig .tc := ⟨.hbm, 420, rfl⟩
abbrev main_call1_call0_c_20 : Ref sig .tc := ⟨.hbm, 421, rfl⟩
abbrev main_call1_call0_v82 : Ref sig .tc := ⟨.hbm, 422, rfl⟩
abbrev main_call1_call0_v83 : Ref sig .tc := ⟨.hbm, 423, rfl⟩
abbrev main_call1_call0_c_21 : Ref sig .tc := ⟨.hbm, 424, rfl⟩
abbrev main_call1_call0_v84 : Ref sig .tc := ⟨.hbm, 425, rfl⟩
abbrev main_call1_call0_v85 : Ref sig .tc := ⟨.hbm, 426, rfl⟩
abbrev main_call1_call0_v86 : Ref sig .tc := ⟨.hbm, 427, rfl⟩
abbrev main_call1_call0_v87 : Ref sig .tc := ⟨.hbm, 428, rfl⟩
abbrev main_call1_call0_v88 : Ref sig .tc := ⟨.hbm, 429, rfl⟩
abbrev main_call1_call0_c_22 : Ref sig .tc := ⟨.hbm, 430, rfl⟩
abbrev main_call1_call0_v89 : Ref sig .tc := ⟨.hbm, 431, rfl⟩
abbrev main_call1_call0_v90 : Ref sig .tc := ⟨.hbm, 432, rfl⟩
abbrev main_call1_call0_c_23 : Ref sig .tc := ⟨.hbm, 433, rfl⟩
abbrev main_call1_call0_v91 : Ref sig .tc := ⟨.hbm, 434, rfl⟩
abbrev main_call1_call0_v92 : Ref sig .tc := ⟨.hbm, 435, rfl⟩
abbrev main_call1_call0_v93 : Ref sig .tc := ⟨.hbm, 436, rfl⟩
abbrev main_call1_call0_v94 : Ref sig .tc := ⟨.hbm, 437, rfl⟩
abbrev main_call1_call0_v95 : Ref sig .tc := ⟨.hbm, 438, rfl⟩
abbrev main_call1_call0_c_24 : Ref sig .tc := ⟨.hbm, 439, rfl⟩
abbrev main_call1_call0_v96 : Ref sig .tc := ⟨.hbm, 440, rfl⟩
abbrev main_call1_call0_v97 : Ref sig .tc := ⟨.hbm, 441, rfl⟩
abbrev main_call1_call0_c_25 : Ref sig .tc := ⟨.hbm, 442, rfl⟩
abbrev main_call1_call0_v98 : Ref sig .tc := ⟨.hbm, 443, rfl⟩
abbrev main_call1_call0_v99 : Ref sig .tc := ⟨.hbm, 444, rfl⟩
abbrev main_call1_call0_v100 : Ref sig .tc := ⟨.hbm, 445, rfl⟩
abbrev main_call1_call0_v101 : Ref sig .tc := ⟨.hbm, 446, rfl⟩
abbrev main_call1_call0_v102 : Ref sig .tc := ⟨.hbm, 447, rfl⟩
abbrev main_call1_call0_v103 : Ref sig .tc := ⟨.hbm, 448, rfl⟩
abbrev main_call1_call0_v104 : Ref sig .tc := ⟨.hbm, 449, rfl⟩
abbrev main_call1_call0_v105 : Ref sig .tc := ⟨.hbm, 450, rfl⟩
abbrev main_call1_call0_c_26 : Ref sig .tc := ⟨.hbm, 451, rfl⟩
abbrev main_call1_call0_v106 : Ref sig .tc := ⟨.hbm, 452, rfl⟩
abbrev main_call1_call0_v107 : Ref sig .tc := ⟨.hbm, 453, rfl⟩
abbrev main_call1_call0_v108 : Ref sig .tc := ⟨.hbm, 454, rfl⟩
abbrev main_call1_call0_c_27 : Ref sig .tc := ⟨.hbm, 455, rfl⟩
abbrev main_call1_call0_v109 : Ref sig .tc := ⟨.hbm, 456, rfl⟩
abbrev main_call1_call0_v110 : Ref sig .tc := ⟨.hbm, 457, rfl⟩
abbrev main_call1_call0_c_28 : Ref sig .tc := ⟨.hbm, 458, rfl⟩
abbrev main_call1_call0_v111 : Ref sig .tc := ⟨.hbm, 459, rfl⟩
abbrev main_call1_call0_v112 : Ref sig .tc := ⟨.hbm, 460, rfl⟩
abbrev main_call1_call0_v113 : Ref sig .tc := ⟨.hbm, 461, rfl⟩
abbrev main_call1_call0_v114 : Ref sig .tc := ⟨.hbm, 462, rfl⟩
abbrev main_call1_call0_v115 : Ref sig .tc := ⟨.hbm, 463, rfl⟩
abbrev main_call1_call0_c_29 : Ref sig .tc := ⟨.hbm, 464, rfl⟩
abbrev main_call1_call0_v116 : Ref sig .tc := ⟨.hbm, 465, rfl⟩
abbrev main_call1_call0_v117 : Ref sig .tc := ⟨.hbm, 466, rfl⟩
abbrev main_call1_call0_c_30 : Ref sig .tc := ⟨.hbm, 467, rfl⟩
abbrev main_call1_call0_v118 : Ref sig .tc := ⟨.hbm, 468, rfl⟩
abbrev main_call1_call0_v119 : Ref sig .tc := ⟨.hbm, 469, rfl⟩
abbrev main_call1_call0_v120 : Ref sig .tc := ⟨.hbm, 470, rfl⟩
abbrev main_call1_call0_v121 : Ref sig .tc := ⟨.hbm, 471, rfl⟩
abbrev main_call1_call0_v122 : Ref sig .tc := ⟨.hbm, 472, rfl⟩
abbrev main_call1_call0_c_31 : Ref sig .tc := ⟨.hbm, 473, rfl⟩
abbrev main_call1_call0_v123 : Ref sig .tc := ⟨.hbm, 474, rfl⟩
abbrev main_call1_call0_v124 : Ref sig .tc := ⟨.hbm, 475, rfl⟩
abbrev main_call1_call0_c_32 : Ref sig .tc := ⟨.hbm, 476, rfl⟩
abbrev main_call1_call0_v125 : Ref sig .tc := ⟨.hbm, 477, rfl⟩
abbrev main_call1_call0_v126 : Ref sig .tc := ⟨.hbm, 478, rfl⟩
abbrev main_call1_call0_v127 : Ref sig .tc := ⟨.hbm, 479, rfl⟩
abbrev main_call1_call0_v128 : Ref sig .tc := ⟨.hbm, 480, rfl⟩
abbrev main_call1_call0_v129 : Ref sig .tc := ⟨.hbm, 481, rfl⟩
abbrev main_call1_call0_c_33 : Ref sig .tc := ⟨.hbm, 482, rfl⟩
abbrev main_call1_call0_v130 : Ref sig .tc := ⟨.hbm, 483, rfl⟩
abbrev main_call1_call0_v131 : Ref sig .tc := ⟨.hbm, 484, rfl⟩
abbrev main_call1_call0_c_34 : Ref sig .tc := ⟨.hbm, 485, rfl⟩
abbrev main_call1_call0_v132 : Ref sig .tc := ⟨.hbm, 486, rfl⟩
abbrev main_call1_call0_v133 : Ref sig .tc := ⟨.hbm, 487, rfl⟩
abbrev main_call1_call0_v134 : Ref sig .tc := ⟨.hbm, 488, rfl⟩
abbrev main_call1_call0_v135 : Ref sig .tc := ⟨.hbm, 489, rfl⟩
abbrev main_call1_call0_v136 : Ref sig .tc := ⟨.hbm, 490, rfl⟩
abbrev main_call1_call0_v137 : Ref sig .tc := ⟨.hbm, 491, rfl⟩
abbrev main_call1_call0_v138 : Ref sig .tc := ⟨.hbm, 492, rfl⟩
abbrev main_call1_call0_v139 : Ref sig .tc := ⟨.hbm, 493, rfl⟩
abbrev main_call1_call0_c_35 : Ref sig .tc := ⟨.hbm, 494, rfl⟩
abbrev main_call1_call0_v140 : Ref sig .tc := ⟨.hbm, 495, rfl⟩
abbrev main_call1_call0_v141 : Ref sig .tc := ⟨.hbm, 496, rfl⟩
abbrev main_call1_call0_v142 : Ref sig .tc := ⟨.hbm, 497, rfl⟩
abbrev main_call1_call0_c_36 : Ref sig .tc := ⟨.hbm, 498, rfl⟩
abbrev main_call1_call0_v143 : Ref sig .tc := ⟨.hbm, 499, rfl⟩
abbrev main_call1_call0_v144 : Ref sig .tc := ⟨.hbm, 500, rfl⟩
abbrev main_call1_call0_c_37 : Ref sig .tc := ⟨.hbm, 501, rfl⟩
abbrev main_call1_call0_v145 : Ref sig .tc := ⟨.hbm, 502, rfl⟩
abbrev main_call1_call0_v146 : Ref sig .tc := ⟨.hbm, 503, rfl⟩
abbrev main_call1_call0_v147 : Ref sig .tc := ⟨.hbm, 504, rfl⟩
abbrev main_call1_call0_v148 : Ref sig .tc := ⟨.hbm, 505, rfl⟩
abbrev main_call1_call0_v149 : Ref sig .tc := ⟨.hbm, 506, rfl⟩
abbrev main_call1_call0_c_38 : Ref sig .tc := ⟨.hbm, 507, rfl⟩
abbrev main_call1_call0_v150 : Ref sig .tc := ⟨.hbm, 508, rfl⟩
abbrev main_call1_call0_v151 : Ref sig .tc := ⟨.hbm, 509, rfl⟩
abbrev main_call1_call0_c_39 : Ref sig .tc := ⟨.hbm, 510, rfl⟩
abbrev main_call1_call0_v152 : Ref sig .tc := ⟨.hbm, 511, rfl⟩
abbrev main_call1_call0_v153 : Ref sig .tc := ⟨.hbm, 512, rfl⟩
abbrev main_call1_call0_v154 : Ref sig .tc := ⟨.hbm, 513, rfl⟩
abbrev main_call1_call0_v155 : Ref sig .tc := ⟨.hbm, 514, rfl⟩
abbrev main_call1_call0_v156 : Ref sig .tc := ⟨.hbm, 515, rfl⟩
abbrev main_call1_call0_c_40 : Ref sig .tc := ⟨.hbm, 516, rfl⟩
abbrev main_call1_call0_v157 : Ref sig .tc := ⟨.hbm, 517, rfl⟩
abbrev main_call1_call0_v158 : Ref sig .tc := ⟨.hbm, 518, rfl⟩
abbrev main_call1_call0_c_41 : Ref sig .tc := ⟨.hbm, 519, rfl⟩
abbrev main_call1_call0_v159 : Ref sig .tc := ⟨.hbm, 520, rfl⟩
abbrev main_call1_call0_v160 : Ref sig .tc := ⟨.hbm, 521, rfl⟩
abbrev main_call1_call0_v161 : Ref sig .tc := ⟨.hbm, 522, rfl⟩
abbrev main_call1_call0_v162 : Ref sig .tc := ⟨.hbm, 523, rfl⟩
abbrev main_call1_call0_v163 : Ref sig .tc := ⟨.hbm, 524, rfl⟩
abbrev main_call1_call0_c_42 : Ref sig .tc := ⟨.hbm, 525, rfl⟩
abbrev main_call1_call0_v164 : Ref sig .tc := ⟨.hbm, 526, rfl⟩
abbrev main_call1_call0_v165 : Ref sig .tc := ⟨.hbm, 527, rfl⟩
abbrev main_call1_call0_c_43 : Ref sig .tc := ⟨.hbm, 528, rfl⟩
abbrev main_call1_call0_v166 : Ref sig .tc := ⟨.hbm, 529, rfl⟩
abbrev main_call1_call0_v167 : Ref sig .tc := ⟨.hbm, 530, rfl⟩
abbrev main_call1_call0_v168 : Ref sig .tc := ⟨.hbm, 531, rfl⟩
abbrev main_call1_call0_v169 : Ref sig .tc := ⟨.hbm, 532, rfl⟩
abbrev main_call1_call0_v170 : Ref sig .tc := ⟨.hbm, 533, rfl⟩
abbrev main_call1_v19_0 : Ref sig .tc := ⟨.hbm, 534, rfl⟩
abbrev main_call1_call0_v172 : Ref sig .tc := ⟨.hbm, 535, rfl⟩
abbrev main_call1_call0_v173 : Ref sig .tc := ⟨.hbm, 536, rfl⟩
abbrev main_call1_call0_c_44 : Ref sig .tc := ⟨.hbm, 537, rfl⟩
abbrev main_call1_call0_v174 : Ref sig .tc := ⟨.hbm, 538, rfl⟩
abbrev main_call1_v19_1 : Ref sig .tc := ⟨.hbm, 539, rfl⟩
abbrev main_call1_v20 : Ref sig .tc := ⟨.hbm, 540, rfl⟩
abbrev main_call1_c_2 : Ref sig .tc := ⟨.hbm, 541, rfl⟩
abbrev main_call1_v21 : Ref sig .tc := ⟨.hbm, 542, rfl⟩
abbrev main_call1_v22 : Ref sig .tc := ⟨.hbm, 543, rfl⟩
abbrev main_call1_c_3 : Ref sig .tc := ⟨.hbm, 544, rfl⟩
abbrev main_call1_v23 : Ref sig .tc := ⟨.hbm, 545, rfl⟩
abbrev main_call1_v24 : Ref sig .tc := ⟨.hbm, 546, rfl⟩
abbrev main_call1_v25 : Ref sig .tc := ⟨.hbm, 547, rfl⟩
abbrev main_call1_cst : Ref sig .tc := ⟨.hbm, 548, rfl⟩
abbrev main_call1_v26 : Ref sig .tc := ⟨.hbm, 549, rfl⟩
abbrev main_call1_v27 : Ref sig .tc := ⟨.hbm, 550, rfl⟩
abbrev main_call1_v28 : Ref sig .tc := ⟨.hbm, 551, rfl⟩
abbrev main_call1_v29 : Ref sig .tc := ⟨.hbm, 552, rfl⟩
abbrev main_call1_v30 : Ref sig .tc := ⟨.hbm, 553, rfl⟩
abbrev main_call1_v31 : Ref sig .tc := ⟨.hbm, 554, rfl⟩
abbrev main_call1_v32 : Ref sig .tc := ⟨.hbm, 555, rfl⟩
abbrev main_call1_v33 : Ref sig .tc := ⟨.hbm, 556, rfl⟩
abbrev main_v48 : Ref sig .tc := ⟨.hbm, 557, rfl⟩
abbrev main_cst_9 : Ref sig .tc := ⟨.hbm, 558, rfl⟩
abbrev main_v49 : Ref sig .tc := ⟨.hbm, 559, rfl⟩
abbrev main_v50 : Ref sig .tc := ⟨.hbm, 560, rfl⟩
abbrev main_cst_10 : Ref sig .tc := ⟨.hbm, 561, rfl⟩
abbrev main_v51 : Ref sig .tc := ⟨.hbm, 562, rfl⟩
abbrev main_v52 : Ref sig .tc := ⟨.hbm, 563, rfl⟩
abbrev main_cst_11 : Ref sig .tc := ⟨.hbm, 564, rfl⟩
abbrev main_v53 : Ref sig .tc := ⟨.hbm, 565, rfl⟩
abbrev main_v54 : Ref sig .tc := ⟨.hbm, 566, rfl⟩
abbrev main_v55 : Ref sig .tc := ⟨.hbm, 567, rfl⟩
abbrev main_v56 : Ref sig .tc := ⟨.hbm, 568, rfl⟩
abbrev main_v57 : Ref sig .tc := ⟨.hbm, 569, rfl⟩
abbrev main_v58 : Ref sig .tc := ⟨.hbm, 570, rfl⟩
abbrev main_v59 : Ref sig .tc := ⟨.hbm, 571, rfl⟩
abbrev main_call2_v0 : Ref sig .tc := ⟨.hbm, 572, rfl⟩
abbrev main_call2_cst : Ref sig .tc := ⟨.hbm, 573, rfl⟩
abbrev main_call2_c : Ref sig .tc := ⟨.hbm, 574, rfl⟩
abbrev main_call2_v1_0 : Ref sig .tc := ⟨.hbm, 575, rfl⟩
abbrev main_v60 : Ref sig .tc := ⟨.hbm, 576, rfl⟩
abbrev main_call3_v0 : Ref sig .tc := ⟨.hbm, 577, rfl⟩
abbrev main_call3_v1 : Ref sig .tc := ⟨.hbm, 578, rfl⟩
abbrev main_call3_v2 : Ref sig .tc := ⟨.hbm, 579, rfl⟩
abbrev main_call3_v3 : Ref sig .tc := ⟨.hbm, 580, rfl⟩
abbrev main_call3_v4 : Ref sig .tc := ⟨.hbm, 581, rfl⟩
abbrev main_v61 : Ref sig .tc := ⟨.hbm, 582, rfl⟩
abbrev main_cst_12 : Ref sig .tc := ⟨.hbm, 583, rfl⟩
abbrev main_v62 : Ref sig .tc := ⟨.hbm, 584, rfl⟩
abbrev main_v63 : Ref sig .tc := ⟨.hbm, 585, rfl⟩
abbrev main_v64 : Ref sig .tc := ⟨.hbm, 586, rfl⟩
abbrev main_cst_13 : Ref sig .tc := ⟨.hbm, 587, rfl⟩
abbrev main_v65 : Ref sig .tc := ⟨.hbm, 588, rfl⟩
abbrev main_v66 : Ref sig .tc := ⟨.hbm, 589, rfl⟩
abbrev main_v67 : Ref sig .tc := ⟨.hbm, 590, rfl⟩
abbrev main_cst_14 : Ref sig .tc := ⟨.hbm, 591, rfl⟩
abbrev main_v68 : Ref sig .tc := ⟨.hbm, 592, rfl⟩
abbrev main_v69 : Ref sig .tc := ⟨.hbm, 593, rfl⟩
abbrev main_v70 : Ref sig .tc := ⟨.hbm, 594, rfl⟩
abbrev main_v71 : Ref sig .tc := ⟨.hbm, 595, rfl⟩
abbrev main_v72 : Ref sig .tc := ⟨.hbm, 596, rfl⟩
abbrev main_v73 : Ref sig .tc := ⟨.hbm, 597, rfl⟩
abbrev main_v74 : Ref sig .tc := ⟨.hbm, 598, rfl⟩
abbrev main_v75 : Ref sig .tc := ⟨.hbm, 599, rfl⟩
abbrev main_cst_15 : Ref sig .tc := ⟨.hbm, 600, rfl⟩
abbrev main_v76 : Ref sig .tc := ⟨.hbm, 601, rfl⟩
abbrev main_v77 : Ref sig .tc := ⟨.hbm, 602, rfl⟩
abbrev main_v78 : Ref sig .tc := ⟨.hbm, 603, rfl⟩
abbrev main_v79 : Ref sig .tc := ⟨.hbm, 604, rfl⟩
abbrev main_v80 : Ref sig .tc := ⟨.hbm, 605, rfl⟩
abbrev main_v81 : Ref sig .tc := ⟨.hbm, 606, rfl⟩
abbrev main_cst_16 : Ref sig .tc := ⟨.hbm, 607, rfl⟩
abbrev main_v82 : Ref sig .tc := ⟨.hbm, 608, rfl⟩
abbrev main_v83 : Ref sig .tc := ⟨.hbm, 609, rfl⟩
abbrev main_cst_17 : Ref sig .tc := ⟨.hbm, 610, rfl⟩
abbrev main_v84 : Ref sig .tc := ⟨.hbm, 611, rfl⟩
abbrev main_v85 : Ref sig .tc := ⟨.hbm, 612, rfl⟩
abbrev main_v86 : Ref sig .tc := ⟨.hbm, 613, rfl⟩
abbrev main_cst_18 : Ref sig .tc := ⟨.hbm, 614, rfl⟩
abbrev main_v87 : Ref sig .tc := ⟨.hbm, 615, rfl⟩
abbrev main_v88 : Ref sig .tc := ⟨.hbm, 616, rfl⟩
abbrev main_v89 : Ref sig .tc := ⟨.hbm, 617, rfl⟩
abbrev main_v90 : Ref sig .tc := ⟨.hbm, 618, rfl⟩
abbrev main_v91 : Ref sig .tc := ⟨.hbm, 619, rfl⟩
abbrev main_v92 : Ref sig .tc := ⟨.hbm, 620, rfl⟩
abbrev main_v93 : Ref sig .tc := ⟨.hbm, 621, rfl⟩
abbrev main_cst_19 : Ref sig .tc := ⟨.hbm, 622, rfl⟩
abbrev main_v94 : Ref sig .tc := ⟨.hbm, 623, rfl⟩
abbrev main_v95 : Ref sig .tc := ⟨.hbm, 624, rfl⟩
abbrev main_cst_20 : Ref sig .tc := ⟨.hbm, 625, rfl⟩
abbrev main_v96 : Ref sig .tc := ⟨.hbm, 626, rfl⟩
abbrev main_v97 : Ref sig .tc := ⟨.hbm, 627, rfl⟩
abbrev main_v98 : Ref sig .tc := ⟨.hbm, 628, rfl⟩
abbrev main_v99 : Ref sig .tc := ⟨.hbm, 629, rfl⟩
abbrev main_c_21 : Ref sig .tc := ⟨.hbm, 630, rfl⟩
abbrev main_call4_c : Ref sig .tc := ⟨.hbm, 631, rfl⟩
abbrev main_call4_v0 : Ref sig .tc := ⟨.hbm, 632, rfl⟩
abbrev main_call4_v1 : Ref sig .tc := ⟨.hbm, 633, rfl⟩
abbrev main_call4_c_0 : Ref sig .tc := ⟨.hbm, 634, rfl⟩
abbrev main_call4_v2 : Ref sig .tc := ⟨.hbm, 635, rfl⟩
abbrev main_call4_v3 : Ref sig .tc := ⟨.hbm, 636, rfl⟩
abbrev main_call4_v4 : Ref sig .tc := ⟨.hbm, 637, rfl⟩
abbrev main_call4_v5 : Ref sig .tc := ⟨.hbm, 638, rfl⟩
abbrev main_call4_v6 : Ref sig .tc := ⟨.hbm, 639, rfl⟩
abbrev main_call4_v7 : Ref sig .tc := ⟨.hbm, 640, rfl⟩
abbrev main_call4_v8 : Ref sig .tc := ⟨.hbm, 641, rfl⟩
abbrev main_call4_v9 : Ref sig .tc := ⟨.hbm, 642, rfl⟩
abbrev main_call4_v10 : Ref sig .tc := ⟨.hbm, 643, rfl⟩
abbrev main_call4_call0_v0 : Ref sig .tc := ⟨.hbm, 644, rfl⟩
abbrev main_call4_call0_c : Ref sig .tc := ⟨.hbm, 645, rfl⟩
abbrev main_call4_call0_v1 : Ref sig .tc := ⟨.hbm, 646, rfl⟩
abbrev main_call4_call0_v2 : Ref sig .tc := ⟨.hbm, 647, rfl⟩
abbrev main_call4_call0_v3 : Ref sig .tc := ⟨.hbm, 648, rfl⟩
abbrev main_call4_call0_v4 : Ref sig .tc := ⟨.hbm, 649, rfl⟩
abbrev main_call4_call0_v5 : Ref sig .tc := ⟨.hbm, 650, rfl⟩
abbrev main_call4_call0_v6 : Ref sig .tc := ⟨.hbm, 651, rfl⟩
abbrev main_call4_call0_c_0 : Ref sig .tc := ⟨.hbm, 652, rfl⟩
abbrev main_call4_call0_v7 : Ref sig .tc := ⟨.hbm, 653, rfl⟩
abbrev main_call4_call0_v8 : Ref sig .tc := ⟨.hbm, 654, rfl⟩
abbrev main_call4_call0_c_1 : Ref sig .tc := ⟨.hbm, 655, rfl⟩
abbrev main_call4_call0_v9 : Ref sig .tc := ⟨.hbm, 656, rfl⟩
abbrev main_call4_call0_v10 : Ref sig .tc := ⟨.hbm, 657, rfl⟩
abbrev main_call4_call0_v11 : Ref sig .tc := ⟨.hbm, 658, rfl⟩
abbrev main_call4_call0_v12 : Ref sig .tc := ⟨.hbm, 659, rfl⟩
abbrev main_call4_call0_v13 : Ref sig .tc := ⟨.hbm, 660, rfl⟩
abbrev main_call4_call0_c_2 : Ref sig .tc := ⟨.hbm, 661, rfl⟩
abbrev main_call4_call0_v14 : Ref sig .tc := ⟨.hbm, 662, rfl⟩
abbrev main_call4_call0_v15 : Ref sig .tc := ⟨.hbm, 663, rfl⟩
abbrev main_call4_call0_c_3 : Ref sig .tc := ⟨.hbm, 664, rfl⟩
abbrev main_call4_call0_v16 : Ref sig .tc := ⟨.hbm, 665, rfl⟩
abbrev main_call4_call0_v17 : Ref sig .tc := ⟨.hbm, 666, rfl⟩
abbrev main_call4_call0_v18 : Ref sig .tc := ⟨.hbm, 667, rfl⟩
abbrev main_call4_call0_v19 : Ref sig .tc := ⟨.hbm, 668, rfl⟩
abbrev main_call4_call0_v20 : Ref sig .tc := ⟨.hbm, 669, rfl⟩
abbrev main_call4_call0_c_4 : Ref sig .tc := ⟨.hbm, 670, rfl⟩
abbrev main_call4_call0_v21 : Ref sig .tc := ⟨.hbm, 671, rfl⟩
abbrev main_call4_call0_v22 : Ref sig .tc := ⟨.hbm, 672, rfl⟩
abbrev main_call4_call0_c_5 : Ref sig .tc := ⟨.hbm, 673, rfl⟩
abbrev main_call4_call0_v23 : Ref sig .tc := ⟨.hbm, 674, rfl⟩
abbrev main_call4_call0_v24 : Ref sig .tc := ⟨.hbm, 675, rfl⟩
abbrev main_call4_call0_v25 : Ref sig .tc := ⟨.hbm, 676, rfl⟩
abbrev main_call4_call0_v26 : Ref sig .tc := ⟨.hbm, 677, rfl⟩
abbrev main_call4_call0_v27 : Ref sig .tc := ⟨.hbm, 678, rfl⟩
abbrev main_call4_call0_c_6 : Ref sig .tc := ⟨.hbm, 679, rfl⟩
abbrev main_call4_call0_v28 : Ref sig .tc := ⟨.hbm, 680, rfl⟩
abbrev main_call4_call0_v29 : Ref sig .tc := ⟨.hbm, 681, rfl⟩
abbrev main_call4_call0_c_7 : Ref sig .tc := ⟨.hbm, 682, rfl⟩
abbrev main_call4_call0_v30 : Ref sig .tc := ⟨.hbm, 683, rfl⟩
abbrev main_call4_call0_v31 : Ref sig .tc := ⟨.hbm, 684, rfl⟩
abbrev main_call4_call0_v32 : Ref sig .tc := ⟨.hbm, 685, rfl⟩
abbrev main_call4_call0_v33 : Ref sig .tc := ⟨.hbm, 686, rfl⟩
abbrev main_call4_call0_v34 : Ref sig .tc := ⟨.hbm, 687, rfl⟩
abbrev main_call4_call0_v35 : Ref sig .tc := ⟨.hbm, 688, rfl⟩
abbrev main_call4_call0_v36 : Ref sig .tc := ⟨.hbm, 689, rfl⟩
abbrev main_call4_call0_v37 : Ref sig .tc := ⟨.hbm, 690, rfl⟩
abbrev main_call4_call0_c_8 : Ref sig .tc := ⟨.hbm, 691, rfl⟩
abbrev main_call4_call0_v38 : Ref sig .tc := ⟨.hbm, 692, rfl⟩
abbrev main_call4_call0_v39 : Ref sig .tc := ⟨.hbm, 693, rfl⟩
abbrev main_call4_call0_v40 : Ref sig .tc := ⟨.hbm, 694, rfl⟩
abbrev main_call4_call0_c_9 : Ref sig .tc := ⟨.hbm, 695, rfl⟩
abbrev main_call4_call0_v41 : Ref sig .tc := ⟨.hbm, 696, rfl⟩
abbrev main_call4_call0_v42 : Ref sig .tc := ⟨.hbm, 697, rfl⟩
abbrev main_call4_call0_c_10 : Ref sig .tc := ⟨.hbm, 698, rfl⟩
abbrev main_call4_call0_v43 : Ref sig .tc := ⟨.hbm, 699, rfl⟩
abbrev main_call4_call0_v44 : Ref sig .tc := ⟨.hbm, 700, rfl⟩
abbrev main_call4_call0_v45 : Ref sig .tc := ⟨.hbm, 701, rfl⟩
abbrev main_call4_call0_v46 : Ref sig .tc := ⟨.hbm, 702, rfl⟩
abbrev main_call4_call0_v47 : Ref sig .tc := ⟨.hbm, 703, rfl⟩
abbrev main_call4_call0_c_11 : Ref sig .tc := ⟨.hbm, 704, rfl⟩
abbrev main_call4_call0_v48 : Ref sig .tc := ⟨.hbm, 705, rfl⟩
abbrev main_call4_call0_v49 : Ref sig .tc := ⟨.hbm, 706, rfl⟩
abbrev main_call4_call0_c_12 : Ref sig .tc := ⟨.hbm, 707, rfl⟩
abbrev main_call4_call0_v50 : Ref sig .tc := ⟨.hbm, 708, rfl⟩
abbrev main_call4_call0_v51 : Ref sig .tc := ⟨.hbm, 709, rfl⟩
abbrev main_call4_call0_v52 : Ref sig .tc := ⟨.hbm, 710, rfl⟩
abbrev main_call4_call0_v53 : Ref sig .tc := ⟨.hbm, 711, rfl⟩
abbrev main_call4_call0_v54 : Ref sig .tc := ⟨.hbm, 712, rfl⟩
abbrev main_call4_call0_c_13 : Ref sig .tc := ⟨.hbm, 713, rfl⟩
abbrev main_call4_call0_v55 : Ref sig .tc := ⟨.hbm, 714, rfl⟩
abbrev main_call4_call0_v56 : Ref sig .tc := ⟨.hbm, 715, rfl⟩
abbrev main_call4_call0_c_14 : Ref sig .tc := ⟨.hbm, 716, rfl⟩
abbrev main_call4_call0_v57 : Ref sig .tc := ⟨.hbm, 717, rfl⟩
abbrev main_call4_call0_v58 : Ref sig .tc := ⟨.hbm, 718, rfl⟩
abbrev main_call4_call0_v59 : Ref sig .tc := ⟨.hbm, 719, rfl⟩
abbrev main_call4_call0_v60 : Ref sig .tc := ⟨.hbm, 720, rfl⟩
abbrev main_call4_call0_v61 : Ref sig .tc := ⟨.hbm, 721, rfl⟩
abbrev main_call4_call0_c_15 : Ref sig .tc := ⟨.hbm, 722, rfl⟩
abbrev main_call4_call0_v62 : Ref sig .tc := ⟨.hbm, 723, rfl⟩
abbrev main_call4_call0_v63 : Ref sig .tc := ⟨.hbm, 724, rfl⟩
abbrev main_call4_call0_c_16 : Ref sig .tc := ⟨.hbm, 725, rfl⟩
abbrev main_call4_call0_v64 : Ref sig .tc := ⟨.hbm, 726, rfl⟩
abbrev main_call4_call0_v65 : Ref sig .tc := ⟨.hbm, 727, rfl⟩
abbrev main_call4_call0_v66 : Ref sig .tc := ⟨.hbm, 728, rfl⟩
abbrev main_call4_call0_v67 : Ref sig .tc := ⟨.hbm, 729, rfl⟩
abbrev main_call4_call0_v68 : Ref sig .tc := ⟨.hbm, 730, rfl⟩
abbrev main_call4_call0_v69 : Ref sig .tc := ⟨.hbm, 731, rfl⟩
abbrev main_call4_call0_v70 : Ref sig .tc := ⟨.hbm, 732, rfl⟩
abbrev main_call4_call0_v71 : Ref sig .tc := ⟨.hbm, 733, rfl⟩
abbrev main_call4_call0_c_17 : Ref sig .tc := ⟨.hbm, 734, rfl⟩
abbrev main_call4_call0_v72 : Ref sig .tc := ⟨.hbm, 735, rfl⟩
abbrev main_call4_call0_v73 : Ref sig .tc := ⟨.hbm, 736, rfl⟩
abbrev main_call4_call0_v74 : Ref sig .tc := ⟨.hbm, 737, rfl⟩
abbrev main_call4_call0_c_18 : Ref sig .tc := ⟨.hbm, 738, rfl⟩
abbrev main_call4_call0_v75 : Ref sig .tc := ⟨.hbm, 739, rfl⟩
abbrev main_call4_call0_v76 : Ref sig .tc := ⟨.hbm, 740, rfl⟩
abbrev main_call4_call0_c_19 : Ref sig .tc := ⟨.hbm, 741, rfl⟩
abbrev main_call4_call0_v77 : Ref sig .tc := ⟨.hbm, 742, rfl⟩
abbrev main_call4_call0_v78 : Ref sig .tc := ⟨.hbm, 743, rfl⟩
abbrev main_call4_call0_v79 : Ref sig .tc := ⟨.hbm, 744, rfl⟩
abbrev main_call4_call0_v80 : Ref sig .tc := ⟨.hbm, 745, rfl⟩
abbrev main_call4_call0_v81 : Ref sig .tc := ⟨.hbm, 746, rfl⟩
abbrev main_call4_call0_c_20 : Ref sig .tc := ⟨.hbm, 747, rfl⟩
abbrev main_call4_call0_v82 : Ref sig .tc := ⟨.hbm, 748, rfl⟩
abbrev main_call4_call0_v83 : Ref sig .tc := ⟨.hbm, 749, rfl⟩
abbrev main_call4_call0_c_21 : Ref sig .tc := ⟨.hbm, 750, rfl⟩
abbrev main_call4_call0_v84 : Ref sig .tc := ⟨.hbm, 751, rfl⟩
abbrev main_call4_call0_v85 : Ref sig .tc := ⟨.hbm, 752, rfl⟩
abbrev main_call4_call0_v86 : Ref sig .tc := ⟨.hbm, 753, rfl⟩
abbrev main_call4_call0_v87 : Ref sig .tc := ⟨.hbm, 754, rfl⟩
abbrev main_call4_call0_v88 : Ref sig .tc := ⟨.hbm, 755, rfl⟩
abbrev main_call4_call0_c_22 : Ref sig .tc := ⟨.hbm, 756, rfl⟩
abbrev main_call4_call0_v89 : Ref sig .tc := ⟨.hbm, 757, rfl⟩
abbrev main_call4_call0_v90 : Ref sig .tc := ⟨.hbm, 758, rfl⟩
abbrev main_call4_call0_c_23 : Ref sig .tc := ⟨.hbm, 759, rfl⟩
abbrev main_call4_call0_v91 : Ref sig .tc := ⟨.hbm, 760, rfl⟩
abbrev main_call4_call0_v92 : Ref sig .tc := ⟨.hbm, 761, rfl⟩
abbrev main_call4_call0_v93 : Ref sig .tc := ⟨.hbm, 762, rfl⟩
abbrev main_call4_call0_v94 : Ref sig .tc := ⟨.hbm, 763, rfl⟩
abbrev main_call4_call0_v95 : Ref sig .tc := ⟨.hbm, 764, rfl⟩
abbrev main_call4_call0_c_24 : Ref sig .tc := ⟨.hbm, 765, rfl⟩
abbrev main_call4_call0_v96 : Ref sig .tc := ⟨.hbm, 766, rfl⟩
abbrev main_call4_call0_v97 : Ref sig .tc := ⟨.hbm, 767, rfl⟩
abbrev main_call4_call0_c_25 : Ref sig .tc := ⟨.hbm, 768, rfl⟩
abbrev main_call4_call0_v98 : Ref sig .tc := ⟨.hbm, 769, rfl⟩
abbrev main_call4_call0_v99 : Ref sig .tc := ⟨.hbm, 770, rfl⟩
abbrev main_call4_call0_v100 : Ref sig .tc := ⟨.hbm, 771, rfl⟩
abbrev main_call4_call0_v101 : Ref sig .tc := ⟨.hbm, 772, rfl⟩
abbrev main_call4_call0_v102 : Ref sig .tc := ⟨.hbm, 773, rfl⟩
abbrev main_call4_call0_v103 : Ref sig .tc := ⟨.hbm, 774, rfl⟩
abbrev main_call4_call0_v104 : Ref sig .tc := ⟨.hbm, 775, rfl⟩
abbrev main_call4_call0_v105 : Ref sig .tc := ⟨.hbm, 776, rfl⟩
abbrev main_call4_call0_c_26 : Ref sig .tc := ⟨.hbm, 777, rfl⟩
abbrev main_call4_call0_v106 : Ref sig .tc := ⟨.hbm, 778, rfl⟩
abbrev main_call4_call0_v107 : Ref sig .tc := ⟨.hbm, 779, rfl⟩
abbrev main_call4_call0_v108 : Ref sig .tc := ⟨.hbm, 780, rfl⟩
abbrev main_call4_call0_c_27 : Ref sig .tc := ⟨.hbm, 781, rfl⟩
abbrev main_call4_call0_v109 : Ref sig .tc := ⟨.hbm, 782, rfl⟩
abbrev main_call4_call0_v110 : Ref sig .tc := ⟨.hbm, 783, rfl⟩
abbrev main_call4_call0_c_28 : Ref sig .tc := ⟨.hbm, 784, rfl⟩
abbrev main_call4_call0_v111 : Ref sig .tc := ⟨.hbm, 785, rfl⟩
abbrev main_call4_call0_v112 : Ref sig .tc := ⟨.hbm, 786, rfl⟩
abbrev main_call4_call0_v113 : Ref sig .tc := ⟨.hbm, 787, rfl⟩
abbrev main_call4_call0_v114 : Ref sig .tc := ⟨.hbm, 788, rfl⟩
abbrev main_call4_call0_v115 : Ref sig .tc := ⟨.hbm, 789, rfl⟩
abbrev main_call4_call0_c_29 : Ref sig .tc := ⟨.hbm, 790, rfl⟩
abbrev main_call4_call0_v116 : Ref sig .tc := ⟨.hbm, 791, rfl⟩
abbrev main_call4_call0_v117 : Ref sig .tc := ⟨.hbm, 792, rfl⟩
abbrev main_call4_call0_c_30 : Ref sig .tc := ⟨.hbm, 793, rfl⟩
abbrev main_call4_call0_v118 : Ref sig .tc := ⟨.hbm, 794, rfl⟩
abbrev main_call4_call0_v119 : Ref sig .tc := ⟨.hbm, 795, rfl⟩
abbrev main_call4_call0_v120 : Ref sig .tc := ⟨.hbm, 796, rfl⟩
abbrev main_call4_call0_v121 : Ref sig .tc := ⟨.hbm, 797, rfl⟩
abbrev main_call4_call0_v122 : Ref sig .tc := ⟨.hbm, 798, rfl⟩
abbrev main_call4_call0_c_31 : Ref sig .tc := ⟨.hbm, 799, rfl⟩
abbrev main_call4_call0_v123 : Ref sig .tc := ⟨.hbm, 800, rfl⟩
abbrev main_call4_call0_v124 : Ref sig .tc := ⟨.hbm, 801, rfl⟩
abbrev main_call4_call0_c_32 : Ref sig .tc := ⟨.hbm, 802, rfl⟩
abbrev main_call4_call0_v125 : Ref sig .tc := ⟨.hbm, 803, rfl⟩
abbrev main_call4_call0_v126 : Ref sig .tc := ⟨.hbm, 804, rfl⟩
abbrev main_call4_call0_v127 : Ref sig .tc := ⟨.hbm, 805, rfl⟩
abbrev main_call4_call0_v128 : Ref sig .tc := ⟨.hbm, 806, rfl⟩
abbrev main_call4_call0_v129 : Ref sig .tc := ⟨.hbm, 807, rfl⟩
abbrev main_call4_call0_c_33 : Ref sig .tc := ⟨.hbm, 808, rfl⟩
abbrev main_call4_call0_v130 : Ref sig .tc := ⟨.hbm, 809, rfl⟩
abbrev main_call4_call0_v131 : Ref sig .tc := ⟨.hbm, 810, rfl⟩
abbrev main_call4_call0_c_34 : Ref sig .tc := ⟨.hbm, 811, rfl⟩
abbrev main_call4_call0_v132 : Ref sig .tc := ⟨.hbm, 812, rfl⟩
abbrev main_call4_call0_v133 : Ref sig .tc := ⟨.hbm, 813, rfl⟩
abbrev main_call4_call0_v134 : Ref sig .tc := ⟨.hbm, 814, rfl⟩
abbrev main_call4_call0_v135 : Ref sig .tc := ⟨.hbm, 815, rfl⟩
abbrev main_call4_call0_v136 : Ref sig .tc := ⟨.hbm, 816, rfl⟩
abbrev main_call4_call0_v137 : Ref sig .tc := ⟨.hbm, 817, rfl⟩
abbrev main_call4_call0_v138 : Ref sig .tc := ⟨.hbm, 818, rfl⟩
abbrev main_call4_call0_v139 : Ref sig .tc := ⟨.hbm, 819, rfl⟩
abbrev main_call4_call0_c_35 : Ref sig .tc := ⟨.hbm, 820, rfl⟩
abbrev main_call4_call0_v140 : Ref sig .tc := ⟨.hbm, 821, rfl⟩
abbrev main_call4_call0_v141 : Ref sig .tc := ⟨.hbm, 822, rfl⟩
abbrev main_call4_call0_v142 : Ref sig .tc := ⟨.hbm, 823, rfl⟩
abbrev main_call4_call0_c_36 : Ref sig .tc := ⟨.hbm, 824, rfl⟩
abbrev main_call4_call0_v143 : Ref sig .tc := ⟨.hbm, 825, rfl⟩
abbrev main_call4_call0_v144 : Ref sig .tc := ⟨.hbm, 826, rfl⟩
abbrev main_call4_call0_c_37 : Ref sig .tc := ⟨.hbm, 827, rfl⟩
abbrev main_call4_call0_v145 : Ref sig .tc := ⟨.hbm, 828, rfl⟩
abbrev main_call4_call0_v146 : Ref sig .tc := ⟨.hbm, 829, rfl⟩
abbrev main_call4_call0_v147 : Ref sig .tc := ⟨.hbm, 830, rfl⟩
abbrev main_call4_call0_v148 : Ref sig .tc := ⟨.hbm, 831, rfl⟩
abbrev main_call4_call0_v149 : Ref sig .tc := ⟨.hbm, 832, rfl⟩
abbrev main_call4_call0_c_38 : Ref sig .tc := ⟨.hbm, 833, rfl⟩
abbrev main_call4_call0_v150 : Ref sig .tc := ⟨.hbm, 834, rfl⟩
abbrev main_call4_call0_v151 : Ref sig .tc := ⟨.hbm, 835, rfl⟩
abbrev main_call4_call0_c_39 : Ref sig .tc := ⟨.hbm, 836, rfl⟩
abbrev main_call4_call0_v152 : Ref sig .tc := ⟨.hbm, 837, rfl⟩
abbrev main_call4_call0_v153 : Ref sig .tc := ⟨.hbm, 838, rfl⟩
abbrev main_call4_call0_v154 : Ref sig .tc := ⟨.hbm, 839, rfl⟩
abbrev main_call4_call0_v155 : Ref sig .tc := ⟨.hbm, 840, rfl⟩
abbrev main_call4_call0_v156 : Ref sig .tc := ⟨.hbm, 841, rfl⟩
abbrev main_call4_call0_c_40 : Ref sig .tc := ⟨.hbm, 842, rfl⟩
abbrev main_call4_call0_v157 : Ref sig .tc := ⟨.hbm, 843, rfl⟩
abbrev main_call4_call0_v158 : Ref sig .tc := ⟨.hbm, 844, rfl⟩
abbrev main_call4_call0_c_41 : Ref sig .tc := ⟨.hbm, 845, rfl⟩
abbrev main_call4_call0_v159 : Ref sig .tc := ⟨.hbm, 846, rfl⟩
abbrev main_call4_call0_v160 : Ref sig .tc := ⟨.hbm, 847, rfl⟩
abbrev main_call4_call0_v161 : Ref sig .tc := ⟨.hbm, 848, rfl⟩
abbrev main_call4_call0_v162 : Ref sig .tc := ⟨.hbm, 849, rfl⟩
abbrev main_call4_call0_v163 : Ref sig .tc := ⟨.hbm, 850, rfl⟩
abbrev main_call4_call0_c_42 : Ref sig .tc := ⟨.hbm, 851, rfl⟩
abbrev main_call4_call0_v164 : Ref sig .tc := ⟨.hbm, 852, rfl⟩
abbrev main_call4_call0_v165 : Ref sig .tc := ⟨.hbm, 853, rfl⟩
abbrev main_call4_call0_c_43 : Ref sig .tc := ⟨.hbm, 854, rfl⟩
abbrev main_call4_call0_v166 : Ref sig .tc := ⟨.hbm, 855, rfl⟩
abbrev main_call4_call0_v167 : Ref sig .tc := ⟨.hbm, 856, rfl⟩
abbrev main_call4_call0_v168 : Ref sig .tc := ⟨.hbm, 857, rfl⟩
abbrev main_call4_call0_v169 : Ref sig .tc := ⟨.hbm, 858, rfl⟩
abbrev main_call4_call0_v170 : Ref sig .tc := ⟨.hbm, 859, rfl⟩
abbrev main_call4_v11_0 : Ref sig .tc := ⟨.hbm, 860, rfl⟩
abbrev main_call4_call0_v172 : Ref sig .tc := ⟨.hbm, 861, rfl⟩
abbrev main_call4_call0_v173 : Ref sig .tc := ⟨.hbm, 862, rfl⟩
abbrev main_call4_call0_c_44 : Ref sig .tc := ⟨.hbm, 863, rfl⟩
abbrev main_call4_call0_v174 : Ref sig .tc := ⟨.hbm, 864, rfl⟩
abbrev main_call4_v11_1 : Ref sig .tc := ⟨.hbm, 865, rfl⟩
abbrev main_v100 : Ref sig .tc := ⟨.hbm, 866, rfl⟩
abbrev main_v101 : Ref sig .tc := ⟨.hbm, 867, rfl⟩
abbrev main_cst_22 : Ref sig .tc := ⟨.hbm, 868, rfl⟩
abbrev main_cst_23 : Ref sig .tc := ⟨.hbm, 869, rfl⟩
abbrev main_call5_v0 : Ref sig .tc := ⟨.hbm, 870, rfl⟩
abbrev main_call5_v1 : Ref sig .tc := ⟨.hbm, 871, rfl⟩
abbrev main_call5_v2 : Ref sig .tc := ⟨.hbm, 872, rfl⟩
abbrev main_call5_v3 : Ref sig .tc := ⟨.hbm, 873, rfl⟩
abbrev main_call5_v4 : Ref sig .tc := ⟨.hbm, 874, rfl⟩
abbrev main_call5_v5 : Ref sig .tc := ⟨.hbm, 875, rfl⟩
abbrev main_call5_v6 : Ref sig .tc := ⟨.hbm, 876, rfl⟩
abbrev main_call5_v7 : Ref sig .tc := ⟨.hbm, 877, rfl⟩
abbrev main_call5_v8 : Ref sig .tc := ⟨.hbm, 878, rfl⟩
abbrev main_call5_v9 : Ref sig .tc := ⟨.hbm, 879, rfl⟩
abbrev main_call5_c : Ref sig .tc := ⟨.hbm, 880, rfl⟩
abbrev main_call5_v10 : Ref sig .tc := ⟨.hbm, 881, rfl⟩
abbrev main_call5_v11 : Ref sig .tc := ⟨.hbm, 882, rfl⟩
abbrev main_call5_c_0 : Ref sig .tc := ⟨.hbm, 883, rfl⟩
abbrev main_call5_v12 : Ref sig .tc := ⟨.hbm, 884, rfl⟩
abbrev main_call5_v13 : Ref sig .tc := ⟨.hbm, 885, rfl⟩
abbrev main_call5_v14 : Ref sig .tc := ⟨.hbm, 886, rfl⟩
abbrev main_call5_c_1 : Ref sig .tc := ⟨.hbm, 887, rfl⟩
abbrev main_call5_v15 : Ref sig .tc := ⟨.hbm, 888, rfl⟩
abbrev main_call5_v16 : Ref sig .tc := ⟨.hbm, 889, rfl⟩
abbrev main_call5_v17 : Ref sig .tc := ⟨.hbm, 890, rfl⟩
abbrev main_call5_v18 : Ref sig .tc := ⟨.hbm, 891, rfl⟩
abbrev main_call5_call0_v0 : Ref sig .tc := ⟨.hbm, 892, rfl⟩
abbrev main_call5_call0_c : Ref sig .tc := ⟨.hbm, 893, rfl⟩
abbrev main_call5_call0_v1 : Ref sig .tc := ⟨.hbm, 894, rfl⟩
abbrev main_call5_call0_v2 : Ref sig .tc := ⟨.hbm, 895, rfl⟩
abbrev main_call5_call0_v3 : Ref sig .tc := ⟨.hbm, 896, rfl⟩
abbrev main_call5_call0_v4 : Ref sig .tc := ⟨.hbm, 897, rfl⟩
abbrev main_call5_call0_v5 : Ref sig .tc := ⟨.hbm, 898, rfl⟩
abbrev main_call5_call0_v6 : Ref sig .tc := ⟨.hbm, 899, rfl⟩
abbrev main_call5_call0_c_0 : Ref sig .tc := ⟨.hbm, 900, rfl⟩
abbrev main_call5_call0_v7 : Ref sig .tc := ⟨.hbm, 901, rfl⟩
abbrev main_call5_call0_v8 : Ref sig .tc := ⟨.hbm, 902, rfl⟩
abbrev main_call5_call0_c_1 : Ref sig .tc := ⟨.hbm, 903, rfl⟩
abbrev main_call5_call0_v9 : Ref sig .tc := ⟨.hbm, 904, rfl⟩
abbrev main_call5_call0_v10 : Ref sig .tc := ⟨.hbm, 905, rfl⟩
abbrev main_call5_call0_v11 : Ref sig .tc := ⟨.hbm, 906, rfl⟩
abbrev main_call5_call0_v12 : Ref sig .tc := ⟨.hbm, 907, rfl⟩
abbrev main_call5_call0_v13 : Ref sig .tc := ⟨.hbm, 908, rfl⟩
abbrev main_call5_call0_c_2 : Ref sig .tc := ⟨.hbm, 909, rfl⟩
abbrev main_call5_call0_v14 : Ref sig .tc := ⟨.hbm, 910, rfl⟩
abbrev main_call5_call0_v15 : Ref sig .tc := ⟨.hbm, 911, rfl⟩
abbrev main_call5_call0_c_3 : Ref sig .tc := ⟨.hbm, 912, rfl⟩
abbrev main_call5_call0_v16 : Ref sig .tc := ⟨.hbm, 913, rfl⟩
abbrev main_call5_call0_v17 : Ref sig .tc := ⟨.hbm, 914, rfl⟩
abbrev main_call5_call0_v18 : Ref sig .tc := ⟨.hbm, 915, rfl⟩
abbrev main_call5_call0_v19 : Ref sig .tc := ⟨.hbm, 916, rfl⟩
abbrev main_call5_call0_v20 : Ref sig .tc := ⟨.hbm, 917, rfl⟩
abbrev main_call5_call0_c_4 : Ref sig .tc := ⟨.hbm, 918, rfl⟩
abbrev main_call5_call0_v21 : Ref sig .tc := ⟨.hbm, 919, rfl⟩
abbrev main_call5_call0_v22 : Ref sig .tc := ⟨.hbm, 920, rfl⟩
abbrev main_call5_call0_c_5 : Ref sig .tc := ⟨.hbm, 921, rfl⟩
abbrev main_call5_call0_v23 : Ref sig .tc := ⟨.hbm, 922, rfl⟩
abbrev main_call5_call0_v24 : Ref sig .tc := ⟨.hbm, 923, rfl⟩
abbrev main_call5_call0_v25 : Ref sig .tc := ⟨.hbm, 924, rfl⟩
abbrev main_call5_call0_v26 : Ref sig .tc := ⟨.hbm, 925, rfl⟩
abbrev main_call5_call0_v27 : Ref sig .tc := ⟨.hbm, 926, rfl⟩
abbrev main_call5_call0_c_6 : Ref sig .tc := ⟨.hbm, 927, rfl⟩
abbrev main_call5_call0_v28 : Ref sig .tc := ⟨.hbm, 928, rfl⟩
abbrev main_call5_call0_v29 : Ref sig .tc := ⟨.hbm, 929, rfl⟩
abbrev main_call5_call0_c_7 : Ref sig .tc := ⟨.hbm, 930, rfl⟩
abbrev main_call5_call0_v30 : Ref sig .tc := ⟨.hbm, 931, rfl⟩
abbrev main_call5_call0_v31 : Ref sig .tc := ⟨.hbm, 932, rfl⟩
abbrev main_call5_call0_v32 : Ref sig .tc := ⟨.hbm, 933, rfl⟩
abbrev main_call5_call0_v33 : Ref sig .tc := ⟨.hbm, 934, rfl⟩
abbrev main_call5_call0_v34 : Ref sig .tc := ⟨.hbm, 935, rfl⟩
abbrev main_call5_call0_v35 : Ref sig .tc := ⟨.hbm, 936, rfl⟩
abbrev main_call5_call0_v36 : Ref sig .tc := ⟨.hbm, 937, rfl⟩
abbrev main_call5_call0_v37 : Ref sig .tc := ⟨.hbm, 938, rfl⟩
abbrev main_call5_call0_c_8 : Ref sig .tc := ⟨.hbm, 939, rfl⟩
abbrev main_call5_call0_v38 : Ref sig .tc := ⟨.hbm, 940, rfl⟩
abbrev main_call5_call0_v39 : Ref sig .tc := ⟨.hbm, 941, rfl⟩
abbrev main_call5_call0_v40 : Ref sig .tc := ⟨.hbm, 942, rfl⟩
abbrev main_call5_call0_c_9 : Ref sig .tc := ⟨.hbm, 943, rfl⟩
abbrev main_call5_call0_v41 : Ref sig .tc := ⟨.hbm, 944, rfl⟩
abbrev main_call5_call0_v42 : Ref sig .tc := ⟨.hbm, 945, rfl⟩
abbrev main_call5_call0_c_10 : Ref sig .tc := ⟨.hbm, 946, rfl⟩
abbrev main_call5_call0_v43 : Ref sig .tc := ⟨.hbm, 947, rfl⟩
abbrev main_call5_call0_v44 : Ref sig .tc := ⟨.hbm, 948, rfl⟩
abbrev main_call5_call0_v45 : Ref sig .tc := ⟨.hbm, 949, rfl⟩
abbrev main_call5_call0_v46 : Ref sig .tc := ⟨.hbm, 950, rfl⟩
abbrev main_call5_call0_v47 : Ref sig .tc := ⟨.hbm, 951, rfl⟩
abbrev main_call5_call0_c_11 : Ref sig .tc := ⟨.hbm, 952, rfl⟩
abbrev main_call5_call0_v48 : Ref sig .tc := ⟨.hbm, 953, rfl⟩
abbrev main_call5_call0_v49 : Ref sig .tc := ⟨.hbm, 954, rfl⟩
abbrev main_call5_call0_c_12 : Ref sig .tc := ⟨.hbm, 955, rfl⟩
abbrev main_call5_call0_v50 : Ref sig .tc := ⟨.hbm, 956, rfl⟩
abbrev main_call5_call0_v51 : Ref sig .tc := ⟨.hbm, 957, rfl⟩
abbrev main_call5_call0_v52 : Ref sig .tc := ⟨.hbm, 958, rfl⟩
abbrev main_call5_call0_v53 : Ref sig .tc := ⟨.hbm, 959, rfl⟩
abbrev main_call5_call0_v54 : Ref sig .tc := ⟨.hbm, 960, rfl⟩
abbrev main_call5_call0_c_13 : Ref sig .tc := ⟨.hbm, 961, rfl⟩
abbrev main_call5_call0_v55 : Ref sig .tc := ⟨.hbm, 962, rfl⟩
abbrev main_call5_call0_v56 : Ref sig .tc := ⟨.hbm, 963, rfl⟩
abbrev main_call5_call0_c_14 : Ref sig .tc := ⟨.hbm, 964, rfl⟩
abbrev main_call5_call0_v57 : Ref sig .tc := ⟨.hbm, 965, rfl⟩
abbrev main_call5_call0_v58 : Ref sig .tc := ⟨.hbm, 966, rfl⟩
abbrev main_call5_call0_v59 : Ref sig .tc := ⟨.hbm, 967, rfl⟩
abbrev main_call5_call0_v60 : Ref sig .tc := ⟨.hbm, 968, rfl⟩
abbrev main_call5_call0_v61 : Ref sig .tc := ⟨.hbm, 969, rfl⟩
abbrev main_call5_call0_c_15 : Ref sig .tc := ⟨.hbm, 970, rfl⟩
abbrev main_call5_call0_v62 : Ref sig .tc := ⟨.hbm, 971, rfl⟩
abbrev main_call5_call0_v63 : Ref sig .tc := ⟨.hbm, 972, rfl⟩
abbrev main_call5_call0_c_16 : Ref sig .tc := ⟨.hbm, 973, rfl⟩
abbrev main_call5_call0_v64 : Ref sig .tc := ⟨.hbm, 974, rfl⟩
abbrev main_call5_call0_v65 : Ref sig .tc := ⟨.hbm, 975, rfl⟩
abbrev main_call5_call0_v66 : Ref sig .tc := ⟨.hbm, 976, rfl⟩
abbrev main_call5_call0_v67 : Ref sig .tc := ⟨.hbm, 977, rfl⟩
abbrev main_call5_call0_v68 : Ref sig .tc := ⟨.hbm, 978, rfl⟩
abbrev main_call5_call0_v69 : Ref sig .tc := ⟨.hbm, 979, rfl⟩
abbrev main_call5_call0_v70 : Ref sig .tc := ⟨.hbm, 980, rfl⟩
abbrev main_call5_call0_v71 : Ref sig .tc := ⟨.hbm, 981, rfl⟩
abbrev main_call5_call0_c_17 : Ref sig .tc := ⟨.hbm, 982, rfl⟩
abbrev main_call5_call0_v72 : Ref sig .tc := ⟨.hbm, 983, rfl⟩
abbrev main_call5_call0_v73 : Ref sig .tc := ⟨.hbm, 984, rfl⟩
abbrev main_call5_call0_v74 : Ref sig .tc := ⟨.hbm, 985, rfl⟩
abbrev main_call5_call0_c_18 : Ref sig .tc := ⟨.hbm, 986, rfl⟩
abbrev main_call5_call0_v75 : Ref sig .tc := ⟨.hbm, 987, rfl⟩
abbrev main_call5_call0_v76 : Ref sig .tc := ⟨.hbm, 988, rfl⟩
abbrev main_call5_call0_c_19 : Ref sig .tc := ⟨.hbm, 989, rfl⟩
abbrev main_call5_call0_v77 : Ref sig .tc := ⟨.hbm, 990, rfl⟩
abbrev main_call5_call0_v78 : Ref sig .tc := ⟨.hbm, 991, rfl⟩
abbrev main_call5_call0_v79 : Ref sig .tc := ⟨.hbm, 992, rfl⟩
abbrev main_call5_call0_v80 : Ref sig .tc := ⟨.hbm, 993, rfl⟩
abbrev main_call5_call0_v81 : Ref sig .tc := ⟨.hbm, 994, rfl⟩
abbrev main_call5_call0_c_20 : Ref sig .tc := ⟨.hbm, 995, rfl⟩
abbrev main_call5_call0_v82 : Ref sig .tc := ⟨.hbm, 996, rfl⟩
abbrev main_call5_call0_v83 : Ref sig .tc := ⟨.hbm, 997, rfl⟩
abbrev main_call5_call0_c_21 : Ref sig .tc := ⟨.hbm, 998, rfl⟩
abbrev main_call5_call0_v84 : Ref sig .tc := ⟨.hbm, 999, rfl⟩
abbrev main_call5_call0_v85 : Ref sig .tc := ⟨.hbm, 1000, rfl⟩
abbrev main_call5_call0_v86 : Ref sig .tc := ⟨.hbm, 1001, rfl⟩
abbrev main_call5_call0_v87 : Ref sig .tc := ⟨.hbm, 1002, rfl⟩
abbrev main_call5_call0_v88 : Ref sig .tc := ⟨.hbm, 1003, rfl⟩
abbrev main_call5_call0_c_22 : Ref sig .tc := ⟨.hbm, 1004, rfl⟩
abbrev main_call5_call0_v89 : Ref sig .tc := ⟨.hbm, 1005, rfl⟩
abbrev main_call5_call0_v90 : Ref sig .tc := ⟨.hbm, 1006, rfl⟩
abbrev main_call5_call0_c_23 : Ref sig .tc := ⟨.hbm, 1007, rfl⟩
abbrev main_call5_call0_v91 : Ref sig .tc := ⟨.hbm, 1008, rfl⟩
abbrev main_call5_call0_v92 : Ref sig .tc := ⟨.hbm, 1009, rfl⟩
abbrev main_call5_call0_v93 : Ref sig .tc := ⟨.hbm, 1010, rfl⟩
abbrev main_call5_call0_v94 : Ref sig .tc := ⟨.hbm, 1011, rfl⟩
abbrev main_call5_call0_v95 : Ref sig .tc := ⟨.hbm, 1012, rfl⟩
abbrev main_call5_call0_c_24 : Ref sig .tc := ⟨.hbm, 1013, rfl⟩
abbrev main_call5_call0_v96 : Ref sig .tc := ⟨.hbm, 1014, rfl⟩
abbrev main_call5_call0_v97 : Ref sig .tc := ⟨.hbm, 1015, rfl⟩
abbrev main_call5_call0_c_25 : Ref sig .tc := ⟨.hbm, 1016, rfl⟩
abbrev main_call5_call0_v98 : Ref sig .tc := ⟨.hbm, 1017, rfl⟩
abbrev main_call5_call0_v99 : Ref sig .tc := ⟨.hbm, 1018, rfl⟩
abbrev main_call5_call0_v100 : Ref sig .tc := ⟨.hbm, 1019, rfl⟩
abbrev main_call5_call0_v101 : Ref sig .tc := ⟨.hbm, 1020, rfl⟩
abbrev main_call5_call0_v102 : Ref sig .tc := ⟨.hbm, 1021, rfl⟩
abbrev main_call5_call0_v103 : Ref sig .tc := ⟨.hbm, 1022, rfl⟩
abbrev main_call5_call0_v104 : Ref sig .tc := ⟨.hbm, 1023, rfl⟩
abbrev main_call5_call0_v105 : Ref sig .tc := ⟨.hbm, 1024, rfl⟩
abbrev main_call5_call0_c_26 : Ref sig .tc := ⟨.hbm, 1025, rfl⟩
abbrev main_call5_call0_v106 : Ref sig .tc := ⟨.hbm, 1026, rfl⟩
abbrev main_call5_call0_v107 : Ref sig .tc := ⟨.hbm, 1027, rfl⟩
abbrev main_call5_call0_v108 : Ref sig .tc := ⟨.hbm, 1028, rfl⟩
abbrev main_call5_call0_c_27 : Ref sig .tc := ⟨.hbm, 1029, rfl⟩
abbrev main_call5_call0_v109 : Ref sig .tc := ⟨.hbm, 1030, rfl⟩
abbrev main_call5_call0_v110 : Ref sig .tc := ⟨.hbm, 1031, rfl⟩
abbrev main_call5_call0_c_28 : Ref sig .tc := ⟨.hbm, 1032, rfl⟩
abbrev main_call5_call0_v111 : Ref sig .tc := ⟨.hbm, 1033, rfl⟩
abbrev main_call5_call0_v112 : Ref sig .tc := ⟨.hbm, 1034, rfl⟩
abbrev main_call5_call0_v113 : Ref sig .tc := ⟨.hbm, 1035, rfl⟩
abbrev main_call5_call0_v114 : Ref sig .tc := ⟨.hbm, 1036, rfl⟩
abbrev main_call5_call0_v115 : Ref sig .tc := ⟨.hbm, 1037, rfl⟩
abbrev main_call5_call0_c_29 : Ref sig .tc := ⟨.hbm, 1038, rfl⟩
abbrev main_call5_call0_v116 : Ref sig .tc := ⟨.hbm, 1039, rfl⟩
abbrev main_call5_call0_v117 : Ref sig .tc := ⟨.hbm, 1040, rfl⟩
abbrev main_call5_call0_c_30 : Ref sig .tc := ⟨.hbm, 1041, rfl⟩
abbrev main_call5_call0_v118 : Ref sig .tc := ⟨.hbm, 1042, rfl⟩
abbrev main_call5_call0_v119 : Ref sig .tc := ⟨.hbm, 1043, rfl⟩
abbrev main_call5_call0_v120 : Ref sig .tc := ⟨.hbm, 1044, rfl⟩
abbrev main_call5_call0_v121 : Ref sig .tc := ⟨.hbm, 1045, rfl⟩
abbrev main_call5_call0_v122 : Ref sig .tc := ⟨.hbm, 1046, rfl⟩
abbrev main_call5_call0_c_31 : Ref sig .tc := ⟨.hbm, 1047, rfl⟩
abbrev main_call5_call0_v123 : Ref sig .tc := ⟨.hbm, 1048, rfl⟩
abbrev main_call5_call0_v124 : Ref sig .tc := ⟨.hbm, 1049, rfl⟩
abbrev main_call5_call0_c_32 : Ref sig .tc := ⟨.hbm, 1050, rfl⟩
abbrev main_call5_call0_v125 : Ref sig .tc := ⟨.hbm, 1051, rfl⟩
abbrev main_call5_call0_v126 : Ref sig .tc := ⟨.hbm, 1052, rfl⟩
abbrev main_call5_call0_v127 : Ref sig .tc := ⟨.hbm, 1053, rfl⟩
abbrev main_call5_call0_v128 : Ref sig .tc := ⟨.hbm, 1054, rfl⟩
abbrev main_call5_call0_v129 : Ref sig .tc := ⟨.hbm, 1055, rfl⟩
abbrev main_call5_call0_c_33 : Ref sig .tc := ⟨.hbm, 1056, rfl⟩
abbrev main_call5_call0_v130 : Ref sig .tc := ⟨.hbm, 1057, rfl⟩
abbrev main_call5_call0_v131 : Ref sig .tc := ⟨.hbm, 1058, rfl⟩
abbrev main_call5_call0_c_34 : Ref sig .tc := ⟨.hbm, 1059, rfl⟩
abbrev main_call5_call0_v132 : Ref sig .tc := ⟨.hbm, 1060, rfl⟩
abbrev main_call5_call0_v133 : Ref sig .tc := ⟨.hbm, 1061, rfl⟩
abbrev main_call5_call0_v134 : Ref sig .tc := ⟨.hbm, 1062, rfl⟩
abbrev main_call5_call0_v135 : Ref sig .tc := ⟨.hbm, 1063, rfl⟩
abbrev main_call5_call0_v136 : Ref sig .tc := ⟨.hbm, 1064, rfl⟩
abbrev main_call5_call0_v137 : Ref sig .tc := ⟨.hbm, 1065, rfl⟩
abbrev main_call5_call0_v138 : Ref sig .tc := ⟨.hbm, 1066, rfl⟩
abbrev main_call5_call0_v139 : Ref sig .tc := ⟨.hbm, 1067, rfl⟩
abbrev main_call5_call0_c_35 : Ref sig .tc := ⟨.hbm, 1068, rfl⟩
abbrev main_call5_call0_v140 : Ref sig .tc := ⟨.hbm, 1069, rfl⟩
abbrev main_call5_call0_v141 : Ref sig .tc := ⟨.hbm, 1070, rfl⟩
abbrev main_call5_call0_v142 : Ref sig .tc := ⟨.hbm, 1071, rfl⟩
abbrev main_call5_call0_c_36 : Ref sig .tc := ⟨.hbm, 1072, rfl⟩
abbrev main_call5_call0_v143 : Ref sig .tc := ⟨.hbm, 1073, rfl⟩
abbrev main_call5_call0_v144 : Ref sig .tc := ⟨.hbm, 1074, rfl⟩
abbrev main_call5_call0_c_37 : Ref sig .tc := ⟨.hbm, 1075, rfl⟩
abbrev main_call5_call0_v145 : Ref sig .tc := ⟨.hbm, 1076, rfl⟩
abbrev main_call5_call0_v146 : Ref sig .tc := ⟨.hbm, 1077, rfl⟩
abbrev main_call5_call0_v147 : Ref sig .tc := ⟨.hbm, 1078, rfl⟩
abbrev main_call5_call0_v148 : Ref sig .tc := ⟨.hbm, 1079, rfl⟩
abbrev main_call5_call0_v149 : Ref sig .tc := ⟨.hbm, 1080, rfl⟩
abbrev main_call5_call0_c_38 : Ref sig .tc := ⟨.hbm, 1081, rfl⟩
abbrev main_call5_call0_v150 : Ref sig .tc := ⟨.hbm, 1082, rfl⟩
abbrev main_call5_call0_v151 : Ref sig .tc := ⟨.hbm, 1083, rfl⟩
abbrev main_call5_call0_c_39 : Ref sig .tc := ⟨.hbm, 1084, rfl⟩
abbrev main_call5_call0_v152 : Ref sig .tc := ⟨.hbm, 1085, rfl⟩
abbrev main_call5_call0_v153 : Ref sig .tc := ⟨.hbm, 1086, rfl⟩
abbrev main_call5_call0_v154 : Ref sig .tc := ⟨.hbm, 1087, rfl⟩
abbrev main_call5_call0_v155 : Ref sig .tc := ⟨.hbm, 1088, rfl⟩
abbrev main_call5_call0_v156 : Ref sig .tc := ⟨.hbm, 1089, rfl⟩
abbrev main_call5_call0_c_40 : Ref sig .tc := ⟨.hbm, 1090, rfl⟩
abbrev main_call5_call0_v157 : Ref sig .tc := ⟨.hbm, 1091, rfl⟩
abbrev main_call5_call0_v158 : Ref sig .tc := ⟨.hbm, 1092, rfl⟩
abbrev main_call5_call0_c_41 : Ref sig .tc := ⟨.hbm, 1093, rfl⟩
abbrev main_call5_call0_v159 : Ref sig .tc := ⟨.hbm, 1094, rfl⟩
abbrev main_call5_call0_v160 : Ref sig .tc := ⟨.hbm, 1095, rfl⟩
abbrev main_call5_call0_v161 : Ref sig .tc := ⟨.hbm, 1096, rfl⟩
abbrev main_call5_call0_v162 : Ref sig .tc := ⟨.hbm, 1097, rfl⟩
abbrev main_call5_call0_v163 : Ref sig .tc := ⟨.hbm, 1098, rfl⟩
abbrev main_call5_call0_c_42 : Ref sig .tc := ⟨.hbm, 1099, rfl⟩
abbrev main_call5_call0_v164 : Ref sig .tc := ⟨.hbm, 1100, rfl⟩
abbrev main_call5_call0_v165 : Ref sig .tc := ⟨.hbm, 1101, rfl⟩
abbrev main_call5_call0_c_43 : Ref sig .tc := ⟨.hbm, 1102, rfl⟩
abbrev main_call5_call0_v166 : Ref sig .tc := ⟨.hbm, 1103, rfl⟩
abbrev main_call5_call0_v167 : Ref sig .tc := ⟨.hbm, 1104, rfl⟩
abbrev main_call5_call0_v168 : Ref sig .tc := ⟨.hbm, 1105, rfl⟩
abbrev main_call5_call0_v169 : Ref sig .tc := ⟨.hbm, 1106, rfl⟩
abbrev main_call5_call0_v170 : Ref sig .tc := ⟨.hbm, 1107, rfl⟩
abbrev main_call5_v19_0 : Ref sig .tc := ⟨.hbm, 1108, rfl⟩
abbrev main_call5_call0_v172 : Ref sig .tc := ⟨.hbm, 1109, rfl⟩
abbrev main_call5_call0_v173 : Ref sig .tc := ⟨.hbm, 1110, rfl⟩
abbrev main_call5_call0_c_44 : Ref sig .tc := ⟨.hbm, 1111, rfl⟩
abbrev main_call5_call0_v174 : Ref sig .tc := ⟨.hbm, 1112, rfl⟩
abbrev main_call5_v19_1 : Ref sig .tc := ⟨.hbm, 1113, rfl⟩
abbrev main_call5_v20 : Ref sig .tc := ⟨.hbm, 1114, rfl⟩
abbrev main_call5_c_2 : Ref sig .tc := ⟨.hbm, 1115, rfl⟩
abbrev main_call5_v21 : Ref sig .tc := ⟨.hbm, 1116, rfl⟩
abbrev main_call5_v22 : Ref sig .tc := ⟨.hbm, 1117, rfl⟩
abbrev main_call5_c_3 : Ref sig .tc := ⟨.hbm, 1118, rfl⟩
abbrev main_call5_v23 : Ref sig .tc := ⟨.hbm, 1119, rfl⟩
abbrev main_call5_v24 : Ref sig .tc := ⟨.hbm, 1120, rfl⟩
abbrev main_call5_v25 : Ref sig .tc := ⟨.hbm, 1121, rfl⟩
abbrev main_call5_cst : Ref sig .tc := ⟨.hbm, 1122, rfl⟩
abbrev main_call5_v26 : Ref sig .tc := ⟨.hbm, 1123, rfl⟩
abbrev main_call5_v27 : Ref sig .tc := ⟨.hbm, 1124, rfl⟩
abbrev main_call5_v28 : Ref sig .tc := ⟨.hbm, 1125, rfl⟩
abbrev main_call5_v29 : Ref sig .tc := ⟨.hbm, 1126, rfl⟩
abbrev main_call5_v30 : Ref sig .tc := ⟨.hbm, 1127, rfl⟩
abbrev main_call5_v31 : Ref sig .tc := ⟨.hbm, 1128, rfl⟩
abbrev main_call5_v32 : Ref sig .tc := ⟨.hbm, 1129, rfl⟩
abbrev main_call5_v33 : Ref sig .tc := ⟨.hbm, 1130, rfl⟩
abbrev main_v102 : Ref sig .tc := ⟨.hbm, 1131, rfl⟩
abbrev main_cst_24 : Ref sig .tc := ⟨.hbm, 1132, rfl⟩
abbrev main_v103 : Ref sig .tc := ⟨.hbm, 1133, rfl⟩
abbrev main_v104 : Ref sig .tc := ⟨.hbm, 1134, rfl⟩
abbrev main_cst_25 : Ref sig .tc := ⟨.hbm, 1135, rfl⟩
abbrev main_v105 : Ref sig .tc := ⟨.hbm, 1136, rfl⟩
abbrev main_v106 : Ref sig .tc := ⟨.hbm, 1137, rfl⟩
abbrev main_cst_26 : Ref sig .tc := ⟨.hbm, 1138, rfl⟩
abbrev main_v107 : Ref sig .tc := ⟨.hbm, 1139, rfl⟩
abbrev main_v108 : Ref sig .tc := ⟨.hbm, 1140, rfl⟩
abbrev main_v109 : Ref sig .tc := ⟨.hbm, 1141, rfl⟩
abbrev main_v110 : Ref sig .tc := ⟨.hbm, 1142, rfl⟩
abbrev main_v111 : Ref sig .tc := ⟨.hbm, 1143, rfl⟩
abbrev main_v112 : Ref sig .tc := ⟨.hbm, 1144, rfl⟩
abbrev main_v113 : Ref sig .tc := ⟨.hbm, 1145, rfl⟩
abbrev main_call6_v0 : Ref sig .tc := ⟨.hbm, 1146, rfl⟩
abbrev main_call6_cst : Ref sig .tc := ⟨.hbm, 1147, rfl⟩
abbrev main_call6_c : Ref sig .tc := ⟨.hbm, 1148, rfl⟩
abbrev main_call6_v1_0 : Ref sig .tc := ⟨.hbm, 1149, rfl⟩
abbrev main_v114 : Ref sig .tc := ⟨.hbm, 1150, rfl⟩
abbrev main_call7_v0 : Ref sig .tc := ⟨.hbm, 1151, rfl⟩
abbrev main_call7_v1 : Ref sig .tc := ⟨.hbm, 1152, rfl⟩
abbrev main_call7_v2 : Ref sig .tc := ⟨.hbm, 1153, rfl⟩
abbrev main_call7_v3 : Ref sig .tc := ⟨.hbm, 1154, rfl⟩
abbrev main_call7_v4 : Ref sig .tc := ⟨.hbm, 1155, rfl⟩
abbrev main_v115 : Ref sig .tc := ⟨.hbm, 1156, rfl⟩
abbrev main_cst_27 : Ref sig .tc := ⟨.hbm, 1157, rfl⟩
abbrev main_v116 : Ref sig .tc := ⟨.hbm, 1158, rfl⟩
abbrev main_v117 : Ref sig .tc := ⟨.hbm, 1159, rfl⟩
abbrev main_v118 : Ref sig .tc := ⟨.hbm, 1160, rfl⟩
abbrev main_cst_28 : Ref sig .tc := ⟨.hbm, 1161, rfl⟩
abbrev main_v119 : Ref sig .tc := ⟨.hbm, 1162, rfl⟩
abbrev main_v120 : Ref sig .tc := ⟨.hbm, 1163, rfl⟩
abbrev main_v121 : Ref sig .tc := ⟨.hbm, 1164, rfl⟩
abbrev main_cst_29 : Ref sig .tc := ⟨.hbm, 1165, rfl⟩
abbrev main_v122 : Ref sig .tc := ⟨.hbm, 1166, rfl⟩
abbrev main_v123 : Ref sig .tc := ⟨.hbm, 1167, rfl⟩
abbrev main_v124 : Ref sig .tc := ⟨.hbm, 1168, rfl⟩
abbrev main_v125 : Ref sig .tc := ⟨.hbm, 1169, rfl⟩
abbrev main_v126 : Ref sig .tc := ⟨.hbm, 1170, rfl⟩
abbrev main_v127 : Ref sig .tc := ⟨.hbm, 1171, rfl⟩
abbrev main_cst_30 : Ref sig .tc := ⟨.hbm, 1172, rfl⟩
abbrev main_v128 : Ref sig .tc := ⟨.hbm, 1173, rfl⟩
abbrev main_v129 : Ref sig .tc := ⟨.hbm, 1174, rfl⟩
abbrev main_v130 : Ref sig .tc := ⟨.hbm, 1175, rfl⟩
abbrev main_v131 : Ref sig .tc := ⟨.hbm, 1176, rfl⟩
abbrev main_v132 : Ref sig .tc := ⟨.hbm, 1177, rfl⟩
abbrev main_v133 : Ref sig .tc := ⟨.hbm, 1178, rfl⟩
abbrev main_cst_31 : Ref sig .tc := ⟨.hbm, 1179, rfl⟩
abbrev main_v134 : Ref sig .tc := ⟨.hbm, 1180, rfl⟩
abbrev main_v135 : Ref sig .tc := ⟨.hbm, 1181, rfl⟩
abbrev main_cst_32 : Ref sig .tc := ⟨.hbm, 1182, rfl⟩
abbrev main_v136 : Ref sig .tc := ⟨.hbm, 1183, rfl⟩
abbrev main_v137 : Ref sig .tc := ⟨.hbm, 1184, rfl⟩
abbrev main_v138 : Ref sig .tc := ⟨.hbm, 1185, rfl⟩
abbrev main_cst_33 : Ref sig .tc := ⟨.hbm, 1186, rfl⟩
abbrev main_v139 : Ref sig .tc := ⟨.hbm, 1187, rfl⟩
abbrev main_v140 : Ref sig .tc := ⟨.hbm, 1188, rfl⟩
abbrev main_v141 : Ref sig .tc := ⟨.hbm, 1189, rfl⟩
abbrev main_v142 : Ref sig .tc := ⟨.hbm, 1190, rfl⟩
abbrev main_v143 : Ref sig .tc := ⟨.hbm, 1191, rfl⟩
abbrev main_v144 : Ref sig .tc := ⟨.hbm, 1192, rfl⟩
abbrev main_v145 : Ref sig .tc := ⟨.hbm, 1193, rfl⟩
abbrev main_cst_34 : Ref sig .tc := ⟨.hbm, 1194, rfl⟩
abbrev main_v146 : Ref sig .tc := ⟨.hbm, 1195, rfl⟩
abbrev main_v147 : Ref sig .tc := ⟨.hbm, 1196, rfl⟩
abbrev main_cst_35 : Ref sig .tc := ⟨.hbm, 1197, rfl⟩
abbrev main_v148 : Ref sig .tc := ⟨.hbm, 1198, rfl⟩
abbrev main_v149 : Ref sig .tc := ⟨.hbm, 1199, rfl⟩
abbrev main_v150 : Ref sig .tc := ⟨.hbm, 1200, rfl⟩
abbrev main_v151 : Ref sig .tc := ⟨.hbm, 1201, rfl⟩
abbrev main_c_36 : Ref sig .tc := ⟨.hbm, 1202, rfl⟩
abbrev main_call8_c : Ref sig .tc := ⟨.hbm, 1203, rfl⟩
abbrev main_call8_v0 : Ref sig .tc := ⟨.hbm, 1204, rfl⟩
abbrev main_call8_v1 : Ref sig .tc := ⟨.hbm, 1205, rfl⟩
abbrev main_call8_c_0 : Ref sig .tc := ⟨.hbm, 1206, rfl⟩
abbrev main_call8_v2 : Ref sig .tc := ⟨.hbm, 1207, rfl⟩
abbrev main_call8_v3 : Ref sig .tc := ⟨.hbm, 1208, rfl⟩
abbrev main_call8_v4 : Ref sig .tc := ⟨.hbm, 1209, rfl⟩
abbrev main_call8_v5 : Ref sig .tc := ⟨.hbm, 1210, rfl⟩
abbrev main_call8_v6 : Ref sig .tc := ⟨.hbm, 1211, rfl⟩
abbrev main_call8_v7 : Ref sig .tc := ⟨.hbm, 1212, rfl⟩
abbrev main_call8_v8 : Ref sig .tc := ⟨.hbm, 1213, rfl⟩
abbrev main_call8_v9 : Ref sig .tc := ⟨.hbm, 1214, rfl⟩
abbrev main_call8_v10 : Ref sig .tc := ⟨.hbm, 1215, rfl⟩
abbrev main_call8_call0_v0 : Ref sig .tc := ⟨.hbm, 1216, rfl⟩
abbrev main_call8_call0_c : Ref sig .tc := ⟨.hbm, 1217, rfl⟩
abbrev main_call8_call0_v1 : Ref sig .tc := ⟨.hbm, 1218, rfl⟩
abbrev main_call8_call0_v2 : Ref sig .tc := ⟨.hbm, 1219, rfl⟩
abbrev main_call8_call0_v3 : Ref sig .tc := ⟨.hbm, 1220, rfl⟩
abbrev main_call8_call0_v4 : Ref sig .tc := ⟨.hbm, 1221, rfl⟩
abbrev main_call8_call0_v5 : Ref sig .tc := ⟨.hbm, 1222, rfl⟩
abbrev main_call8_call0_v6 : Ref sig .tc := ⟨.hbm, 1223, rfl⟩
abbrev main_call8_call0_c_0 : Ref sig .tc := ⟨.hbm, 1224, rfl⟩
abbrev main_call8_call0_v7 : Ref sig .tc := ⟨.hbm, 1225, rfl⟩
abbrev main_call8_call0_v8 : Ref sig .tc := ⟨.hbm, 1226, rfl⟩
abbrev main_call8_call0_c_1 : Ref sig .tc := ⟨.hbm, 1227, rfl⟩
abbrev main_call8_call0_v9 : Ref sig .tc := ⟨.hbm, 1228, rfl⟩
abbrev main_call8_call0_v10 : Ref sig .tc := ⟨.hbm, 1229, rfl⟩
abbrev main_call8_call0_v11 : Ref sig .tc := ⟨.hbm, 1230, rfl⟩
abbrev main_call8_call0_v12 : Ref sig .tc := ⟨.hbm, 1231, rfl⟩
abbrev main_call8_call0_v13 : Ref sig .tc := ⟨.hbm, 1232, rfl⟩
abbrev main_call8_call0_c_2 : Ref sig .tc := ⟨.hbm, 1233, rfl⟩
abbrev main_call8_call0_v14 : Ref sig .tc := ⟨.hbm, 1234, rfl⟩
abbrev main_call8_call0_v15 : Ref sig .tc := ⟨.hbm, 1235, rfl⟩
abbrev main_call8_call0_c_3 : Ref sig .tc := ⟨.hbm, 1236, rfl⟩
abbrev main_call8_call0_v16 : Ref sig .tc := ⟨.hbm, 1237, rfl⟩
abbrev main_call8_call0_v17 : Ref sig .tc := ⟨.hbm, 1238, rfl⟩
abbrev main_call8_call0_v18 : Ref sig .tc := ⟨.hbm, 1239, rfl⟩
abbrev main_call8_call0_v19 : Ref sig .tc := ⟨.hbm, 1240, rfl⟩
abbrev main_call8_call0_v20 : Ref sig .tc := ⟨.hbm, 1241, rfl⟩
abbrev main_call8_call0_c_4 : Ref sig .tc := ⟨.hbm, 1242, rfl⟩
abbrev main_call8_call0_v21 : Ref sig .tc := ⟨.hbm, 1243, rfl⟩
abbrev main_call8_call0_v22 : Ref sig .tc := ⟨.hbm, 1244, rfl⟩
abbrev main_call8_call0_c_5 : Ref sig .tc := ⟨.hbm, 1245, rfl⟩
abbrev main_call8_call0_v23 : Ref sig .tc := ⟨.hbm, 1246, rfl⟩
abbrev main_call8_call0_v24 : Ref sig .tc := ⟨.hbm, 1247, rfl⟩
abbrev main_call8_call0_v25 : Ref sig .tc := ⟨.hbm, 1248, rfl⟩
abbrev main_call8_call0_v26 : Ref sig .tc := ⟨.hbm, 1249, rfl⟩
abbrev main_call8_call0_v27 : Ref sig .tc := ⟨.hbm, 1250, rfl⟩
abbrev main_call8_call0_c_6 : Ref sig .tc := ⟨.hbm, 1251, rfl⟩
abbrev main_call8_call0_v28 : Ref sig .tc := ⟨.hbm, 1252, rfl⟩
abbrev main_call8_call0_v29 : Ref sig .tc := ⟨.hbm, 1253, rfl⟩
abbrev main_call8_call0_c_7 : Ref sig .tc := ⟨.hbm, 1254, rfl⟩
abbrev main_call8_call0_v30 : Ref sig .tc := ⟨.hbm, 1255, rfl⟩
abbrev main_call8_call0_v31 : Ref sig .tc := ⟨.hbm, 1256, rfl⟩
abbrev main_call8_call0_v32 : Ref sig .tc := ⟨.hbm, 1257, rfl⟩
abbrev main_call8_call0_v33 : Ref sig .tc := ⟨.hbm, 1258, rfl⟩
abbrev main_call8_call0_v34 : Ref sig .tc := ⟨.hbm, 1259, rfl⟩
abbrev main_call8_call0_v35 : Ref sig .tc := ⟨.hbm, 1260, rfl⟩
abbrev main_call8_call0_v36 : Ref sig .tc := ⟨.hbm, 1261, rfl⟩
abbrev main_call8_call0_v37 : Ref sig .tc := ⟨.hbm, 1262, rfl⟩
abbrev main_call8_call0_c_8 : Ref sig .tc := ⟨.hbm, 1263, rfl⟩
abbrev main_call8_call0_v38 : Ref sig .tc := ⟨.hbm, 1264, rfl⟩
abbrev main_call8_call0_v39 : Ref sig .tc := ⟨.hbm, 1265, rfl⟩
abbrev main_call8_call0_v40 : Ref sig .tc := ⟨.hbm, 1266, rfl⟩
abbrev main_call8_call0_c_9 : Ref sig .tc := ⟨.hbm, 1267, rfl⟩
abbrev main_call8_call0_v41 : Ref sig .tc := ⟨.hbm, 1268, rfl⟩
abbrev main_call8_call0_v42 : Ref sig .tc := ⟨.hbm, 1269, rfl⟩
abbrev main_call8_call0_c_10 : Ref sig .tc := ⟨.hbm, 1270, rfl⟩
abbrev main_call8_call0_v43 : Ref sig .tc := ⟨.hbm, 1271, rfl⟩
abbrev main_call8_call0_v44 : Ref sig .tc := ⟨.hbm, 1272, rfl⟩
abbrev main_call8_call0_v45 : Ref sig .tc := ⟨.hbm, 1273, rfl⟩
abbrev main_call8_call0_v46 : Ref sig .tc := ⟨.hbm, 1274, rfl⟩
abbrev main_call8_call0_v47 : Ref sig .tc := ⟨.hbm, 1275, rfl⟩
abbrev main_call8_call0_c_11 : Ref sig .tc := ⟨.hbm, 1276, rfl⟩
abbrev main_call8_call0_v48 : Ref sig .tc := ⟨.hbm, 1277, rfl⟩
abbrev main_call8_call0_v49 : Ref sig .tc := ⟨.hbm, 1278, rfl⟩
abbrev main_call8_call0_c_12 : Ref sig .tc := ⟨.hbm, 1279, rfl⟩
abbrev main_call8_call0_v50 : Ref sig .tc := ⟨.hbm, 1280, rfl⟩
abbrev main_call8_call0_v51 : Ref sig .tc := ⟨.hbm, 1281, rfl⟩
abbrev main_call8_call0_v52 : Ref sig .tc := ⟨.hbm, 1282, rfl⟩
abbrev main_call8_call0_v53 : Ref sig .tc := ⟨.hbm, 1283, rfl⟩
abbrev main_call8_call0_v54 : Ref sig .tc := ⟨.hbm, 1284, rfl⟩
abbrev main_call8_call0_c_13 : Ref sig .tc := ⟨.hbm, 1285, rfl⟩
abbrev main_call8_call0_v55 : Ref sig .tc := ⟨.hbm, 1286, rfl⟩
abbrev main_call8_call0_v56 : Ref sig .tc := ⟨.hbm, 1287, rfl⟩
abbrev main_call8_call0_c_14 : Ref sig .tc := ⟨.hbm, 1288, rfl⟩
abbrev main_call8_call0_v57 : Ref sig .tc := ⟨.hbm, 1289, rfl⟩
abbrev main_call8_call0_v58 : Ref sig .tc := ⟨.hbm, 1290, rfl⟩
abbrev main_call8_call0_v59 : Ref sig .tc := ⟨.hbm, 1291, rfl⟩
abbrev main_call8_call0_v60 : Ref sig .tc := ⟨.hbm, 1292, rfl⟩
abbrev main_call8_call0_v61 : Ref sig .tc := ⟨.hbm, 1293, rfl⟩
abbrev main_call8_call0_c_15 : Ref sig .tc := ⟨.hbm, 1294, rfl⟩
abbrev main_call8_call0_v62 : Ref sig .tc := ⟨.hbm, 1295, rfl⟩
abbrev main_call8_call0_v63 : Ref sig .tc := ⟨.hbm, 1296, rfl⟩
abbrev main_call8_call0_c_16 : Ref sig .tc := ⟨.hbm, 1297, rfl⟩
abbrev main_call8_call0_v64 : Ref sig .tc := ⟨.hbm, 1298, rfl⟩
abbrev main_call8_call0_v65 : Ref sig .tc := ⟨.hbm, 1299, rfl⟩
abbrev main_call8_call0_v66 : Ref sig .tc := ⟨.hbm, 1300, rfl⟩
abbrev main_call8_call0_v67 : Ref sig .tc := ⟨.hbm, 1301, rfl⟩
abbrev main_call8_call0_v68 : Ref sig .tc := ⟨.hbm, 1302, rfl⟩
abbrev main_call8_call0_v69 : Ref sig .tc := ⟨.hbm, 1303, rfl⟩
abbrev main_call8_call0_v70 : Ref sig .tc := ⟨.hbm, 1304, rfl⟩
abbrev main_call8_call0_v71 : Ref sig .tc := ⟨.hbm, 1305, rfl⟩
abbrev main_call8_call0_c_17 : Ref sig .tc := ⟨.hbm, 1306, rfl⟩
abbrev main_call8_call0_v72 : Ref sig .tc := ⟨.hbm, 1307, rfl⟩
abbrev main_call8_call0_v73 : Ref sig .tc := ⟨.hbm, 1308, rfl⟩
abbrev main_call8_call0_v74 : Ref sig .tc := ⟨.hbm, 1309, rfl⟩
abbrev main_call8_call0_c_18 : Ref sig .tc := ⟨.hbm, 1310, rfl⟩
abbrev main_call8_call0_v75 : Ref sig .tc := ⟨.hbm, 1311, rfl⟩
abbrev main_call8_call0_v76 : Ref sig .tc := ⟨.hbm, 1312, rfl⟩
abbrev main_call8_call0_c_19 : Ref sig .tc := ⟨.hbm, 1313, rfl⟩
abbrev main_call8_call0_v77 : Ref sig .tc := ⟨.hbm, 1314, rfl⟩
abbrev main_call8_call0_v78 : Ref sig .tc := ⟨.hbm, 1315, rfl⟩
abbrev main_call8_call0_v79 : Ref sig .tc := ⟨.hbm, 1316, rfl⟩
abbrev main_call8_call0_v80 : Ref sig .tc := ⟨.hbm, 1317, rfl⟩
abbrev main_call8_call0_v81 : Ref sig .tc := ⟨.hbm, 1318, rfl⟩
abbrev main_call8_call0_c_20 : Ref sig .tc := ⟨.hbm, 1319, rfl⟩
abbrev main_call8_call0_v82 : Ref sig .tc := ⟨.hbm, 1320, rfl⟩
abbrev main_call8_call0_v83 : Ref sig .tc := ⟨.hbm, 1321, rfl⟩
abbrev main_call8_call0_c_21 : Ref sig .tc := ⟨.hbm, 1322, rfl⟩
abbrev main_call8_call0_v84 : Ref sig .tc := ⟨.hbm, 1323, rfl⟩
abbrev main_call8_call0_v85 : Ref sig .tc := ⟨.hbm, 1324, rfl⟩
abbrev main_call8_call0_v86 : Ref sig .tc := ⟨.hbm, 1325, rfl⟩
abbrev main_call8_call0_v87 : Ref sig .tc := ⟨.hbm, 1326, rfl⟩
abbrev main_call8_call0_v88 : Ref sig .tc := ⟨.hbm, 1327, rfl⟩
abbrev main_call8_call0_c_22 : Ref sig .tc := ⟨.hbm, 1328, rfl⟩
abbrev main_call8_call0_v89 : Ref sig .tc := ⟨.hbm, 1329, rfl⟩
abbrev main_call8_call0_v90 : Ref sig .tc := ⟨.hbm, 1330, rfl⟩
abbrev main_call8_call0_c_23 : Ref sig .tc := ⟨.hbm, 1331, rfl⟩
abbrev main_call8_call0_v91 : Ref sig .tc := ⟨.hbm, 1332, rfl⟩
abbrev main_call8_call0_v92 : Ref sig .tc := ⟨.hbm, 1333, rfl⟩
abbrev main_call8_call0_v93 : Ref sig .tc := ⟨.hbm, 1334, rfl⟩
abbrev main_call8_call0_v94 : Ref sig .tc := ⟨.hbm, 1335, rfl⟩
abbrev main_call8_call0_v95 : Ref sig .tc := ⟨.hbm, 1336, rfl⟩
abbrev main_call8_call0_c_24 : Ref sig .tc := ⟨.hbm, 1337, rfl⟩
abbrev main_call8_call0_v96 : Ref sig .tc := ⟨.hbm, 1338, rfl⟩
abbrev main_call8_call0_v97 : Ref sig .tc := ⟨.hbm, 1339, rfl⟩
abbrev main_call8_call0_c_25 : Ref sig .tc := ⟨.hbm, 1340, rfl⟩
abbrev main_call8_call0_v98 : Ref sig .tc := ⟨.hbm, 1341, rfl⟩
abbrev main_call8_call0_v99 : Ref sig .tc := ⟨.hbm, 1342, rfl⟩
abbrev main_call8_call0_v100 : Ref sig .tc := ⟨.hbm, 1343, rfl⟩
abbrev main_call8_call0_v101 : Ref sig .tc := ⟨.hbm, 1344, rfl⟩
abbrev main_call8_call0_v102 : Ref sig .tc := ⟨.hbm, 1345, rfl⟩
abbrev main_call8_call0_v103 : Ref sig .tc := ⟨.hbm, 1346, rfl⟩
abbrev main_call8_call0_v104 : Ref sig .tc := ⟨.hbm, 1347, rfl⟩
abbrev main_call8_call0_v105 : Ref sig .tc := ⟨.hbm, 1348, rfl⟩
abbrev main_call8_call0_c_26 : Ref sig .tc := ⟨.hbm, 1349, rfl⟩
abbrev main_call8_call0_v106 : Ref sig .tc := ⟨.hbm, 1350, rfl⟩
abbrev main_call8_call0_v107 : Ref sig .tc := ⟨.hbm, 1351, rfl⟩
abbrev main_call8_call0_v108 : Ref sig .tc := ⟨.hbm, 1352, rfl⟩
abbrev main_call8_call0_c_27 : Ref sig .tc := ⟨.hbm, 1353, rfl⟩
abbrev main_call8_call0_v109 : Ref sig .tc := ⟨.hbm, 1354, rfl⟩
abbrev main_call8_call0_v110 : Ref sig .tc := ⟨.hbm, 1355, rfl⟩
abbrev main_call8_call0_c_28 : Ref sig .tc := ⟨.hbm, 1356, rfl⟩
abbrev main_call8_call0_v111 : Ref sig .tc := ⟨.hbm, 1357, rfl⟩
abbrev main_call8_call0_v112 : Ref sig .tc := ⟨.hbm, 1358, rfl⟩
abbrev main_call8_call0_v113 : Ref sig .tc := ⟨.hbm, 1359, rfl⟩
abbrev main_call8_call0_v114 : Ref sig .tc := ⟨.hbm, 1360, rfl⟩
abbrev main_call8_call0_v115 : Ref sig .tc := ⟨.hbm, 1361, rfl⟩
abbrev main_call8_call0_c_29 : Ref sig .tc := ⟨.hbm, 1362, rfl⟩
abbrev main_call8_call0_v116 : Ref sig .tc := ⟨.hbm, 1363, rfl⟩
abbrev main_call8_call0_v117 : Ref sig .tc := ⟨.hbm, 1364, rfl⟩
abbrev main_call8_call0_c_30 : Ref sig .tc := ⟨.hbm, 1365, rfl⟩
abbrev main_call8_call0_v118 : Ref sig .tc := ⟨.hbm, 1366, rfl⟩
abbrev main_call8_call0_v119 : Ref sig .tc := ⟨.hbm, 1367, rfl⟩
abbrev main_call8_call0_v120 : Ref sig .tc := ⟨.hbm, 1368, rfl⟩
abbrev main_call8_call0_v121 : Ref sig .tc := ⟨.hbm, 1369, rfl⟩
abbrev main_call8_call0_v122 : Ref sig .tc := ⟨.hbm, 1370, rfl⟩
abbrev main_call8_call0_c_31 : Ref sig .tc := ⟨.hbm, 1371, rfl⟩
abbrev main_call8_call0_v123 : Ref sig .tc := ⟨.hbm, 1372, rfl⟩
abbrev main_call8_call0_v124 : Ref sig .tc := ⟨.hbm, 1373, rfl⟩
abbrev main_call8_call0_c_32 : Ref sig .tc := ⟨.hbm, 1374, rfl⟩
abbrev main_call8_call0_v125 : Ref sig .tc := ⟨.hbm, 1375, rfl⟩
abbrev main_call8_call0_v126 : Ref sig .tc := ⟨.hbm, 1376, rfl⟩
abbrev main_call8_call0_v127 : Ref sig .tc := ⟨.hbm, 1377, rfl⟩
abbrev main_call8_call0_v128 : Ref sig .tc := ⟨.hbm, 1378, rfl⟩
abbrev main_call8_call0_v129 : Ref sig .tc := ⟨.hbm, 1379, rfl⟩
abbrev main_call8_call0_c_33 : Ref sig .tc := ⟨.hbm, 1380, rfl⟩
abbrev main_call8_call0_v130 : Ref sig .tc := ⟨.hbm, 1381, rfl⟩
abbrev main_call8_call0_v131 : Ref sig .tc := ⟨.hbm, 1382, rfl⟩
abbrev main_call8_call0_c_34 : Ref sig .tc := ⟨.hbm, 1383, rfl⟩
abbrev main_call8_call0_v132 : Ref sig .tc := ⟨.hbm, 1384, rfl⟩
abbrev main_call8_call0_v133 : Ref sig .tc := ⟨.hbm, 1385, rfl⟩
abbrev main_call8_call0_v134 : Ref sig .tc := ⟨.hbm, 1386, rfl⟩
abbrev main_call8_call0_v135 : Ref sig .tc := ⟨.hbm, 1387, rfl⟩
abbrev main_call8_call0_v136 : Ref sig .tc := ⟨.hbm, 1388, rfl⟩
abbrev main_call8_call0_v137 : Ref sig .tc := ⟨.hbm, 1389, rfl⟩
abbrev main_call8_call0_v138 : Ref sig .tc := ⟨.hbm, 1390, rfl⟩
abbrev main_call8_call0_v139 : Ref sig .tc := ⟨.hbm, 1391, rfl⟩
abbrev main_call8_call0_c_35 : Ref sig .tc := ⟨.hbm, 1392, rfl⟩
abbrev main_call8_call0_v140 : Ref sig .tc := ⟨.hbm, 1393, rfl⟩
abbrev main_call8_call0_v141 : Ref sig .tc := ⟨.hbm, 1394, rfl⟩
abbrev main_call8_call0_v142 : Ref sig .tc := ⟨.hbm, 1395, rfl⟩
abbrev main_call8_call0_c_36 : Ref sig .tc := ⟨.hbm, 1396, rfl⟩
abbrev main_call8_call0_v143 : Ref sig .tc := ⟨.hbm, 1397, rfl⟩
abbrev main_call8_call0_v144 : Ref sig .tc := ⟨.hbm, 1398, rfl⟩
abbrev main_call8_call0_c_37 : Ref sig .tc := ⟨.hbm, 1399, rfl⟩
abbrev main_call8_call0_v145 : Ref sig .tc := ⟨.hbm, 1400, rfl⟩
abbrev main_call8_call0_v146 : Ref sig .tc := ⟨.hbm, 1401, rfl⟩
abbrev main_call8_call0_v147 : Ref sig .tc := ⟨.hbm, 1402, rfl⟩
abbrev main_call8_call0_v148 : Ref sig .tc := ⟨.hbm, 1403, rfl⟩
abbrev main_call8_call0_v149 : Ref sig .tc := ⟨.hbm, 1404, rfl⟩
abbrev main_call8_call0_c_38 : Ref sig .tc := ⟨.hbm, 1405, rfl⟩
abbrev main_call8_call0_v150 : Ref sig .tc := ⟨.hbm, 1406, rfl⟩
abbrev main_call8_call0_v151 : Ref sig .tc := ⟨.hbm, 1407, rfl⟩
abbrev main_call8_call0_c_39 : Ref sig .tc := ⟨.hbm, 1408, rfl⟩
abbrev main_call8_call0_v152 : Ref sig .tc := ⟨.hbm, 1409, rfl⟩
abbrev main_call8_call0_v153 : Ref sig .tc := ⟨.hbm, 1410, rfl⟩
abbrev main_call8_call0_v154 : Ref sig .tc := ⟨.hbm, 1411, rfl⟩
abbrev main_call8_call0_v155 : Ref sig .tc := ⟨.hbm, 1412, rfl⟩
abbrev main_call8_call0_v156 : Ref sig .tc := ⟨.hbm, 1413, rfl⟩
abbrev main_call8_call0_c_40 : Ref sig .tc := ⟨.hbm, 1414, rfl⟩
abbrev main_call8_call0_v157 : Ref sig .tc := ⟨.hbm, 1415, rfl⟩
abbrev main_call8_call0_v158 : Ref sig .tc := ⟨.hbm, 1416, rfl⟩
abbrev main_call8_call0_c_41 : Ref sig .tc := ⟨.hbm, 1417, rfl⟩
abbrev main_call8_call0_v159 : Ref sig .tc := ⟨.hbm, 1418, rfl⟩
abbrev main_call8_call0_v160 : Ref sig .tc := ⟨.hbm, 1419, rfl⟩
abbrev main_call8_call0_v161 : Ref sig .tc := ⟨.hbm, 1420, rfl⟩
abbrev main_call8_call0_v162 : Ref sig .tc := ⟨.hbm, 1421, rfl⟩
abbrev main_call8_call0_v163 : Ref sig .tc := ⟨.hbm, 1422, rfl⟩
abbrev main_call8_call0_c_42 : Ref sig .tc := ⟨.hbm, 1423, rfl⟩
abbrev main_call8_call0_v164 : Ref sig .tc := ⟨.hbm, 1424, rfl⟩
abbrev main_call8_call0_v165 : Ref sig .tc := ⟨.hbm, 1425, rfl⟩
abbrev main_call8_call0_c_43 : Ref sig .tc := ⟨.hbm, 1426, rfl⟩
abbrev main_call8_call0_v166 : Ref sig .tc := ⟨.hbm, 1427, rfl⟩
abbrev main_call8_call0_v167 : Ref sig .tc := ⟨.hbm, 1428, rfl⟩
abbrev main_call8_call0_v168 : Ref sig .tc := ⟨.hbm, 1429, rfl⟩
abbrev main_call8_call0_v169 : Ref sig .tc := ⟨.hbm, 1430, rfl⟩
abbrev main_call8_call0_v170 : Ref sig .tc := ⟨.hbm, 1431, rfl⟩
abbrev main_call8_v11_0 : Ref sig .tc := ⟨.hbm, 1432, rfl⟩
abbrev main_call8_call0_v172 : Ref sig .tc := ⟨.hbm, 1433, rfl⟩
abbrev main_call8_call0_v173 : Ref sig .tc := ⟨.hbm, 1434, rfl⟩
abbrev main_call8_call0_c_44 : Ref sig .tc := ⟨.hbm, 1435, rfl⟩
abbrev main_call8_call0_v174 : Ref sig .tc := ⟨.hbm, 1436, rfl⟩
abbrev main_call8_v11_1 : Ref sig .tc := ⟨.hbm, 1437, rfl⟩
abbrev main_v152 : Ref sig .tc := ⟨.hbm, 1438, rfl⟩
abbrev main_v153 : Ref sig .tc := ⟨.hbm, 1439, rfl⟩
abbrev main_cst_37 : Ref sig .tc := ⟨.hbm, 1440, rfl⟩
abbrev main_cst_38 : Ref sig .tc := ⟨.hbm, 1441, rfl⟩
abbrev main_call9_v0 : Ref sig .tc := ⟨.hbm, 1442, rfl⟩
abbrev main_call9_v1 : Ref sig .tc := ⟨.hbm, 1443, rfl⟩
abbrev main_call9_v2 : Ref sig .tc := ⟨.hbm, 1444, rfl⟩
abbrev main_call9_v3 : Ref sig .tc := ⟨.hbm, 1445, rfl⟩
abbrev main_call9_v4 : Ref sig .tc := ⟨.hbm, 1446, rfl⟩
abbrev main_call9_v5 : Ref sig .tc := ⟨.hbm, 1447, rfl⟩
abbrev main_call9_v6 : Ref sig .tc := ⟨.hbm, 1448, rfl⟩
abbrev main_call9_v7 : Ref sig .tc := ⟨.hbm, 1449, rfl⟩
abbrev main_call9_v8 : Ref sig .tc := ⟨.hbm, 1450, rfl⟩
abbrev main_call9_v9 : Ref sig .tc := ⟨.hbm, 1451, rfl⟩
abbrev main_call9_c : Ref sig .tc := ⟨.hbm, 1452, rfl⟩
abbrev main_call9_v10 : Ref sig .tc := ⟨.hbm, 1453, rfl⟩
abbrev main_call9_v11 : Ref sig .tc := ⟨.hbm, 1454, rfl⟩
abbrev main_call9_c_0 : Ref sig .tc := ⟨.hbm, 1455, rfl⟩
abbrev main_call9_v12 : Ref sig .tc := ⟨.hbm, 1456, rfl⟩
abbrev main_call9_v13 : Ref sig .tc := ⟨.hbm, 1457, rfl⟩
abbrev main_call9_v14 : Ref sig .tc := ⟨.hbm, 1458, rfl⟩
abbrev main_call9_c_1 : Ref sig .tc := ⟨.hbm, 1459, rfl⟩
abbrev main_call9_v15 : Ref sig .tc := ⟨.hbm, 1460, rfl⟩
abbrev main_call9_v16 : Ref sig .tc := ⟨.hbm, 1461, rfl⟩
abbrev main_call9_v17 : Ref sig .tc := ⟨.hbm, 1462, rfl⟩
abbrev main_call9_v18 : Ref sig .tc := ⟨.hbm, 1463, rfl⟩
abbrev main_call9_call0_v0 : Ref sig .tc := ⟨.hbm, 1464, rfl⟩
abbrev main_call9_call0_c : Ref sig .tc := ⟨.hbm, 1465, rfl⟩
abbrev main_call9_call0_v1 : Ref sig .tc := ⟨.hbm, 1466, rfl⟩
abbrev main_call9_call0_v2 : Ref sig .tc := ⟨.hbm, 1467, rfl⟩
abbrev main_call9_call0_v3 : Ref sig .tc := ⟨.hbm, 1468, rfl⟩
abbrev main_call9_call0_v4 : Ref sig .tc := ⟨.hbm, 1469, rfl⟩
abbrev main_call9_call0_v5 : Ref sig .tc := ⟨.hbm, 1470, rfl⟩
abbrev main_call9_call0_v6 : Ref sig .tc := ⟨.hbm, 1471, rfl⟩
abbrev main_call9_call0_c_0 : Ref sig .tc := ⟨.hbm, 1472, rfl⟩
abbrev main_call9_call0_v7 : Ref sig .tc := ⟨.hbm, 1473, rfl⟩
abbrev main_call9_call0_v8 : Ref sig .tc := ⟨.hbm, 1474, rfl⟩
abbrev main_call9_call0_c_1 : Ref sig .tc := ⟨.hbm, 1475, rfl⟩
abbrev main_call9_call0_v9 : Ref sig .tc := ⟨.hbm, 1476, rfl⟩
abbrev main_call9_call0_v10 : Ref sig .tc := ⟨.hbm, 1477, rfl⟩
abbrev main_call9_call0_v11 : Ref sig .tc := ⟨.hbm, 1478, rfl⟩
abbrev main_call9_call0_v12 : Ref sig .tc := ⟨.hbm, 1479, rfl⟩
abbrev main_call9_call0_v13 : Ref sig .tc := ⟨.hbm, 1480, rfl⟩
abbrev main_call9_call0_c_2 : Ref sig .tc := ⟨.hbm, 1481, rfl⟩
abbrev main_call9_call0_v14 : Ref sig .tc := ⟨.hbm, 1482, rfl⟩
abbrev main_call9_call0_v15 : Ref sig .tc := ⟨.hbm, 1483, rfl⟩
abbrev main_call9_call0_c_3 : Ref sig .tc := ⟨.hbm, 1484, rfl⟩
abbrev main_call9_call0_v16 : Ref sig .tc := ⟨.hbm, 1485, rfl⟩
abbrev main_call9_call0_v17 : Ref sig .tc := ⟨.hbm, 1486, rfl⟩
abbrev main_call9_call0_v18 : Ref sig .tc := ⟨.hbm, 1487, rfl⟩
abbrev main_call9_call0_v19 : Ref sig .tc := ⟨.hbm, 1488, rfl⟩
abbrev main_call9_call0_v20 : Ref sig .tc := ⟨.hbm, 1489, rfl⟩
abbrev main_call9_call0_c_4 : Ref sig .tc := ⟨.hbm, 1490, rfl⟩
abbrev main_call9_call0_v21 : Ref sig .tc := ⟨.hbm, 1491, rfl⟩
abbrev main_call9_call0_v22 : Ref sig .tc := ⟨.hbm, 1492, rfl⟩
abbrev main_call9_call0_c_5 : Ref sig .tc := ⟨.hbm, 1493, rfl⟩
abbrev main_call9_call0_v23 : Ref sig .tc := ⟨.hbm, 1494, rfl⟩
abbrev main_call9_call0_v24 : Ref sig .tc := ⟨.hbm, 1495, rfl⟩
abbrev main_call9_call0_v25 : Ref sig .tc := ⟨.hbm, 1496, rfl⟩
abbrev main_call9_call0_v26 : Ref sig .tc := ⟨.hbm, 1497, rfl⟩
abbrev main_call9_call0_v27 : Ref sig .tc := ⟨.hbm, 1498, rfl⟩
abbrev main_call9_call0_c_6 : Ref sig .tc := ⟨.hbm, 1499, rfl⟩
abbrev main_call9_call0_v28 : Ref sig .tc := ⟨.hbm, 1500, rfl⟩
abbrev main_call9_call0_v29 : Ref sig .tc := ⟨.hbm, 1501, rfl⟩
abbrev main_call9_call0_c_7 : Ref sig .tc := ⟨.hbm, 1502, rfl⟩
abbrev main_call9_call0_v30 : Ref sig .tc := ⟨.hbm, 1503, rfl⟩
abbrev main_call9_call0_v31 : Ref sig .tc := ⟨.hbm, 1504, rfl⟩
abbrev main_call9_call0_v32 : Ref sig .tc := ⟨.hbm, 1505, rfl⟩
abbrev main_call9_call0_v33 : Ref sig .tc := ⟨.hbm, 1506, rfl⟩
abbrev main_call9_call0_v34 : Ref sig .tc := ⟨.hbm, 1507, rfl⟩
abbrev main_call9_call0_v35 : Ref sig .tc := ⟨.hbm, 1508, rfl⟩
abbrev main_call9_call0_v36 : Ref sig .tc := ⟨.hbm, 1509, rfl⟩
abbrev main_call9_call0_v37 : Ref sig .tc := ⟨.hbm, 1510, rfl⟩
abbrev main_call9_call0_c_8 : Ref sig .tc := ⟨.hbm, 1511, rfl⟩
abbrev main_call9_call0_v38 : Ref sig .tc := ⟨.hbm, 1512, rfl⟩
abbrev main_call9_call0_v39 : Ref sig .tc := ⟨.hbm, 1513, rfl⟩
abbrev main_call9_call0_v40 : Ref sig .tc := ⟨.hbm, 1514, rfl⟩
abbrev main_call9_call0_c_9 : Ref sig .tc := ⟨.hbm, 1515, rfl⟩
abbrev main_call9_call0_v41 : Ref sig .tc := ⟨.hbm, 1516, rfl⟩
abbrev main_call9_call0_v42 : Ref sig .tc := ⟨.hbm, 1517, rfl⟩
abbrev main_call9_call0_c_10 : Ref sig .tc := ⟨.hbm, 1518, rfl⟩
abbrev main_call9_call0_v43 : Ref sig .tc := ⟨.hbm, 1519, rfl⟩
abbrev main_call9_call0_v44 : Ref sig .tc := ⟨.hbm, 1520, rfl⟩
abbrev main_call9_call0_v45 : Ref sig .tc := ⟨.hbm, 1521, rfl⟩
abbrev main_call9_call0_v46 : Ref sig .tc := ⟨.hbm, 1522, rfl⟩
abbrev main_call9_call0_v47 : Ref sig .tc := ⟨.hbm, 1523, rfl⟩
abbrev main_call9_call0_c_11 : Ref sig .tc := ⟨.hbm, 1524, rfl⟩
abbrev main_call9_call0_v48 : Ref sig .tc := ⟨.hbm, 1525, rfl⟩
abbrev main_call9_call0_v49 : Ref sig .tc := ⟨.hbm, 1526, rfl⟩
abbrev main_call9_call0_c_12 : Ref sig .tc := ⟨.hbm, 1527, rfl⟩
abbrev main_call9_call0_v50 : Ref sig .tc := ⟨.hbm, 1528, rfl⟩
abbrev main_call9_call0_v51 : Ref sig .tc := ⟨.hbm, 1529, rfl⟩
abbrev main_call9_call0_v52 : Ref sig .tc := ⟨.hbm, 1530, rfl⟩
abbrev main_call9_call0_v53 : Ref sig .tc := ⟨.hbm, 1531, rfl⟩
abbrev main_call9_call0_v54 : Ref sig .tc := ⟨.hbm, 1532, rfl⟩
abbrev main_call9_call0_c_13 : Ref sig .tc := ⟨.hbm, 1533, rfl⟩
abbrev main_call9_call0_v55 : Ref sig .tc := ⟨.hbm, 1534, rfl⟩
abbrev main_call9_call0_v56 : Ref sig .tc := ⟨.hbm, 1535, rfl⟩
abbrev main_call9_call0_c_14 : Ref sig .tc := ⟨.hbm, 1536, rfl⟩
abbrev main_call9_call0_v57 : Ref sig .tc := ⟨.hbm, 1537, rfl⟩
abbrev main_call9_call0_v58 : Ref sig .tc := ⟨.hbm, 1538, rfl⟩
abbrev main_call9_call0_v59 : Ref sig .tc := ⟨.hbm, 1539, rfl⟩
abbrev main_call9_call0_v60 : Ref sig .tc := ⟨.hbm, 1540, rfl⟩
abbrev main_call9_call0_v61 : Ref sig .tc := ⟨.hbm, 1541, rfl⟩
abbrev main_call9_call0_c_15 : Ref sig .tc := ⟨.hbm, 1542, rfl⟩
abbrev main_call9_call0_v62 : Ref sig .tc := ⟨.hbm, 1543, rfl⟩
abbrev main_call9_call0_v63 : Ref sig .tc := ⟨.hbm, 1544, rfl⟩
abbrev main_call9_call0_c_16 : Ref sig .tc := ⟨.hbm, 1545, rfl⟩
abbrev main_call9_call0_v64 : Ref sig .tc := ⟨.hbm, 1546, rfl⟩
abbrev main_call9_call0_v65 : Ref sig .tc := ⟨.hbm, 1547, rfl⟩
abbrev main_call9_call0_v66 : Ref sig .tc := ⟨.hbm, 1548, rfl⟩
abbrev main_call9_call0_v67 : Ref sig .tc := ⟨.hbm, 1549, rfl⟩
abbrev main_call9_call0_v68 : Ref sig .tc := ⟨.hbm, 1550, rfl⟩
abbrev main_call9_call0_v69 : Ref sig .tc := ⟨.hbm, 1551, rfl⟩
abbrev main_call9_call0_v70 : Ref sig .tc := ⟨.hbm, 1552, rfl⟩
abbrev main_call9_call0_v71 : Ref sig .tc := ⟨.hbm, 1553, rfl⟩
abbrev main_call9_call0_c_17 : Ref sig .tc := ⟨.hbm, 1554, rfl⟩
abbrev main_call9_call0_v72 : Ref sig .tc := ⟨.hbm, 1555, rfl⟩
abbrev main_call9_call0_v73 : Ref sig .tc := ⟨.hbm, 1556, rfl⟩
abbrev main_call9_call0_v74 : Ref sig .tc := ⟨.hbm, 1557, rfl⟩
abbrev main_call9_call0_c_18 : Ref sig .tc := ⟨.hbm, 1558, rfl⟩
abbrev main_call9_call0_v75 : Ref sig .tc := ⟨.hbm, 1559, rfl⟩
abbrev main_call9_call0_v76 : Ref sig .tc := ⟨.hbm, 1560, rfl⟩
abbrev main_call9_call0_c_19 : Ref sig .tc := ⟨.hbm, 1561, rfl⟩
abbrev main_call9_call0_v77 : Ref sig .tc := ⟨.hbm, 1562, rfl⟩
abbrev main_call9_call0_v78 : Ref sig .tc := ⟨.hbm, 1563, rfl⟩
abbrev main_call9_call0_v79 : Ref sig .tc := ⟨.hbm, 1564, rfl⟩
abbrev main_call9_call0_v80 : Ref sig .tc := ⟨.hbm, 1565, rfl⟩
abbrev main_call9_call0_v81 : Ref sig .tc := ⟨.hbm, 1566, rfl⟩
abbrev main_call9_call0_c_20 : Ref sig .tc := ⟨.hbm, 1567, rfl⟩
abbrev main_call9_call0_v82 : Ref sig .tc := ⟨.hbm, 1568, rfl⟩
abbrev main_call9_call0_v83 : Ref sig .tc := ⟨.hbm, 1569, rfl⟩
abbrev main_call9_call0_c_21 : Ref sig .tc := ⟨.hbm, 1570, rfl⟩
abbrev main_call9_call0_v84 : Ref sig .tc := ⟨.hbm, 1571, rfl⟩
abbrev main_call9_call0_v85 : Ref sig .tc := ⟨.hbm, 1572, rfl⟩
abbrev main_call9_call0_v86 : Ref sig .tc := ⟨.hbm, 1573, rfl⟩
abbrev main_call9_call0_v87 : Ref sig .tc := ⟨.hbm, 1574, rfl⟩
abbrev main_call9_call0_v88 : Ref sig .tc := ⟨.hbm, 1575, rfl⟩
abbrev main_call9_call0_c_22 : Ref sig .tc := ⟨.hbm, 1576, rfl⟩
abbrev main_call9_call0_v89 : Ref sig .tc := ⟨.hbm, 1577, rfl⟩
abbrev main_call9_call0_v90 : Ref sig .tc := ⟨.hbm, 1578, rfl⟩
abbrev main_call9_call0_c_23 : Ref sig .tc := ⟨.hbm, 1579, rfl⟩
abbrev main_call9_call0_v91 : Ref sig .tc := ⟨.hbm, 1580, rfl⟩
abbrev main_call9_call0_v92 : Ref sig .tc := ⟨.hbm, 1581, rfl⟩
abbrev main_call9_call0_v93 : Ref sig .tc := ⟨.hbm, 1582, rfl⟩
abbrev main_call9_call0_v94 : Ref sig .tc := ⟨.hbm, 1583, rfl⟩
abbrev main_call9_call0_v95 : Ref sig .tc := ⟨.hbm, 1584, rfl⟩
abbrev main_call9_call0_c_24 : Ref sig .tc := ⟨.hbm, 1585, rfl⟩
abbrev main_call9_call0_v96 : Ref sig .tc := ⟨.hbm, 1586, rfl⟩
abbrev main_call9_call0_v97 : Ref sig .tc := ⟨.hbm, 1587, rfl⟩
abbrev main_call9_call0_c_25 : Ref sig .tc := ⟨.hbm, 1588, rfl⟩
abbrev main_call9_call0_v98 : Ref sig .tc := ⟨.hbm, 1589, rfl⟩
abbrev main_call9_call0_v99 : Ref sig .tc := ⟨.hbm, 1590, rfl⟩
abbrev main_call9_call0_v100 : Ref sig .tc := ⟨.hbm, 1591, rfl⟩
abbrev main_call9_call0_v101 : Ref sig .tc := ⟨.hbm, 1592, rfl⟩
abbrev main_call9_call0_v102 : Ref sig .tc := ⟨.hbm, 1593, rfl⟩
abbrev main_call9_call0_v103 : Ref sig .tc := ⟨.hbm, 1594, rfl⟩
abbrev main_call9_call0_v104 : Ref sig .tc := ⟨.hbm, 1595, rfl⟩
abbrev main_call9_call0_v105 : Ref sig .tc := ⟨.hbm, 1596, rfl⟩
abbrev main_call9_call0_c_26 : Ref sig .tc := ⟨.hbm, 1597, rfl⟩
abbrev main_call9_call0_v106 : Ref sig .tc := ⟨.hbm, 1598, rfl⟩
abbrev main_call9_call0_v107 : Ref sig .tc := ⟨.hbm, 1599, rfl⟩
abbrev main_call9_call0_v108 : Ref sig .tc := ⟨.hbm, 1600, rfl⟩
abbrev main_call9_call0_c_27 : Ref sig .tc := ⟨.hbm, 1601, rfl⟩
abbrev main_call9_call0_v109 : Ref sig .tc := ⟨.hbm, 1602, rfl⟩
abbrev main_call9_call0_v110 : Ref sig .tc := ⟨.hbm, 1603, rfl⟩
abbrev main_call9_call0_c_28 : Ref sig .tc := ⟨.hbm, 1604, rfl⟩
abbrev main_call9_call0_v111 : Ref sig .tc := ⟨.hbm, 1605, rfl⟩
abbrev main_call9_call0_v112 : Ref sig .tc := ⟨.hbm, 1606, rfl⟩
abbrev main_call9_call0_v113 : Ref sig .tc := ⟨.hbm, 1607, rfl⟩
abbrev main_call9_call0_v114 : Ref sig .tc := ⟨.hbm, 1608, rfl⟩
abbrev main_call9_call0_v115 : Ref sig .tc := ⟨.hbm, 1609, rfl⟩
abbrev main_call9_call0_c_29 : Ref sig .tc := ⟨.hbm, 1610, rfl⟩
abbrev main_call9_call0_v116 : Ref sig .tc := ⟨.hbm, 1611, rfl⟩
abbrev main_call9_call0_v117 : Ref sig .tc := ⟨.hbm, 1612, rfl⟩
abbrev main_call9_call0_c_30 : Ref sig .tc := ⟨.hbm, 1613, rfl⟩
abbrev main_call9_call0_v118 : Ref sig .tc := ⟨.hbm, 1614, rfl⟩
abbrev main_call9_call0_v119 : Ref sig .tc := ⟨.hbm, 1615, rfl⟩
abbrev main_call9_call0_v120 : Ref sig .tc := ⟨.hbm, 1616, rfl⟩
abbrev main_call9_call0_v121 : Ref sig .tc := ⟨.hbm, 1617, rfl⟩
abbrev main_call9_call0_v122 : Ref sig .tc := ⟨.hbm, 1618, rfl⟩
abbrev main_call9_call0_c_31 : Ref sig .tc := ⟨.hbm, 1619, rfl⟩
abbrev main_call9_call0_v123 : Ref sig .tc := ⟨.hbm, 1620, rfl⟩
abbrev main_call9_call0_v124 : Ref sig .tc := ⟨.hbm, 1621, rfl⟩
abbrev main_call9_call0_c_32 : Ref sig .tc := ⟨.hbm, 1622, rfl⟩
abbrev main_call9_call0_v125 : Ref sig .tc := ⟨.hbm, 1623, rfl⟩
abbrev main_call9_call0_v126 : Ref sig .tc := ⟨.hbm, 1624, rfl⟩
abbrev main_call9_call0_v127 : Ref sig .tc := ⟨.hbm, 1625, rfl⟩
abbrev main_call9_call0_v128 : Ref sig .tc := ⟨.hbm, 1626, rfl⟩
abbrev main_call9_call0_v129 : Ref sig .tc := ⟨.hbm, 1627, rfl⟩
abbrev main_call9_call0_c_33 : Ref sig .tc := ⟨.hbm, 1628, rfl⟩
abbrev main_call9_call0_v130 : Ref sig .tc := ⟨.hbm, 1629, rfl⟩
abbrev main_call9_call0_v131 : Ref sig .tc := ⟨.hbm, 1630, rfl⟩
abbrev main_call9_call0_c_34 : Ref sig .tc := ⟨.hbm, 1631, rfl⟩
abbrev main_call9_call0_v132 : Ref sig .tc := ⟨.hbm, 1632, rfl⟩
abbrev main_call9_call0_v133 : Ref sig .tc := ⟨.hbm, 1633, rfl⟩
abbrev main_call9_call0_v134 : Ref sig .tc := ⟨.hbm, 1634, rfl⟩
abbrev main_call9_call0_v135 : Ref sig .tc := ⟨.hbm, 1635, rfl⟩
abbrev main_call9_call0_v136 : Ref sig .tc := ⟨.hbm, 1636, rfl⟩
abbrev main_call9_call0_v137 : Ref sig .tc := ⟨.hbm, 1637, rfl⟩
abbrev main_call9_call0_v138 : Ref sig .tc := ⟨.hbm, 1638, rfl⟩
abbrev main_call9_call0_v139 : Ref sig .tc := ⟨.hbm, 1639, rfl⟩
abbrev main_call9_call0_c_35 : Ref sig .tc := ⟨.hbm, 1640, rfl⟩
abbrev main_call9_call0_v140 : Ref sig .tc := ⟨.hbm, 1641, rfl⟩
abbrev main_call9_call0_v141 : Ref sig .tc := ⟨.hbm, 1642, rfl⟩
abbrev main_call9_call0_v142 : Ref sig .tc := ⟨.hbm, 1643, rfl⟩
abbrev main_call9_call0_c_36 : Ref sig .tc := ⟨.hbm, 1644, rfl⟩
abbrev main_call9_call0_v143 : Ref sig .tc := ⟨.hbm, 1645, rfl⟩
abbrev main_call9_call0_v144 : Ref sig .tc := ⟨.hbm, 1646, rfl⟩
abbrev main_call9_call0_c_37 : Ref sig .tc := ⟨.hbm, 1647, rfl⟩
abbrev main_call9_call0_v145 : Ref sig .tc := ⟨.hbm, 1648, rfl⟩
abbrev main_call9_call0_v146 : Ref sig .tc := ⟨.hbm, 1649, rfl⟩
abbrev main_call9_call0_v147 : Ref sig .tc := ⟨.hbm, 1650, rfl⟩
abbrev main_call9_call0_v148 : Ref sig .tc := ⟨.hbm, 1651, rfl⟩
abbrev main_call9_call0_v149 : Ref sig .tc := ⟨.hbm, 1652, rfl⟩
abbrev main_call9_call0_c_38 : Ref sig .tc := ⟨.hbm, 1653, rfl⟩
abbrev main_call9_call0_v150 : Ref sig .tc := ⟨.hbm, 1654, rfl⟩
abbrev main_call9_call0_v151 : Ref sig .tc := ⟨.hbm, 1655, rfl⟩
abbrev main_call9_call0_c_39 : Ref sig .tc := ⟨.hbm, 1656, rfl⟩
abbrev main_call9_call0_v152 : Ref sig .tc := ⟨.hbm, 1657, rfl⟩
abbrev main_call9_call0_v153 : Ref sig .tc := ⟨.hbm, 1658, rfl⟩
abbrev main_call9_call0_v154 : Ref sig .tc := ⟨.hbm, 1659, rfl⟩
abbrev main_call9_call0_v155 : Ref sig .tc := ⟨.hbm, 1660, rfl⟩
abbrev main_call9_call0_v156 : Ref sig .tc := ⟨.hbm, 1661, rfl⟩
abbrev main_call9_call0_c_40 : Ref sig .tc := ⟨.hbm, 1662, rfl⟩
abbrev main_call9_call0_v157 : Ref sig .tc := ⟨.hbm, 1663, rfl⟩
abbrev main_call9_call0_v158 : Ref sig .tc := ⟨.hbm, 1664, rfl⟩
abbrev main_call9_call0_c_41 : Ref sig .tc := ⟨.hbm, 1665, rfl⟩
abbrev main_call9_call0_v159 : Ref sig .tc := ⟨.hbm, 1666, rfl⟩
abbrev main_call9_call0_v160 : Ref sig .tc := ⟨.hbm, 1667, rfl⟩
abbrev main_call9_call0_v161 : Ref sig .tc := ⟨.hbm, 1668, rfl⟩
abbrev main_call9_call0_v162 : Ref sig .tc := ⟨.hbm, 1669, rfl⟩
abbrev main_call9_call0_v163 : Ref sig .tc := ⟨.hbm, 1670, rfl⟩
abbrev main_call9_call0_c_42 : Ref sig .tc := ⟨.hbm, 1671, rfl⟩
abbrev main_call9_call0_v164 : Ref sig .tc := ⟨.hbm, 1672, rfl⟩
abbrev main_call9_call0_v165 : Ref sig .tc := ⟨.hbm, 1673, rfl⟩
abbrev main_call9_call0_c_43 : Ref sig .tc := ⟨.hbm, 1674, rfl⟩
abbrev main_call9_call0_v166 : Ref sig .tc := ⟨.hbm, 1675, rfl⟩
abbrev main_call9_call0_v167 : Ref sig .tc := ⟨.hbm, 1676, rfl⟩
abbrev main_call9_call0_v168 : Ref sig .tc := ⟨.hbm, 1677, rfl⟩
abbrev main_call9_call0_v169 : Ref sig .tc := ⟨.hbm, 1678, rfl⟩
abbrev main_call9_call0_v170 : Ref sig .tc := ⟨.hbm, 1679, rfl⟩
abbrev main_call9_v19_0 : Ref sig .tc := ⟨.hbm, 1680, rfl⟩
abbrev main_call9_call0_v172 : Ref sig .tc := ⟨.hbm, 1681, rfl⟩
abbrev main_call9_call0_v173 : Ref sig .tc := ⟨.hbm, 1682, rfl⟩
abbrev main_call9_call0_c_44 : Ref sig .tc := ⟨.hbm, 1683, rfl⟩
abbrev main_call9_call0_v174 : Ref sig .tc := ⟨.hbm, 1684, rfl⟩
abbrev main_call9_v19_1 : Ref sig .tc := ⟨.hbm, 1685, rfl⟩
abbrev main_call9_v20 : Ref sig .tc := ⟨.hbm, 1686, rfl⟩
abbrev main_call9_c_2 : Ref sig .tc := ⟨.hbm, 1687, rfl⟩
abbrev main_call9_v21 : Ref sig .tc := ⟨.hbm, 1688, rfl⟩
abbrev main_call9_v22 : Ref sig .tc := ⟨.hbm, 1689, rfl⟩
abbrev main_call9_c_3 : Ref sig .tc := ⟨.hbm, 1690, rfl⟩
abbrev main_call9_v23 : Ref sig .tc := ⟨.hbm, 1691, rfl⟩
abbrev main_call9_v24 : Ref sig .tc := ⟨.hbm, 1692, rfl⟩
abbrev main_call9_v25 : Ref sig .tc := ⟨.hbm, 1693, rfl⟩
abbrev main_call9_cst : Ref sig .tc := ⟨.hbm, 1694, rfl⟩
abbrev main_call9_v26 : Ref sig .tc := ⟨.hbm, 1695, rfl⟩
abbrev main_call9_v27 : Ref sig .tc := ⟨.hbm, 1696, rfl⟩
abbrev main_call9_v28 : Ref sig .tc := ⟨.hbm, 1697, rfl⟩
abbrev main_call9_v29 : Ref sig .tc := ⟨.hbm, 1698, rfl⟩
abbrev main_call9_v30 : Ref sig .tc := ⟨.hbm, 1699, rfl⟩
abbrev main_call9_v31 : Ref sig .tc := ⟨.hbm, 1700, rfl⟩
abbrev main_call9_v32 : Ref sig .tc := ⟨.hbm, 1701, rfl⟩
abbrev main_call9_v33 : Ref sig .tc := ⟨.hbm, 1702, rfl⟩
abbrev main_v154 : Ref sig .tc := ⟨.hbm, 1703, rfl⟩
abbrev main_cst_39 : Ref sig .tc := ⟨.hbm, 1704, rfl⟩
abbrev main_v155 : Ref sig .tc := ⟨.hbm, 1705, rfl⟩
abbrev main_v156 : Ref sig .tc := ⟨.hbm, 1706, rfl⟩
abbrev main_cst_40 : Ref sig .tc := ⟨.hbm, 1707, rfl⟩
abbrev main_v157 : Ref sig .tc := ⟨.hbm, 1708, rfl⟩
abbrev main_v158 : Ref sig .tc := ⟨.hbm, 1709, rfl⟩
abbrev main_cst_41 : Ref sig .tc := ⟨.hbm, 1710, rfl⟩
abbrev main_v159 : Ref sig .tc := ⟨.hbm, 1711, rfl⟩
abbrev main_v160 : Ref sig .tc := ⟨.hbm, 1712, rfl⟩
abbrev main_v161 : Ref sig .tc := ⟨.hbm, 1713, rfl⟩
abbrev main_v162 : Ref sig .tc := ⟨.hbm, 1714, rfl⟩
abbrev main_v163 : Ref sig .tc := ⟨.hbm, 1715, rfl⟩
abbrev main_v164 : Ref sig .tc := ⟨.hbm, 1716, rfl⟩
abbrev main_v165 : Ref sig .tc := ⟨.hbm, 1717, rfl⟩
abbrev main_call10_v0 : Ref sig .tc := ⟨.hbm, 1718, rfl⟩
abbrev main_call10_cst : Ref sig .tc := ⟨.hbm, 1719, rfl⟩
abbrev main_call10_c : Ref sig .tc := ⟨.hbm, 1720, rfl⟩
abbrev main_call10_v1_0 : Ref sig .tc := ⟨.hbm, 1721, rfl⟩
abbrev main_v166 : Ref sig .tc := ⟨.hbm, 1722, rfl⟩
abbrev main_call11_v0 : Ref sig .tc := ⟨.hbm, 1723, rfl⟩
abbrev main_call11_v1 : Ref sig .tc := ⟨.hbm, 1724, rfl⟩
abbrev main_call11_v2 : Ref sig .tc := ⟨.hbm, 1725, rfl⟩
abbrev main_call11_v3 : Ref sig .tc := ⟨.hbm, 1726, rfl⟩
abbrev main_call11_v4 : Ref sig .tc := ⟨.hbm, 1727, rfl⟩
abbrev main_v167 : Ref sig .tc := ⟨.hbm, 1728, rfl⟩
abbrev main_cst_42 : Ref sig .tc := ⟨.hbm, 1729, rfl⟩
abbrev main_v168 : Ref sig .tc := ⟨.hbm, 1730, rfl⟩
abbrev main_v169 : Ref sig .tc := ⟨.hbm, 1731, rfl⟩
abbrev main_v170 : Ref sig .tc := ⟨.hbm, 1732, rfl⟩
abbrev main_cst_43 : Ref sig .tc := ⟨.hbm, 1733, rfl⟩
abbrev main_v171 : Ref sig .tc := ⟨.hbm, 1734, rfl⟩
abbrev main_v172 : Ref sig .tc := ⟨.hbm, 1735, rfl⟩
abbrev main_v173 : Ref sig .tc := ⟨.hbm, 1736, rfl⟩
abbrev main_cst_44 : Ref sig .tc := ⟨.hbm, 1737, rfl⟩
abbrev main_v174 : Ref sig .tc := ⟨.hbm, 1738, rfl⟩
abbrev main_v175 : Ref sig .tc := ⟨.hbm, 1739, rfl⟩
abbrev main_v176 : Ref sig .tc := ⟨.hbm, 1740, rfl⟩
abbrev main_v177 : Ref sig .tc := ⟨.hbm, 1741, rfl⟩
abbrev main_v178 : Ref sig .tc := ⟨.hbm, 1742, rfl⟩
abbrev main_v179 : Ref sig .tc := ⟨.hbm, 1743, rfl⟩
abbrev main_cst_45 : Ref sig .tc := ⟨.hbm, 1744, rfl⟩
abbrev main_v180 : Ref sig .tc := ⟨.hbm, 1745, rfl⟩
abbrev main_v181 : Ref sig .tc := ⟨.hbm, 1746, rfl⟩
abbrev main_v182 : Ref sig .tc := ⟨.hbm, 1747, rfl⟩

abbrev nD : Nat := 1
abbrev τ : Topo := Topo.v7x

variable {F : FTy → Type} [FloatOps F]
-- ==== Proof.KernelIdealFrame.lean ====
/- The run and the frame of `KernelIdeal`: after the generated frame, with more time for the launch. -/
module

public import proofs.«01_k».proof.Proof.Gen.KernelIdeal.Frame.RunA
public import Idealize.ShloMosaic.Lib.Claim

@[expose] public section

-- the long axes of the blocks need a deeper recursion
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 1 tile its block (4 stores of `S8x1`, checked by the kernel's evaluation: Lib/Ring.lean `Piece.tiledL`, linear in the pieces, through a loop's `@[irreducible]` trip theorem too), so they cover it. -/
theorem cover0_A_1 (c : Dev nD) (i : grid0.Coords) (arg3 : Memref sig .tc .vmem S8x100000 .f32) (harg3 : arg3.IsWhole) (arg4 : Memref sig .tc .vmem S8x4 .f32) (harg4 : arg4.IsWhole)
    (x0 : Vec F S8x100000 .f32) (xt0 : TbBuf0 (F := F) c tbM0_0) (xt1 : TbBuf0 (F := F) c tbM0_1) (y : S8x4.Idx) :
    ∃ pc ∈ (kernelRun0_A c i arg3 harg3 arg4 harg4 x0 xt0 xt1).1, y ∈ pc.1.set :=
  View.cover_of_tiledL (kernelRun0_A c i arg3 harg3 arg4 harg4 x0 xt0 xt1).1 S8x1.size (by sl_kernel_rfl) y

/-- What the run leaves in output 1's staging buffer: its pieces read back over junk. -/
def out0_A_1 (c : Dev nD) (i : grid0.Coords) (arg3 : Memref sig .tc .vmem S8x100000 .f32) (harg3 : arg3.IsWhole) (arg4 : Memref sig .tc .vmem S8x4 .f32) (harg4 : arg4.IsWhole)
    (x0 : Vec F S8x100000 .f32) (xt0 : TbBuf0 (F := F) c tbM0_0) (xt1 : TbBuf0 (F := F) c tbM0_1) : Vec F S8x4 .f32 :=
  VO0_1.read (Elt F) (VO0_1.writes (Elt F) VO0_1.junk (kernelRun0_A c i arg3 harg3 arg4 harg4 x0 xt0 xt1).1)

/-! ## What the outputs hold after each point -/

/-- What the outputs' staging buffers hold after the body at point `t`: the run's contents at
    the point's memrefs and input blocks. -/
def outsAt0 (hO : Ok m) (c : Dev nD) (t : Fin (cfgM m hO).N) : Vec F S8x4 .f32 :=
  out0_A_1 c (grid0.coords t) (ms0_0 m hO t) (hs0_0 m hO t) (ms0_1 m hO t) (hs0_1 m hO t) (iblk m hO c 0 t) (tbl m 0) (tbl m 1)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- What a grid point leaves in the output block. -/
theorem after0_1 (hO : Ok m) (c : Dev nD) (t : Fin (cfgM m hO).N) : (dats m hO 0 c).after 1 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0]
  rw [show (dats m hO 0 c).Φ t.succ = (dats m hO 0 c).Φ t.castSucc from rfl,
    show (dats m hO 0 c).owesAt () t.succ = (dats m hO 0 c).owesAt () t.castSucc from rfl,
    after0_0, after0_1]
  rw [show (dats m hO 0 c).Φ t.castSucc = iprop(Pipeline.ΦA spec0 c ∗ Pipeline.ΦT pre0 (tbl m) c) from rfl, PhiT0_eq]
  unfold outsAt0
  unfold out0_A_1
  iintro ⟨⟨HΦ, ⟨HT0, HT1⟩⟩, Ho, ⟨%d0, H0⟩, ⟨%d1, H1⟩⟩
  iapply ((kernelRun0_A c (grid0.coords t) _ _ _ _ (iblk m hO c 0 t) (tbl m 0) (tbl m 1)).2 Set.univ _)
  isplitl [H0]; · iexact H0
  isplitl [H1]; · iexists _; iexact H1
  isplitl [HT0]; · iexact HT0
  isplitl [HT1]; · iexact HT1
  iintro ⟨H0, ⟨%e1, H1⟩, HT0, HT1⟩
  isplitl [HΦ HT0 HT1]
  · isplitl [HΦ]
    · iexact HΦ
    isplitl [HT0]; · iexact HT0
    iexact HT1
  isplitl [Ho]; · iexact Ho
  isplitl [H0]; · iexact H0
  unfold owns; iexists _; isplitr
  swap; · iexact H1
  ipureintro; exact View.read_writes_of_cover _ _ _ _ _ (cover0_A_1 c _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
set_option maxHeartbeats 8000000 in
/-- THE LAUNCH: `run_main`'s statement, and every semaphore counter at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO) ((θ_run defs _ _).mono (fun _ h => h.2) (run_main_quiescent m ρ hO))

end Cert.KernelIdeal.Gen

end
-- ==== Proof.Steps.lean ====
/- A straight line of host operations, each with the equation it establishes. When every operation writes a buffer of its own
   and reads only buffers written before it, all the equations hold together of the contents at the end of the line. -/
module

public import Idealize.ShloMosaic.Lib.StableHlo.Run

@[expose] public section

noncomputable section

namespace Cert.Line

open Idealize.ShloMosaic Idealize.ShloMosaic.StableHlo

variable {τ : Topo} {sig : RefSig} {Val : EltTy → Type}

/-- The contents of a typed reference's buffer, at the value's type. -/
def get {T : BufTy} (V : Valuation τ sig Val) (x : TRef sig T) : T.Contents Val :=
  x.ofBuf (V (Proc.devRef .tc x.ref))

/-- One operation of a line: the operation, the reference it writes, the references it reads, and the equation between
    the contents of these that it establishes. -/
structure Step (τ : Topo) (sig : RefSig) (Val : EltTy → Type) where
  /-- The operation. -/
  op : HloOp τ sig Val
  /-- What it writes. -/
  out : Ref sig .tc
  /-- What it reads. -/
  ins : List (Ref sig .tc)
  /-- What it establishes. -/
  eqn : Valuation τ sig Val → Prop
  hw : op.writes = {Proc.devRef (τ := τ) .tc out}
  hb : op.bufs ⊆ tcRefs τ sig
  hf : op.fresh = ∅
  sound : ∀ V W : Valuation τ sig Val, (∀ r ∈ ins, W (Proc.devRef .tc r) = V (Proc.devRef .tc r)) →
    W (Proc.devRef .tc out) = op.result V (Proc.devRef .tc out) → eqn W

/-- The operations of a line. -/
abbrev ops (l : List (Step τ sig Val)) : List (HloOp τ sig Val) := l.map Step.op

/-- All the equations of a line. -/
abbrev Eqs (l : List (Step τ sig Val)) (V : Valuation τ sig Val) : Prop := l.Forall fun s => s.eqn V

/-- The equations of two lines one after the other are those of each. -/
theorem eqs_append (l₁ l₂ : List (Step τ sig Val)) (V : Valuation τ sig Val) :
    Eqs (l₁ ++ l₂) V ↔ Eqs l₁ V ∧ Eqs l₂ V := by
  simp only [Eqs, List.forall_iff_forall_mem, List.mem_append]
  exact ⟨fun h => ⟨fun x hx => h x (.inl hx), fun x hx => h x (.inr hx)⟩, fun h x hx => hx.elim (h.1 x) (h.2 x)⟩

section Steps

variable {Ta Tb Tc Te Ty : BufTy}

/-- A constant. -/
def nul (y : TRef sig Ty) (v : Ty.Contents Val) : Step τ sig Val where
  op := TRef.nullary y v
  out := y.ref
  ins := []
  eqn V := get V y = v
  hw := rfl
  hb := nullary_bufs_sub ..
  hf := rfl
  sound V W _ h := by
    rw [get, h, nullary_result]; rcases y with ⟨r, rfl, _, _⟩; rfl

/-- An operation of one operand. -/
def un (a : TRef sig Ta) (y : TRef sig Ty) (f : Ta.Contents Val → Ty.Contents Val) : Step τ sig Val where
  op := TRef.unary a y f
  out := y.ref
  ins := [a.ref]
  eqn V := get V y = f (get V a)
  hw := rfl
  hb := unary_bufs_sub ..
  hf := rfl
  sound V W e h := by
    rw [get, get, h, e a.ref (by simp), unary_result]; rcases y with ⟨r, rfl, _, _⟩; rfl

/-- An operation of two operands. -/
def bin (a : TRef sig Ta) (b : TRef sig Tb) (y : TRef sig Ty)
    (f : Ta.Contents Val → Tb.Contents Val → Ty.Contents Val) : Step τ sig Val where
  op := TRef.binary a b y f
  out := y.ref
  ins := [a.ref, b.ref]
  eqn V := get V y = f (get V a) (get V b)
  hw := rfl
  hb := binary_bufs_sub ..
  hf := rfl
  sound V W e h := by
    rw [get, get, get, h, e a.ref (by simp), e b.ref (by simp), binary_result]; rcases y with ⟨r, rfl, _, _⟩; rfl

/-- An operation of four operands. -/
def quat (a : TRef sig Ta) (b : TRef sig Tb) (c : TRef sig Tc) (d : TRef sig Te) (y : TRef sig Ty)
    (f : Ta.Contents Val → Tb.Contents Val → Tc.Contents Val → Te.Contents Val → Ty.Contents Val) : Step τ sig Val where
  op := TRef.quaternary a b c d y f
  out := y.ref
  ins := [a.ref, b.ref, c.ref, d.ref]
  eqn V := get V y = f (get V a) (get V b) (get V c) (get V d)
  hw := rfl
  hb := quaternary_bufs_sub ..
  hf := rfl
  sound V W e h := by
    rw [get, get, get, get, get, h, e a.ref (by simp), e b.ref (by simp), e c.ref (by simp), e d.ref (by simp),
      quaternary_result]
    rcases y with ⟨r, rfl, _, _⟩; rfl

/-- A reshape. -/
def resh {S S' : Shape} {e : EltTy} (a : TRef sig ⟨S, e⟩) (y : TRef sig ⟨S', e⟩) (hn : S.ShapeCasts S') : Step τ sig Val where
  op := TRef.reshape a y rfl hn
  out := y.ref
  ins := [a.ref]
  eqn V := get V y = shapeCast S' (get V a) hn
  hw := rfl
  hb := reshape_bufs_sub ..
  hf := rfl
  sound V W ha h := by
    have key : ∀ {T T' : BufTy} (x : TRef sig T) (z : TRef sig T') (he : T.elt = T'.elt) (hn : T.shape.ShapeCasts T'.shape)
        (V : Valuation τ sig Val), z.ofBuf ((TRef.reshape x z he hn : HloOp τ sig Val).result V (Proc.devRef .tc z.ref))
          = fun i => he ▸ shapeCast T'.shape (x.ofBuf (V (Proc.devRef .tc x.ref))) hn i := by
      rintro T T' ⟨r, rfl, _, _⟩ ⟨s, rfl, _, _⟩ he hn V
      exact reshape_result (Val := Val) r s he hn _ _ V
    rw [get, get, h, ha a.ref (by simp)]
    exact key a y rfl hn V

/-- An operation of three operands of one type, taken as a family. -/
def nar {Ts : Fin 3 → BufTy} (xs : (k : Fin 3) → TRef sig (Ts k)) (y : TRef sig Ty)
    (f : ((k : Fin 3) → (Ts k).Contents Val) → Ty.Contents Val) : Step τ sig Val where
  op := TRef.nary xs y f
  out := y.ref
  ins := [(xs 0).ref, (xs 1).ref, (xs 2).ref]
  eqn V := get V y = f fun k => get V (xs k)
  hw := rfl
  hb := nary_bufs_sub ..
  hf := rfl
  sound V W e h := by
    have hx : (fun k => get W (xs k)) = fun k => get V (xs k) := by
      funext k
      fin_cases k <;> exact congrArg (TRef.ofBuf _) (e _ (by simp))
    rw [hx, get, h, nary_result]; rcases y with ⟨r, rfl, _, _⟩; rfl

end Steps

variable (key : Ref sig .tc → Nat)

/-- Each operation of the line writes a reference of larger key than those written before it (the first at least `n`)
    and than those it reads. -/
def chk : Nat → List (Step τ sig Val) → Bool
  | _, [] => true
  | n, s :: l => decide (n ≤ key s.out) && s.ins.all (fun r => decide (key r < key s.out)) && chk (key s.out + 1) l

/-- A reference of key below `n` keeps its contents over a line that starts at `n`. -/
theorem after_of_lt : ∀ (l : List (Step τ sig Val)) (n : Nat) (V : Valuation τ sig Val) (r : Ref sig .tc),
    chk key n l = true → key r < n → after (ops l) V (Proc.devRef .tc r) = V (Proc.devRef .tc r)
  | [], _, _, _, _, _ => rfl
  | s :: l, n, V, r, h, hr => by
    simp only [chk, Bool.and_eq_true, decide_eq_true_eq] at h
    have hne : key r < key s.out := lt_of_lt_of_le hr h.1.1
    rw [show ops (s :: l) = s.op :: ops l from rfl, after_cons, after_of_lt l _ _ r h.2 (by omega)]
    exact result_of_writes_ne _ _ _ _ s.hw fun e => by rw [e] at hne; exact lt_irrefl _ hne

/-- At the end of a checked line all its equations hold. -/
theorem eqs_after : ∀ (l : List (Step τ sig Val)) (n : Nat) (V : Valuation τ sig Val),
    chk key n l = true → Eqs l (after (ops l) V)
  | [], _, _, _ => trivial
  | s :: l, n, V, h => by
    have h' := h
    simp only [chk, Bool.and_eq_true, decide_eq_true_eq, List.all_eq_true] at h
    refine (List.forall_cons _ _ _).mpr ⟨s.sound V _ (fun r hr => ?_) ?_, ?_⟩
    · have := h.1.2 r hr
      have hne : r ≠ s.out := fun e => by rw [e] at this; exact lt_irrefl _ this
      rw [show ops (s :: l) = s.op :: ops l from rfl, after_cons, after_of_lt key l _ _ r h.2 (by omega)]
      exact result_of_writes_ne _ _ _ _ s.hw hne
    · rw [show ops (s :: l) = s.op :: ops l from rfl, after_cons]
      exact after_of_lt key l _ _ s.out h.2 (by omega)
    · exact eqs_after l _ _ h.2

end Cert.Line

end
-- ==== Proof.Threefry.lean ====
/- The threefry 2x32 block cipher: what it computes on a pair of words, and that the line of host operations that spells it out
   computes this at every place of the arrays. -/
module

public import proofs.«01_k».proof.Proof.Steps
public import Idealize.ShloMosaic.Lib.IdealHost
public import Idealize.ShloMosaic.Lib.KernelVsHost

@[expose] public section

noncomputable section

namespace Cert.Line

open Idealize.ShloMosaic Idealize.ShloMosaic.StableHlo Idealize.ShloMosaic.ValueIdx

/-! ## The cipher -/

/-- One round: the sum, and the sum against the second word rotated by `r` (whose complement to 32 is `r'`). -/
def rnd (r r' : BitVec 32) (p : BitVec 32 × BitVec 32) : BitVec 32 × BitVec 32 :=
  (p.1 + p.2, (p.1 + p.2) ^^^ (IntOp.shli .vector p.2 r ||| IntOp.shrui .vector p.2 r'))

/-- The key words added between two groups of rounds, the second with the group's number. -/
def inj (ka kb n : BitVec 32) (p : BitVec 32 × BitVec 32) : BitVec 32 × BitVec 32 := (p.1 + ka, p.2 + (kb + n))

/-- The four rounds of an odd group. -/
def odd (p : BitVec 32 × BitVec 32) : BitVec 32 × BitVec 32 :=
  rnd 6#32 26#32 (rnd 26#32 6#32 (rnd 15#32 17#32 (rnd 13#32 19#32 p)))

/-- The four rounds of an even group. -/
def even (p : BitVec 32 × BitVec 32) : BitVec 32 × BitVec 32 :=
  rnd 24#32 8#32 (rnd 16#32 16#32 (rnd 29#32 3#32 (rnd 17#32 15#32 p)))

/-- The third key word. -/
def key2 (k0 k1 : BitVec 32) : BitVec 32 := (k0 ^^^ k1) ^^^ 466688986#32

/-- Threefry 2x32 with key `k0 k1` on the counter `x0 x1`: twenty rounds. -/
def tf (k0 k1 x0 x1 : BitVec 32) : BitVec 32 × BitVec 32 :=
  inj (key2 k0 k1) k0 5#32 <| odd <| inj k1 (key2 k0 k1) 4#32 <| even <| inj k0 k1 3#32 <| odd <|
  inj (key2 k0 k1) k0 2#32 <| even <| inj k1 (key2 k0 k1) 1#32 <| odd (x0 + k0, x1 + k1)

/-! ## The host operations -/

variable {τ : Topo} {sig : RefSig} {F : FTy → Type} [FloatOps F]

/-- A scalar buffer of words. -/
abbrev R0 (sig : RefSig) := TRef sig ⟨⟨0, ![]⟩, .i32⟩
/-- A buffer of words of shape `S`. -/
abbrev RS (sig : RefSig) (S : Shape) := TRef sig ⟨S, .i32⟩

/-- The buffers of one round. -/
structure Rnd (sig : RefSig) (S : Shape) where
  s : RS sig S
  c : R0 sig
  b : RS sig S
  l : RS sig S
  c' : R0 sig
  b' : RS sig S
  r : RS sig S
  o : RS sig S
  y : RS sig S

/-- The buffers of one group: four rounds and the addition of the key. -/
structure Grp (sig : RefSig) (S : Shape) where
  r1 : Rnd sig S
  r2 : Rnd sig S
  r3 : Rnd sig S
  r4 : Rnd sig S
  ba : RS sig S
  a : RS sig S
  bb : RS sig S
  b : RS sig S
  c : R0 sig
  bc : RS sig S
  y : RS sig S

/-- The buffers of the cipher. -/
structure Tf (sig : RefSig) (S : Shape) where
  v0 : R0 sig
  c : R0 sig
  v1 : R0 sig
  v2 : RS sig S
  v3 : RS sig S
  v4 : RS sig S
  v5 : RS sig S
  g1 : Grp sig S
  g2 : Grp sig S
  g3 : Grp sig S
  g4 : Grp sig S
  g5 : Grp sig S

variable {S : Shape} (h : (⟨0, ![]⟩ : Shape).BroadcastsInDim S ![])

/-- A round's operations. -/
def rndSteps (a b : RS sig S) (n n' : BitVec 32) (φ : Rnd sig S) : List (Step τ sig (Elt F)) :=
  [bin a b φ.s addi, nul φ.c (constantI ⟨0, ![]⟩ 32 n), un φ.c φ.b (broadcastInDim S ![] h), bin b φ.b φ.l Host.shli,
   nul φ.c' (constantI ⟨0, ![]⟩ 32 n'), un φ.c' φ.b' (broadcastInDim S ![] h), bin b φ.b' φ.r Host.shrui,
   bin φ.l φ.r φ.o ori, bin φ.s φ.o φ.y xori]

/-- A group's operations, with the four rotations. -/
def grpSteps (a b : RS sig S) (ka kb : R0 sig) (n n1 n1' n2 n2' n3 n3' n4 n4' : BitVec 32) (φ : Grp sig S) :
    List (Step τ sig (Elt F)) :=
  rndSteps h a b n1 n1' φ.r1 ++ (rndSteps h φ.r1.s φ.r1.y n2 n2' φ.r2 ++ (rndSteps h φ.r2.s φ.r2.y n3 n3' φ.r3 ++
    (rndSteps h φ.r3.s φ.r3.y n4 n4' φ.r4 ++
      [un ka φ.ba (broadcastInDim S ![] h), bin φ.r4.s φ.ba φ.a addi, un kb φ.bb (broadcastInDim S ![] h),
       bin φ.r4.y φ.bb φ.b addi, nul φ.c (constantI ⟨0, ![]⟩ 32 n), un φ.c φ.bc (broadcastInDim S ![] h),
       bin φ.b φ.bc φ.y addi])))

/-- An odd group's operations. -/
def oddSteps (a b : RS sig S) (ka kb : R0 sig) (n : BitVec 32) (φ : Grp sig S) : List (Step τ sig (Elt F)) :=
  grpSteps h a b ka kb n 13#32 19#32 15#32 17#32 26#32 6#32 6#32 26#32 φ

/-- An even group's operations. -/
def evenSteps (a b : RS sig S) (ka kb : R0 sig) (n : BitVec 32) (φ : Grp sig S) : List (Step τ sig (Elt F)) :=
  grpSteps h a b ka kb n 17#32 15#32 29#32 3#32 16#32 16#32 24#32 8#32 φ

/-- The cipher's operations on the key `a0 a1` and the counters `a2 a3`. -/
def tfSteps (a0 a1 : R0 sig) (a2 a3 : RS sig S) (φ : Tf sig S) : List (Step τ sig (Elt F)) :=
  [bin a0 a1 φ.v0 xori, nul φ.c (constantI ⟨0, ![]⟩ 32 466688986#32), bin φ.v0 φ.c φ.v1 xori,
   un a0 φ.v2 (broadcastInDim S ![] h), bin a2 φ.v2 φ.v3 addi, un a1 φ.v4 (broadcastInDim S ![] h),
   bin a3 φ.v4 φ.v5 addi] ++
  (oddSteps h φ.v3 φ.v5 a1 φ.v1 1#32 φ.g1 ++ (evenSteps h φ.g1.a φ.g1.y φ.v1 a0 2#32 φ.g2 ++
    (oddSteps h φ.g2.a φ.g2.y a0 a1 3#32 φ.g3 ++ (evenSteps h φ.g3.a φ.g3.y a1 φ.v1 4#32 φ.g4 ++
      oddSteps h φ.g4.a φ.g4.y φ.v1 a0 5#32 φ.g5))))

variable {V : Valuation τ sig (Elt F)}

/-- The pair of words two buffers hold at a place. -/
def at2 (V : Valuation τ sig (Elt F)) (a b : RS sig S) (j : S.Idx) : BitVec 32 × BitVec 32 :=
  (get V a j, get V b j)

/-- A line of round operations computes a round. -/
theorem rnd_of {a b : RS sig S} {n n' : BitVec 32} {φ : Rnd sig S} (e : Eqs (rndSteps h a b n n' φ) V) (j : S.Idx) :
    at2 V φ.s φ.y j = rnd n n' (at2 V a b j) := by
  obtain ⟨e1, e2, e3, e4, e5, e6, e7, e8, e9⟩ := e
  simp only [at2, rnd]
  rw [e9, e8, e7, e6, e5, e4, e3, e2, e1]
  simp only [addi, xori, ori, hostShli_eq_shli, hostShrui_eq_shrui, shli, shrui, broadcastInDim_scalar_apply, constantI]
  rfl

/-- A line of group operations computes the four rounds and adds the key. -/
theorem grp_of {a b : RS sig S} {ka kb : R0 sig} {n n1 n1' n2 n2' n3 n3' n4 n4' : BitVec 32} {φ : Grp sig S}
    (e : Eqs (grpSteps h a b ka kb n n1 n1' n2 n2' n3 n3' n4 n4' φ) V) (j : S.Idx) :
    at2 V φ.a φ.y j = inj (get V ka ix0) (get V kb ix0) n
      (rnd n4 n4' (rnd n3 n3' (rnd n2 n2' (rnd n1 n1' (at2 V a b j))))) := by
  simp only [grpSteps, eqs_append] at e
  obtain ⟨e1, e2, e3, e4, f1, f2, f3, f4, f5, f6, f7⟩ := e
  rw [← rnd_of h e1, ← rnd_of h e2, ← rnd_of h e3, ← rnd_of h e4]
  simp only [at2, inj]
  rw [f7, f6, f5, f4, f3, f2, f1]
  simp only [addi, broadcastInDim_scalar_apply, constantI, IntOp.addi, BitVec.add_assoc]

/-- The cipher's line of operations computes the cipher at every place. -/
theorem tf_of {a0 a1 : R0 sig} {a2 a3 : RS sig S} {φ : Tf sig S} (e : Eqs (tfSteps h a0 a1 a2 a3 φ) V) (j : S.Idx) :
    at2 V φ.g5.a φ.g5.y j = tf (get V a0 ix0) (get V a1 ix0) (get V a2 j) (get V a3 j) := by
  simp only [tfSteps, eqs_append] at e
  obtain ⟨⟨f1, f2, f3, f4, f5, f6, f7⟩, e1, e2, e3, e4, e5⟩ := e
  unfold oddSteps at e1 e3 e5
  unfold evenSteps at e2 e4
  have hk : get V φ.v1 ix0 = key2 (get V a0 ix0) (get V a1 ix0) := by
    rw [f3, f2, f1]; rfl
  have h0 : at2 V φ.v3 φ.v5 j = (get V a2 j + get V a0 ix0, get V a3 j + get V a1 ix0) := by
    simp only [at2]
    rw [f7, f6, f5, f4]
    simp only [addi, broadcastInDim_scalar_apply, IntOp.addi]
  rw [tf, ← hk, ← h0]
  simp only [odd, even]
  rw [← grp_of h e1, ← grp_of h e2, ← grp_of h e3, ← grp_of h e4, ← grp_of h e5]

/-! ## Folding a number into a key -/

/-- The shapes of a word, of one word, of a key. -/
abbrev Z0 : Shape := ⟨0, ![]⟩
/-- The shape of one word. -/
abbrev Z1 : Shape := ⟨1, ![1]⟩
/-- The shape of two words. -/
abbrev Z2 : Shape := ⟨1, ![2]⟩

/-- The buffers of folding a number into a key. -/
structure Fold (sig : RefSig) where
  c : R0 sig
  v0 : R0 sig
  v1 : RS sig Z1
  c_0 : R0 sig
  v2 : R0 sig
  v3 : RS sig Z1
  v4 : RS sig Z2
  v5 : RS sig Z1
  v6 : R0 sig
  v7 : RS sig Z1
  v8 : R0 sig
  v9 : RS sig Z1
  v10 : RS sig Z1
  t : Tf sig Z1
  v12 : RS sig Z2

variable (hb : Z0.BroadcastsInDim Z1 ![]) (hc : Shape.Concatenates [Z1, Z1] Z2 0) (hs0 : Z2.Slices ![0] Z1)
  (hs1 : Z2.Slices ![1] Z1) (hr : Z1.ShapeCasts Z0)

/-- The operations before the cipher. -/
def foldPre (a0 : RS sig Z2) (a1 : R0 sig) (φ : Fold sig) : List (Step τ sig (Elt F)) :=
  [nul φ.c (constantI Z0 32 32#32), bin a1 φ.c φ.v0 Host.shrui, un φ.v0 φ.v1 (broadcastInDim Z1 ![] hb),
   nul φ.c_0 (constantI Z0 32 4294967295#32), bin a1 φ.c_0 φ.v2 andi, un φ.v2 φ.v3 (broadcastInDim Z1 ![] hb),
   bin φ.v1 φ.v3 φ.v4 (fun a b => concatenate Z2 0 [⟨Z1, a⟩, ⟨Z1, b⟩] hc),
   un a0 φ.v5 (extractStridedSlice Z1 ![0] · hs0), resh φ.v5 φ.v6 hr,
   un a0 φ.v7 (extractStridedSlice Z1 ![1] · hs1), resh φ.v7 φ.v8 hr,
   un φ.v4 φ.v9 (extractStridedSlice Z1 ![0] · hs0), un φ.v4 φ.v10 (extractStridedSlice Z1 ![1] · hs1)]

/-- The operations of folding the number `a1` into the key `a0`. -/
def foldSteps (a0 : RS sig Z2) (a1 : R0 sig) (φ : Fold sig) : List (Step τ sig (Elt F)) :=
  foldPre hb hc hs0 hs1 hr a0 a1 φ ++ (tfSteps hb φ.v6 φ.v8 φ.v9 φ.v10 φ.t ++
    [bin φ.t.g5.a φ.t.g5.y φ.v12 (fun a b => concatenate Z2 0 [⟨Z1, a⟩, ⟨Z1, b⟩] hc)])

/-- The number `d`, as a pair of words, put through the cipher with key `k`: the new key. -/
def foldIn (k : Z2.Idx → BitVec 32) (d : Z0.Idx → BitVec 32) : Z2.Idx → BitVec 32 :=
  let x := concatenate Z2 0 [⟨Z1, broadcastInDim Z1 ![] hb (Host.shrui d (constantI Z0 32 32#32))⟩,
    ⟨Z1, broadcastInDim Z1 ![] hb (andi d (constantI Z0 32 4294967295#32))⟩] hc
  let t := fun j => tf (shapeCast Z0 (extractStridedSlice Z1 ![0] k hs0) hr ix0)
    (shapeCast Z0 (extractStridedSlice Z1 ![1] k hs1) hr ix0)
    (extractStridedSlice Z1 ![0] x hs0 j) (extractStridedSlice Z1 ![1] x hs1 j)
  concatenate Z2 0 [⟨Z1, fun j => (t j).1⟩, ⟨Z1, fun j => (t j).2⟩] hc

/-- The folding line computes the new key. -/
theorem fold_of {a0 : RS sig Z2} {a1 : R0 sig} {φ : Fold sig} (e : Eqs (foldSteps hb hc hs0 hs1 hr a0 a1 φ) V) :
    get V φ.v12 = foldIn hb hc hs0 hs1 hr (get V a0) (get V a1) := by
  simp only [foldSteps, eqs_append] at e
  obtain ⟨⟨f1, f2, f3, f4, f5, f6, f7, f8, f9, f10, f11, f12, f13⟩, et, g⟩ := e
  have ht := tf_of hb et
  have h1 : get V φ.t.g5.a = _ := funext fun j => congrArg Prod.fst (ht j)
  have h2 : get V φ.t.g5.y = _ := funext fun j => congrArg Prod.snd (ht j)
  refine Eq.trans g ?_
  rw [h1, h2]
  rw [f13, f12, f11, f10, f9, f8, f7, f6, f5, f4, f3, f2, f1]
  rfl

end Cert.Line

end
-- ==== Proof.RefLine.lean ====
/- The reference program as a line of steps, and its run: every buffer ends at the line's final contents. -/
module

public import proofs.«01_k».proof.Proof.Threefry
public import proofs.«01_k».proof.Proof.Gen.ReferenceIdeal
public import Idealize.ShloMosaic.Lib.StableHlo.RunHlo
public import Idealize.ShloMosaic.Lib.Pipeline.Regions

@[expose] public section

set_option maxRecDepth 16384

noncomputable section

namespace Cert.ReferenceIdeal.Own

open Idealize.ShloMosaic Idealize.ShloMosaic.StableHlo Idealize.ShloMosaic.ValueIdx Idealize.SL.Sem Cert.Line
open Cert.ReferenceIdeal Cert.ReferenceIdeal.Facts₀ Cert.ReferenceIdeal.Facts

variable {F : FTy → Type} [FloatOps F]

/-- The cipher's buffers of a call on one word, in the order of its operations. -/
def tfB (φ : fn_threefry2x32.Bufs) : Tf sig S1 :=
  ⟨φ.v0, φ.c, φ.v1, φ.v2, φ.v3, φ.v4, φ.v5,
   ⟨⟨φ.v6, φ.c_0, φ.v7, φ.v8, φ.c_1, φ.v9, φ.v10, φ.v11, φ.v12⟩,
    ⟨φ.v13, φ.c_2, φ.v14, φ.v15, φ.c_3, φ.v16, φ.v17, φ.v18, φ.v19⟩,
    ⟨φ.v20, φ.c_4, φ.v21, φ.v22, φ.c_5, φ.v23, φ.v24, φ.v25, φ.v26⟩,
    ⟨φ.v27, φ.c_6, φ.v28, φ.v29, φ.c_7, φ.v30, φ.v31, φ.v32, φ.v33⟩,
    φ.v34, φ.v35, φ.v36, φ.v37, φ.c_8, φ.v38, φ.v39⟩,
   ⟨⟨φ.v40, φ.c_9, φ.v41, φ.v42, φ.c_10, φ.v43, φ.v44, φ.v45, φ.v46⟩,
    ⟨φ.v47, φ.c_11, φ.v48, φ.v49, φ.c_12, φ.v50, φ.v51, φ.v52, φ.v53⟩,
    ⟨φ.v54, φ.c_13, φ.v55, φ.v56, φ.c_14, φ.v57, φ.v58, φ.v59, φ.v60⟩,
    ⟨φ.v61, φ.c_15, φ.v62, φ.v63, φ.c_16, φ.v64, φ.v65, φ.v66, φ.v67⟩,
    φ.v68, φ.v69, φ.v70, φ.v71, φ.c_17, φ.v72, φ.v73⟩,
   ⟨⟨φ.v74, φ.c_18, φ.v75, φ.v76, φ.c_19, φ.v77, φ.v78, φ.v79, φ.v80⟩,
    ⟨φ.v81, φ.c_20, φ.v82, φ.v83, φ.c_21, φ.v84, φ.v85, φ.v86, φ.v87⟩,
    ⟨φ.v88, φ.c_22, φ.v89, φ.v90, φ.c_23, φ.v91, φ.v92, φ.v93, φ.v94⟩,
    ⟨φ.v95, φ.c_24, φ.v96, φ.v97, φ.c_25, φ.v98, φ.v99, φ.v100, φ.v101⟩,
    φ.v102, φ.v103, φ.v104, φ.v105, φ.c_26, φ.v106, φ.v107⟩,
   ⟨⟨φ.v108, φ.c_27, φ.v109, φ.v110, φ.c_28, φ.v111, φ.v112, φ.v113, φ.v114⟩,
    ⟨φ.v115, φ.c_29, φ.v116, φ.v117, φ.c_30, φ.v118, φ.v119, φ.v120, φ.v121⟩,
    ⟨φ.v122, φ.c_31, φ.v123, φ.v124, φ.c_32, φ.v125, φ.v126, φ.v127, φ.v128⟩,
    ⟨φ.v129, φ.c_33, φ.v130, φ.v131, φ.c_34, φ.v132, φ.v133, φ.v134, φ.v135⟩,
    φ.v136, φ.v137, φ.v138, φ.v139, φ.c_35, φ.v140, φ.v141⟩,
   ⟨⟨φ.v142, φ.c_36, φ.v143, φ.v144, φ.c_37, φ.v145, φ.v146, φ.v147, φ.v148⟩,
    ⟨φ.v149, φ.c_38, φ.v150, φ.v151, φ.c_39, φ.v152, φ.v153, φ.v154, φ.v155⟩,
    ⟨φ.v156, φ.c_40, φ.v157, φ.v158, φ.c_41, φ.v159, φ.v160, φ.v161, φ.v162⟩,
    ⟨φ.v163, φ.c_42, φ.v164, φ.v165, φ.c_43, φ.v166, φ.v167, φ.v168, φ.v169⟩,
    φ.v170, φ.v171, φ.v172, φ.v173, φ.c_44, φ.v174, φ.v175⟩⟩

/-- The cipher's buffers of a call on a whole array, in the order of its operations. -/
def tfB0 (φ : fn_threefry2x32_0.Bufs) : Tf sig S128x100000 :=
  ⟨φ.v0, φ.c, φ.v1, φ.v2, φ.v3, φ.v4, φ.v5,
   ⟨⟨φ.v6, φ.c_0, φ.v7, φ.v8, φ.c_1, φ.v9, φ.v10, φ.v11, φ.v12⟩,
    ⟨φ.v13, φ.c_2, φ.v14, φ.v15, φ.c_3, φ.v16, φ.v17, φ.v18, φ.v19⟩,
    ⟨φ.v20, φ.c_4, φ.v21, φ.v22, φ.c_5, φ.v23, φ.v24, φ.v25, φ.v26⟩,
    ⟨φ.v27, φ.c_6, φ.v28, φ.v29, φ.c_7, φ.v30, φ.v31, φ.v32, φ.v33⟩,
    φ.v34, φ.v35, φ.v36, φ.v37, φ.c_8, φ.v38, φ.v39⟩,
   ⟨⟨φ.v40, φ.c_9, φ.v41, φ.v42, φ.c_10, φ.v43, φ.v44, φ.v45, φ.v46⟩,
    ⟨φ.v47, φ.c_11, φ.v48, φ.v49, φ.c_12, φ.v50, φ.v51, φ.v52, φ.v53⟩,
    ⟨φ.v54, φ.c_13, φ.v55, φ.v56, φ.c_14, φ.v57, φ.v58, φ.v59, φ.v60⟩,
    ⟨φ.v61, φ.c_15, φ.v62, φ.v63, φ.c_16, φ.v64, φ.v65, φ.v66, φ.v67⟩,
    φ.v68, φ.v69, φ.v70, φ.v71, φ.c_17, φ.v72, φ.v73⟩,
   ⟨⟨φ.v74, φ.c_18, φ.v75, φ.v76, φ.c_19, φ.v77, φ.v78, φ.v79, φ.v80⟩,
    ⟨φ.v81, φ.c_20, φ.v82, φ.v83, φ.c_21, φ.v84, φ.v85, φ.v86, φ.v87⟩,
    ⟨φ.v88, φ.c_22, φ.v89, φ.v90, φ.c_23, φ.v91, φ.v92, φ.v93, φ.v94⟩,
    ⟨φ.v95, φ.c_24, φ.v96, φ.v97, φ.c_25, φ.v98, φ.v99, φ.v100, φ.v101⟩,
    φ.v102, φ.v103, φ.v104, φ.v105, φ.c_26, φ.v106, φ.v107⟩,
   ⟨⟨φ.v108, φ.c_27, φ.v109, φ.v110, φ.c_28, φ.v111, φ.v112, φ.v113, φ.v114⟩,
    ⟨φ.v115, φ.c_29, φ.v116, φ.v117, φ.c_30, φ.v118, φ.v119, φ.v120, φ.v121⟩,
    ⟨φ.v122, φ.c_31, φ.v123, φ.v124, φ.c_32, φ.v125, φ.v126, φ.v127, φ.v128⟩,
    ⟨φ.v129, φ.c_33, φ.v130, φ.v131, φ.c_34, φ.v132, φ.v133, φ.v134, φ.v135⟩,
    φ.v136, φ.v137, φ.v138, φ.v139, φ.c_35, φ.v140, φ.v141⟩,
   ⟨⟨φ.v142, φ.c_36, φ.v143, φ.v144, φ.c_37, φ.v145, φ.v146, φ.v147, φ.v148⟩,
    ⟨φ.v149, φ.c_38, φ.v150, φ.v151, φ.c_39, φ.v152, φ.v153, φ.v154, φ.v155⟩,
    ⟨φ.v156, φ.c_40, φ.v157, φ.v158, φ.c_41, φ.v159, φ.v160, φ.v161, φ.v162⟩,
    ⟨φ.v163, φ.c_42, φ.v164, φ.v165, φ.c_43, φ.v166, φ.v167, φ.v168, φ.v169⟩,
    φ.v170, φ.v171, φ.v172, φ.v173, φ.c_44, φ.v174, φ.v175⟩⟩

/-- The buffers of a folding call. -/
def foldB (φ : fn_threefry_fold_in.Bufs) : Fold sig :=
  ⟨φ.c, φ.v0, φ.v1, φ.c_0, φ.v2, φ.v3, φ.v4, φ.v5, φ.v6, φ.v7, φ.v8, φ.v9, φ.v10, tfB φ.call0, φ.v12⟩

/-- A folding call's operations. -/
abbrev foldL (a0 : RS sig S2) (a1 : R0 sig) (φ : Fold sig) : List (Step τ sig (Elt F)) :=
  foldSteps bcast_S_S1 concatenates_S1_S1_S2_d0 slices_S2_S1_0 slices_S2_S1_1 shapeCasts_S1_S_ a0 a1 φ

/-- A uniform draw's operations. -/
def uniL (arg0 : RS sig S2) (arg1 arg2 : TRef sig ⟨S_, .f32⟩) (φ : fn_uniform.Bufs) : List (Step τ sig (Elt F)) :=
  [ un arg1 φ.v0 id,
    un arg2 φ.v1 id,
    un φ.v0 φ.v2 (broadcastInDim S1x1 ![] bcast_S_S1x1),
    un φ.v1 φ.v3 (broadcastInDim S1x1 ![] bcast_S_S1x1),
    un arg0 φ.v4 (extractStridedSlice S1 ![0] · slices_S2_S1_0),
    resh φ.v4 φ.v5 shapeCasts_S1_S_,
    un arg0 φ.v6 (extractStridedSlice S1 ![1] · slices_S2_S1_1),
    resh φ.v6 φ.v7 shapeCasts_S1_S_,
    nul φ.v8 (iotaInDim S128x100000 64 0),
    nul φ.v9 (iotaInDim S128x100000 64 1),
    nul φ.c (constantI S_ 64 100000#64),
    un φ.c φ.v10 (broadcastInDim S128x100000 ![] bcast_S_S128x100000),
    bin φ.v10 φ.v8 φ.v11 muli,
    nul φ.c_0 (constantI S_ 64 1#64),
    un φ.c_0 φ.v12 (broadcastInDim S128x100000 ![] bcast_S_S128x100000),
    bin φ.v12 φ.v9 φ.v13 muli,
    bin φ.v11 φ.v13 φ.v14 addi,
    nul φ.c_1 (constantI S_ 64 32#64),
    un φ.c_1 φ.v15 (broadcastInDim S128x100000 ![] bcast_S_S128x100000),
    bin φ.v14 φ.v15 φ.v16 Host.shrui,
    un φ.v14 φ.v17 (trunci 32 · natLt_32_64),
    un φ.v16 φ.v18 (trunci 32 · natLt_32_64) ] ++ (
  tfSteps bcast_S_S128x100000 φ.v5 φ.v7 φ.v18 φ.v17 (tfB0 φ.call0) ++ (
  [ bin φ.call0.v171 φ.call0.v175 φ.v20 xori,
    nul φ.c_2 (constantI S_ 32 9#32),
    un φ.c_2 φ.v21 (broadcastInDim S128x100000 ![] bcast_S_S128x100000),
    bin φ.v20 φ.v21 φ.v22 Host.shrui,
    nul φ.c_3 (constantI S_ 32 1065353216#32),
    un φ.c_3 φ.v23 (broadcastInDim S128x100000 ![] bcast_S_S128x100000),
    bin φ.v22 φ.v23 φ.v24 ori,
    un φ.v24 φ.v25 (bitcastToFloat .f32),
    nul φ.cst (constant S_ .f32 0x3F800000#32),
    un φ.cst φ.v26 (broadcastInDim S128x100000 ![] bcast_S_S128x100000),
    bin φ.v25 φ.v26 φ.v27 subf,
    bin φ.v3 φ.v2 φ.v28 subf,
    un φ.v28 φ.v29 (broadcastInDim S128x100000 ![0, 1] bcast_S1x1_S128x100000_0_1),
    bin φ.v27 φ.v29 φ.v30 mulf,
    un φ.v2 φ.v31 (broadcastInDim S128x100000 ![0, 1] bcast_S1x1_S128x100000_0_1),
    bin φ.v30 φ.v31 φ.v32 addf,
    un φ.v2 φ.v33 (broadcastInDim S128x100000 ![0, 1] bcast_S1x1_S128x100000_0_1),
    bin φ.v33 φ.v32 φ.v34 maximumf ]))

/-- The operations of the place of the largest. -/
def argmaxL (arg0 : TRef sig ⟨S128x100000, .f32⟩) (φ : fn_argmax.Bufs) : List (Step τ sig (Elt F)) :=
  [ nul φ.v0 (iotaInDim S128x100000 32 1),
    nul φ.cst (constant S_ .f32 0xFF800000#32),
    nul φ.c (constantI S_ 32 0#32),
    quat arg0 φ.v0 φ.cst φ.c φ.v1_0 (fun x y u v j => (Host.argReduce reducer_argmax_f32_i32 x y u v reducesTo_S128x100000_S128_d1 h_S_ j).1),
    quat arg0 φ.v0 φ.cst φ.c φ.v1_1 (fun x y u v j => (Host.argReduce reducer_argmax_f32_i32 x y u v reducesTo_S128x100000_S128_d1 h_S_ j).2) ]

/-- The operations of the one-hot rows. -/
def hotL (arg0 : RS sig S128) (φ : fn_one_hot.Bufs) : List (Step τ sig (Elt F)) :=
  [ un arg0 φ.v0 (broadcastInDim S128x1 ![0] bcast_S128_S128x1_0),
    nul φ.v1 (iotaInDim S1x100000 32 1),
    un φ.v0 φ.v2 (broadcastInDim S128x100000 ![0, 1] bcast_S128x1_S128x100000_0_1),
    un φ.v1 φ.v3 (broadcastInDim S128x100000 ![0, 1] bcast_S1x100000_S128x100000_0_1),
    bin φ.v2 φ.v3 φ.v4 (cmpi .eq),
    un φ.v4 φ.v5 (uitofp .f32) ]

/-- The operations before the first draw. -/
def preL  : List (Step τ sig (Elt F)) :=
  [ nul (.of main_v0 : TRef sig ⟨S100000, .i32⟩) (iotaInDim S100000 32 0),
    un (.of main_arg1 : TRef sig ⟨S_, .i32⟩) (.of main_v1 : TRef sig ⟨S100000, .i32⟩) (broadcastInDim S100000 ![] bcast_S_S100000),
    bin (.of main_v0 : TRef sig ⟨S100000, .i32⟩) (.of main_v1 : TRef sig ⟨S100000, .i32⟩) (.of main_v2 : TRef sig ⟨S100000, .i1⟩) (cmpi .eq),
    un (.of main_arg1 : TRef sig ⟨S_, .i32⟩) (.of main_v3 : TRef sig ⟨S_, .f32⟩) (sitofp .f32),
    resh (.of main_v3 : TRef sig ⟨S_, .f32⟩) (.of main_v4 : TRef sig ⟨S1x1, .f32⟩) shapeCasts_S_S1x1,
    resh (.of main_v4 : TRef sig ⟨S1x1, .f32⟩) (.of main_v5 : TRef sig ⟨S1x1x1x1, .f32⟩) shapeCasts_S1x1_S1x1x1x1,
    un (.of main_v5 : TRef sig ⟨S1x1x1x1, .f32⟩) (.of main_v6 : TRef sig ⟨S128x1x1x1, .f32⟩) (broadcastInDim S128x1x1x1 ![0, 1, 2, 3] bcast_S1x1x1x1_S128x1x1x1_0_1_2_3),
    resh (.of main_v6 : TRef sig ⟨S128x1x1x1, .f32⟩) (.of main_v7 : TRef sig ⟨S128x1, .f32⟩) shapeCasts_S128x1x1x1_S128x1,
    nul (.of main_v8 : TRef sig ⟨S100000, .f32⟩) (sitofp .f32 (iotaInDim S100000 32 0)),
    resh (.of main_v8 : TRef sig ⟨S100000, .f32⟩) (.of main_v9 : TRef sig ⟨S1x100000, .f32⟩) shapeCasts_S100000_S1x100000,
    nul (.of main_c : TRef sig ⟨S_, .i32⟩) (constantI S_ 32 42#32),
    nul (.of main_c_0 : TRef sig ⟨S_, .i32⟩) (constantI S_ 32 32#32),
    bin (.of main_c : TRef sig ⟨S_, .i32⟩) (.of main_c_0 : TRef sig ⟨S_, .i32⟩) (.of main_v10 : TRef sig ⟨S_, .i32⟩) Host.shrui,
    un (.of main_v10 : TRef sig ⟨S_, .i32⟩) (.of main_v11 : TRef sig ⟨S_, .i32⟩) id,
    un (.of main_v11 : TRef sig ⟨S_, .i32⟩) (.of main_v12 : TRef sig ⟨S1, .i32⟩) (broadcastInDim S1 ![] bcast_S_S1),
    nul (.of main_c_1 : TRef sig ⟨S_, .i32⟩) (constantI S_ 32 4294967295#32),
    bin (.of main_c : TRef sig ⟨S_, .i32⟩) (.of main_c_1 : TRef sig ⟨S_, .i32⟩) (.of main_v13 : TRef sig ⟨S_, .i32⟩) andi,
    un (.of main_v13 : TRef sig ⟨S_, .i32⟩) (.of main_v14 : TRef sig ⟨S_, .i32⟩) id,
    un (.of main_v14 : TRef sig ⟨S_, .i32⟩) (.of main_v15 : TRef sig ⟨S1, .i32⟩) (broadcastInDim S1 ![] bcast_S_S1),
    bin (.of main_v12 : TRef sig ⟨S1, .i32⟩) (.of main_v15 : TRef sig ⟨S1, .i32⟩) (.of main_v16 : TRef sig ⟨S2, .i32⟩) ((fun a b => concatenate S2 0 [⟨S1, a⟩, ⟨S1, b⟩] concatenates_S1_S1_S2_d0)) ]

/-- The first draw's operations. -/
def it0L  : List (Step τ sig (Elt F)) :=
  [ un (.of main_v2 : TRef sig ⟨S100000, .i1⟩) (.of main_v17 : TRef sig ⟨S100000, .i1⟩) noti,
    un (.of main_v17 : TRef sig ⟨S100000, .i1⟩) (.of main_v18 : TRef sig ⟨S100000, .f32⟩) (uitofp .f32),
    un (.of main_v18 : TRef sig ⟨S100000, .f32⟩) (.of main_v19 : TRef sig ⟨S1x100000, .f32⟩) (broadcastInDim S1x100000 ![1] bcast_S100000_S1x100000_1),
    un (.of main_v19 : TRef sig ⟨S1x100000, .f32⟩) (.of main_v20 : TRef sig ⟨S128x100000, .f32⟩) (broadcastInDim S128x100000 ![0, 1] bcast_S1x100000_S128x100000_0_1),
    bin (.of main_arg0 : TRef sig ⟨S128x100000, .f32⟩) (.of main_v20 : TRef sig ⟨S128x100000, .f32⟩) (.of main_v21 : TRef sig ⟨S128x100000, .f32⟩) mulf,
    nul (.of main_cst : TRef sig ⟨S_, .f32⟩) (constant S_ .f32 0x3F800000#32),
    un (.of main_cst : TRef sig ⟨S_, .f32⟩) (.of main_v22 : TRef sig ⟨S100000, .f32⟩) (broadcastInDim S100000 ![] bcast_S_S100000),
    bin (.of main_v22 : TRef sig ⟨S100000, .f32⟩) (.of main_v18 : TRef sig ⟨S100000, .f32⟩) (.of main_v23 : TRef sig ⟨S100000, .f32⟩) subf,
    nul (.of main_cst_2 : TRef sig ⟨S_, .f32⟩) (constant S_ .f32 0x461C4000#32),
    un (.of main_cst_2 : TRef sig ⟨S_, .f32⟩) (.of main_v24 : TRef sig ⟨S100000, .f32⟩) (broadcastInDim S100000 ![] bcast_S_S100000),
    bin (.of main_v24 : TRef sig ⟨S100000, .f32⟩) (.of main_v23 : TRef sig ⟨S100000, .f32⟩) (.of main_v25 : TRef sig ⟨S100000, .f32⟩) mulf,
    un (.of main_v25 : TRef sig ⟨S100000, .f32⟩) (.of main_v26 : TRef sig ⟨S1x100000, .f32⟩) (broadcastInDim S1x100000 ![1] bcast_S100000_S1x100000_1),
    un (.of main_v26 : TRef sig ⟨S1x100000, .f32⟩) (.of main_v27 : TRef sig ⟨S128x100000, .f32⟩) (broadcastInDim S128x100000 ![0, 1] bcast_S1x100000_S128x100000_0_1),
    bin (.of main_v21 : TRef sig ⟨S128x100000, .f32⟩) (.of main_v27 : TRef sig ⟨S128x100000, .f32⟩) (.of main_v28 : TRef sig ⟨S128x100000, .f32⟩) subf,
    nul (.of main_cst_3 : TRef sig ⟨S_, .f32⟩) (constant S_ .f32 0xFF800000#32),
    bin (.of main_v28 : TRef sig ⟨S128x100000, .f32⟩) (.of main_cst_3 : TRef sig ⟨S_, .f32⟩) (.of main_v29 : TRef sig ⟨S128, .f32⟩) ((fun x v => Host.reduce FloatOps.maximumf x v reducesTo_S128x100000_S128_d1 h_S_)),
    un (.of main_v29 : TRef sig ⟨S128, .f32⟩) (.of main_v30 : TRef sig ⟨S128x1, .f32⟩) (broadcastInDim S128x1 ![0] bcast_S128_S128x1_0),
    un (.of main_v30 : TRef sig ⟨S128x1, .f32⟩) (.of main_v31 : TRef sig ⟨S128x100000, .f32⟩) (broadcastInDim S128x100000 ![0, 1] bcast_S128x1_S128x100000_0_1),
    bin (.of main_arg0 : TRef sig ⟨S128x100000, .f32⟩) (.of main_v31 : TRef sig ⟨S128x100000, .f32⟩) (.of main_v32 : TRef sig ⟨S128x100000, .f32⟩) subf,
    un (.of main_v18 : TRef sig ⟨S100000, .f32⟩) (.of main_v33 : TRef sig ⟨S1x100000, .f32⟩) (broadcastInDim S1x100000 ![1] bcast_S100000_S1x100000_1),
    un (.of main_v33 : TRef sig ⟨S1x100000, .f32⟩) (.of main_v34 : TRef sig ⟨S128x100000, .f32⟩) (broadcastInDim S128x100000 ![0, 1] bcast_S1x100000_S128x100000_0_1),
    bin (.of main_v32 : TRef sig ⟨S128x100000, .f32⟩) (.of main_v34 : TRef sig ⟨S128x100000, .f32⟩) (.of main_v35 : TRef sig ⟨S128x100000, .f32⟩) mulf,
    un (.of main_v35 : TRef sig ⟨S128x100000, .f32⟩) (.of main_v36 : TRef sig ⟨S128x100000, .f32⟩) Host.exp,
    un (.of main_v18 : TRef sig ⟨S100000, .f32⟩) (.of main_v37 : TRef sig ⟨S1x100000, .f32⟩) (broadcastInDim S1x100000 ![1] bcast_S100000_S1x100000_1),
    un (.of main_v37 : TRef sig ⟨S1x100000, .f32⟩) (.of main_v38 : TRef sig ⟨S128x100000, .f32⟩) (broadcastInDim S128x100000 ![0, 1] bcast_S1x100000_S128x100000_0_1),
    bin (.of main_v36 : TRef sig ⟨S128x100000, .f32⟩) (.of main_v38 : TRef sig ⟨S128x100000, .f32⟩) (.of main_v39 : TRef sig ⟨S128x100000, .f32⟩) mulf,
    nul (.of main_cst_4 : TRef sig ⟨S_, .f32⟩) (constant S_ .f32 0x00000000#32),
    bin (.of main_v39 : TRef sig ⟨S128x100000, .f32⟩) (.of main_cst_4 : TRef sig ⟨S_, .f32⟩) (.of main_v40 : TRef sig ⟨S128, .f32⟩) ((fun x v => Host.reduceAdd x v reducesTo_S128x100000_S128_d1 h_S_)),
    un (.of main_v40 : TRef sig ⟨S128, .f32⟩) (.of main_v41 : TRef sig ⟨S128x1, .f32⟩) (broadcastInDim S128x1 ![0] bcast_S128_S128x1_0),
    nul (.of main_cst_5 : TRef sig ⟨S_, .f32⟩) (constant S_ .f32 0x322BCC77#32),
    un (.of main_cst_5 : TRef sig ⟨S_, .f32⟩) (.of main_v42 : TRef sig ⟨S128x1, .f32⟩) (broadcastInDim S128x1 ![] bcast_S_S128x1),
    bin (.of main_v41 : TRef sig ⟨S128x1, .f32⟩) (.of main_v42 : TRef sig ⟨S128x1, .f32⟩) (.of main_v43 : TRef sig ⟨S128x1, .f32⟩) addf,
    un (.of main_v43 : TRef sig ⟨S128x1, .f32⟩) (.of main_v44 : TRef sig ⟨S128x100000, .f32⟩) (broadcastInDim S128x100000 ![0, 1] bcast_S128x1_S128x100000_0_1),
    bin (.of main_v39 : TRef sig ⟨S128x100000, .f32⟩) (.of main_v44 : TRef sig ⟨S128x100000, .f32⟩) (.of main_v45 : TRef sig ⟨S128x100000, .f32⟩) Host.divf,
    nul (.of main_c_6 : TRef sig ⟨S_, .i32⟩) (constantI S_ 32 0#32) ] ++ (
  foldL (.of main_v16 : TRef sig ⟨S2, .i32⟩) (.of main_c_6 : TRef sig ⟨S_, .i32⟩) (foldB main_call0) ++ (
  [ un (.of main_v45 : TRef sig ⟨S128x100000, .f32⟩) (.of main_v47 : TRef sig ⟨S128x100000, .f32⟩) Host.log,
    nul (.of main_cst_7 : TRef sig ⟨S_, .f32⟩) (constant S_ .f32 0x00000000#32),
    nul (.of main_cst_8 : TRef sig ⟨S_, .f32⟩) (constant S_ .f32 0x3F800000#32) ] ++ (
  uniL (.of main_v46 : TRef sig ⟨S2, .i32⟩) (.of main_cst_7 : TRef sig ⟨S_, .f32⟩) (.of main_cst_8 : TRef sig ⟨S_, .f32⟩) main_call1 ++ (
  [ nul (.of main_cst_9 : TRef sig ⟨S_, .f32⟩) (constant S_ .f32 0x3F800000#32),
    un (.of main_cst_9 : TRef sig ⟨S_, .f32⟩) (.of main_v49 : TRef sig ⟨S128x100000, .f32⟩) (broadcastInDim S128x100000 ![] bcast_S_S128x100000),
    bin (.of main_v48 : TRef sig ⟨S128x100000, .f32⟩) (.of main_v49 : TRef sig ⟨S128x100000, .f32⟩) (.of main_v50 : TRef sig ⟨S128x100000, .f32⟩) mulf,
    nul (.of main_cst_10 : TRef sig ⟨S_, .f32⟩) (constant S_ .f32 0x00800000#32),
    un (.of main_cst_10 : TRef sig ⟨S_, .f32⟩) (.of main_v51 : TRef sig ⟨S128x100000, .f32⟩) (broadcastInDim S128x100000 ![] bcast_S_S128x100000),
    bin (.of main_v50 : TRef sig ⟨S128x100000, .f32⟩) (.of main_v51 : TRef sig ⟨S128x100000, .f32⟩) (.of main_v52 : TRef sig ⟨S128x100000, .f32⟩) addf,
    nul (.of main_cst_11 : TRef sig ⟨S_, .f32⟩) (constant S_ .f32 0x00800000#32),
    un (.of main_cst_11 : TRef sig ⟨S_, .f32⟩) (.of main_v53 : TRef sig ⟨S128x100000, .f32⟩) (broadcastInDim S128x100000 ![] bcast_S_S128x100000),
    bin (.of main_v53 : TRef sig ⟨S128x100000, .f32⟩) (.of main_v52 : TRef sig ⟨S128x100000, .f32⟩) (.of main_v54 : TRef sig ⟨S128x100000, .f32⟩) maximumf,
    un (.of main_v54 : TRef sig ⟨S128x100000, .f32⟩) (.of main_v55 : TRef sig ⟨S128x100000, .f32⟩) Host.log,
    un (.of main_v55 : TRef sig ⟨S128x100000, .f32⟩) (.of main_v56 : TRef sig ⟨S128x100000, .f32⟩) Host.negf,
    un (.of main_v56 : TRef sig ⟨S128x100000, .f32⟩) (.of main_v57 : TRef sig ⟨S128x100000, .f32⟩) Host.log,
    un (.of main_v57 : TRef sig ⟨S128x100000, .f32⟩) (.of main_v58 : TRef sig ⟨S128x100000, .f32⟩) Host.negf,
    bin (.of main_v58 : TRef sig ⟨S128x100000, .f32⟩) (.of main_v47 : TRef sig ⟨S128x100000, .f32⟩) (.of main_v59 : TRef sig ⟨S128x100000, .f32⟩) addf ] ++ (
  argmaxL (.of main_v59 : TRef sig ⟨S128x100000, .f32⟩) main_call2 ++ (
  hotL (.of main_v60 : TRef sig ⟨S128, .i32⟩) main_call3 ++ (
  [ nul (.of main_cst_12 : TRef sig ⟨S_, .f32⟩) (constant S_ .f32 0x3C23D70A#32),
    un (.of main_cst_12 : TRef sig ⟨S_, .f32⟩) (.of main_v62 : TRef sig ⟨S128x100000, .f32⟩) (broadcastInDim S128x100000 ![] bcast_S_S128x100000),
    bin (.of main_v62 : TRef sig ⟨S128x100000, .f32⟩) (.of main_v45 : TRef sig ⟨S128x100000, .f32⟩) (.of main_v63 : TRef sig ⟨S128x100000, .f32⟩) mulf,
    bin (.of main_v61 : TRef sig ⟨S128x100000, .f32⟩) (.of main_v63 : TRef sig ⟨S128x100000, .f32⟩) (.of main_v64 : TRef sig ⟨S128x100000, .f32⟩) addf,
    nul (.of main_cst_13 : TRef sig ⟨S_, .f32⟩) (constant S_ .f32 0x3C23D70A#32),
    un (.of main_cst_13 : TRef sig ⟨S_, .f32⟩) (.of main_v65 : TRef sig ⟨S128x100000, .f32⟩) (broadcastInDim S128x100000 ![] bcast_S_S128x100000),
    bin (.of main_v65 : TRef sig ⟨S128x100000, .f32⟩) (.of main_v45 : TRef sig ⟨S128x100000, .f32⟩) (.of main_v66 : TRef sig ⟨S128x100000, .f32⟩) mulf,
    bin (.of main_v64 : TRef sig ⟨S128x100000, .f32⟩) (.of main_v66 : TRef sig ⟨S128x100000, .f32⟩) (.of main_v67 : TRef sig ⟨S128x100000, .f32⟩) subf,
    nul (.of main_cst_14 : TRef sig ⟨S_, .f32⟩) (constant S_ .f32 0x00000000#32),
    un (.of main_cst_14 : TRef sig ⟨S_, .f32⟩) (.of main_v68 : TRef sig ⟨S128x100000, .f32⟩) (broadcastInDim S128x100000 ![] bcast_S_S128x100000),
    bin (.of main_v61 : TRef sig ⟨S128x100000, .f32⟩) (.of main_v68 : TRef sig ⟨S128x100000, .f32⟩) (.of main_v69 : TRef sig ⟨S128x100000, .i1⟩) (cmpf .une),
    un (.of main_v69 : TRef sig ⟨S128x100000, .i1⟩) (.of main_v70 : TRef sig ⟨S128x100000, .i1⟩) id,
    un (.of main_v2 : TRef sig ⟨S100000, .i1⟩) (.of main_v71 : TRef sig ⟨S1x100000, .i1⟩) (broadcastInDim S1x100000 ![1] bcast_S100000_S1x100000_1),
    un (.of main_v71 : TRef sig ⟨S1x100000, .i1⟩) (.of main_v72 : TRef sig ⟨S128x100000, .i1⟩) (broadcastInDim S128x100000 ![0, 1] bcast_S1x100000_S128x100000_0_1),
    bin (.of main_v70 : TRef sig ⟨S128x100000, .i1⟩) (.of main_v72 : TRef sig ⟨S128x100000, .i1⟩) (.of main_v73 : TRef sig ⟨S128x100000, .i1⟩) ori,
    un (.of main_v9 : TRef sig ⟨S1x100000, .f32⟩) (.of main_v74 : TRef sig ⟨S128x100000, .f32⟩) (broadcastInDim S128x100000 ![0, 1] bcast_S1x100000_S128x100000_0_1),
    bin (.of main_v67 : TRef sig ⟨S128x100000, .f32⟩) (.of main_v74 : TRef sig ⟨S128x100000, .f32⟩) (.of main_v75 : TRef sig ⟨S128x100000, .f32⟩) mulf,
    nul (.of main_cst_15 : TRef sig ⟨S_, .f32⟩) (constant S_ .f32 0x00000000#32),
    bin (.of main_v75 : TRef sig ⟨S128x100000, .f32⟩) (.of main_cst_15 : TRef sig ⟨S_, .f32⟩) (.of main_v76 : TRef sig ⟨S128, .f32⟩) ((fun x v => Host.reduceAdd x v reducesTo_S128x100000_S128_d1 h_S_)),
    resh (.of main_v76 : TRef sig ⟨S128, .f32⟩) (.of main_v77 : TRef sig ⟨S128x1, .f32⟩) shapeCasts_S128_S128x1,
    bin (.of main_v7 : TRef sig ⟨S128x1, .f32⟩) (.of main_v77 : TRef sig ⟨S128x1, .f32⟩) (.of main_v78 : TRef sig ⟨S128x2, .f32⟩) ((fun a b => concatenate S128x2 1 [⟨S128x1, a⟩, ⟨S128x1, b⟩] concatenates_S128x1_S128x1_S128x2_d1)) ])))))))

/-- The second draw's operations. -/
def it1L  : List (Step τ sig (Elt F)) :=
  [ un (.of main_v73 : TRef sig ⟨S128x100000, .i1⟩) (.of main_v79 : TRef sig ⟨S128x100000, .i1⟩) noti,
    un (.of main_v79 : TRef sig ⟨S128x100000, .i1⟩) (.of main_v80 : TRef sig ⟨S128x100000, .f32⟩) (uitofp .f32),
    bin (.of main_arg0 : TRef sig ⟨S128x100000, .f32⟩) (.of main_v80 : TRef sig ⟨S128x100000, .f32⟩) (.of main_v81 : TRef sig ⟨S128x100000, .f32⟩) mulf,
    nul (.of main_cst_16 : TRef sig ⟨S_, .f32⟩) (constant S_ .f32 0x3F800000#32),
    un (.of main_cst_16 : TRef sig ⟨S_, .f32⟩) (.of main_v82 : TRef sig ⟨S128x100000, .f32⟩) (broadcastInDim S128x100000 ![] bcast_S_S128x100000),
    bin (.of main_v82 : TRef sig ⟨S128x100000, .f32⟩) (.of main_v80 : TRef sig ⟨S128x100000, .f32⟩) (.of main_v83 : TRef sig ⟨S128x100000, .f32⟩) subf,
    nul (.of main_cst_17 : TRef sig ⟨S_, .f32⟩) (constant S_ .f32 0x461C4000#32),
    un (.of main_cst_17 : TRef sig ⟨S_, .f32⟩) (.of main_v84 : TRef sig ⟨S128x100000, .f32⟩) (broadcastInDim S128x100000 ![] bcast_S_S128x100000),
    bin (.of main_v84 : TRef sig ⟨S128x100000, .f32⟩) (.of main_v83 : TRef sig ⟨S128x100000, .f32⟩) (.of main_v85 : TRef sig ⟨S128x100000, .f32⟩) mulf,
    bin (.of main_v81 : TRef sig ⟨S128x100000, .f32⟩) (.of main_v85 : TRef sig ⟨S128x100000, .f32⟩) (.of main_v86 : TRef sig ⟨S128x100000, .f32⟩) subf,
    nul (.of main_cst_18 : TRef sig ⟨S_, .f32⟩) (constant S_ .f32 0xFF800000#32),
    bin (.of main_v86 : TRef sig ⟨S128x100000, .f32⟩) (.of main_cst_18 : TRef sig ⟨S_, .f32⟩) (.of main_v87 : TRef sig ⟨S128, .f32⟩) ((fun x v => Host.reduce FloatOps.maximumf x v reducesTo_S128x100000_S128_d1 h_S_)),
    un (.of main_v87 : TRef sig ⟨S128, .f32⟩) (.of main_v88 : TRef sig ⟨S128x1, .f32⟩) (broadcastInDim S128x1 ![0] bcast_S128_S128x1_0),
    un (.of main_v88 : TRef sig ⟨S128x1, .f32⟩) (.of main_v89 : TRef sig ⟨S128x100000, .f32⟩) (broadcastInDim S128x100000 ![0, 1] bcast_S128x1_S128x100000_0_1),
    bin (.of main_arg0 : TRef sig ⟨S128x100000, .f32⟩) (.of main_v89 : TRef sig ⟨S128x100000, .f32⟩) (.of main_v90 : TRef sig ⟨S128x100000, .f32⟩) subf,
    bin (.of main_v90 : TRef sig ⟨S128x100000, .f32⟩) (.of main_v80 : TRef sig ⟨S128x100000, .f32⟩) (.of main_v91 : TRef sig ⟨S128x100000, .f32⟩) mulf,
    un (.of main_v91 : TRef sig ⟨S128x100000, .f32⟩) (.of main_v92 : TRef sig ⟨S128x100000, .f32⟩) Host.exp,
    bin (.of main_v92 : TRef sig ⟨S128x100000, .f32⟩) (.of main_v80 : TRef sig ⟨S128x100000, .f32⟩) (.of main_v93 : TRef sig ⟨S128x100000, .f32⟩) mulf,
    nul (.of main_cst_19 : TRef sig ⟨S_, .f32⟩) (constant S_ .f32 0x00000000#32),
    bin (.of main_v93 : TRef sig ⟨S128x100000, .f32⟩) (.of main_cst_19 : TRef sig ⟨S_, .f32⟩) (.of main_v94 : TRef sig ⟨S128, .f32⟩) ((fun x v => Host.reduceAdd x v reducesTo_S128x100000_S128_d1 h_S_)),
    un (.of main_v94 : TRef sig ⟨S128, .f32⟩) (.of main_v95 : TRef sig ⟨S128x1, .f32⟩) (broadcastInDim S128x1 ![0] bcast_S128_S128x1_0),
    nul (.of main_cst_20 : TRef sig ⟨S_, .f32⟩) (constant S_ .f32 0x322BCC77#32),
    un (.of main_cst_20 : TRef sig ⟨S_, .f32⟩) (.of main_v96 : TRef sig ⟨S128x1, .f32⟩) (broadcastInDim S128x1 ![] bcast_S_S128x1),
    bin (.of main_v95 : TRef sig ⟨S128x1, .f32⟩) (.of main_v96 : TRef sig ⟨S128x1, .f32⟩) (.of main_v97 : TRef sig ⟨S128x1, .f32⟩) addf,
    un (.of main_v97 : TRef sig ⟨S128x1, .f32⟩) (.of main_v98 : TRef sig ⟨S128x100000, .f32⟩) (broadcastInDim S128x100000 ![0, 1] bcast_S128x1_S128x100000_0_1),
    bin (.of main_v93 : TRef sig ⟨S128x100000, .f32⟩) (.of main_v98 : TRef sig ⟨S128x100000, .f32⟩) (.of main_v99 : TRef sig ⟨S128x100000, .f32⟩) Host.divf,
    nul (.of main_c_21 : TRef sig ⟨S_, .i32⟩) (constantI S_ 32 1#32) ] ++ (
  foldL (.of main_v16 : TRef sig ⟨S2, .i32⟩) (.of main_c_21 : TRef sig ⟨S_, .i32⟩) (foldB main_call4) ++ (
  [ un (.of main_v99 : TRef sig ⟨S128x100000, .f32⟩) (.of main_v101 : TRef sig ⟨S128x100000, .f32⟩) Host.log,
    nul (.of main_cst_22 : TRef sig ⟨S_, .f32⟩) (constant S_ .f32 0x00000000#32),
    nul (.of main_cst_23 : TRef sig ⟨S_, .f32⟩) (constant S_ .f32 0x3F800000#32) ] ++ (
  uniL (.of main_v100 : TRef sig ⟨S2, .i32⟩) (.of main_cst_22 : TRef sig ⟨S_, .f32⟩) (.of main_cst_23 : TRef sig ⟨S_, .f32⟩) main_call5 ++ (
  [ nul (.of main_cst_24 : TRef sig ⟨S_, .f32⟩) (constant S_ .f32 0x3F800000#32),
    un (.of main_cst_24 : TRef sig ⟨S_, .f32⟩) (.of main_v103 : TRef sig ⟨S128x100000, .f32⟩) (broadcastInDim S128x100000 ![] bcast_S_S128x100000),
    bin (.of main_v102 : TRef sig ⟨S128x100000, .f32⟩) (.of main_v103 : TRef sig ⟨S128x100000, .f32⟩) (.of main_v104 : TRef sig ⟨S128x100000, .f32⟩) mulf,
    nul (.of main_cst_25 : TRef sig ⟨S_, .f32⟩) (constant S_ .f32 0x00800000#32),
    un (.of main_cst_25 : TRef sig ⟨S_, .f32⟩) (.of main_v105 : TRef sig ⟨S128x100000, .f32⟩) (broadcastInDim S128x100000 ![] bcast_S_S128x100000),
    bin (.of main_v104 : TRef sig ⟨S128x100000, .f32⟩) (.of main_v105 : TRef sig ⟨S128x100000, .f32⟩) (.of main_v106 : TRef sig ⟨S128x100000, .f32⟩) addf,
    nul (.of main_cst_26 : TRef sig ⟨S_, .f32⟩) (constant S_ .f32 0x00800000#32),
    un (.of main_cst_26 : TRef sig ⟨S_, .f32⟩) (.of main_v107 : TRef sig ⟨S128x100000, .f32⟩) (broadcastInDim S128x100000 ![] bcast_S_S128x100000),
    bin (.of main_v107 : TRef sig ⟨S128x100000, .f32⟩) (.of main_v106 : TRef sig ⟨S128x100000, .f32⟩) (.of main_v108 : TRef sig ⟨S128x100000, .f32⟩) maximumf,
    un (.of main_v108 : TRef sig ⟨S128x100000, .f32⟩) (.of main_v109 : TRef sig ⟨S128x100000, .f32⟩) Host.log,
    un (.of main_v109 : TRef sig ⟨S128x100000, .f32⟩) (.of main_v110 : TRef sig ⟨S128x100000, .f32⟩) Host.negf,
    un (.of main_v110 : TRef sig ⟨S128x100000, .f32⟩) (.of main_v111 : TRef sig ⟨S128x100000, .f32⟩) Host.log,
    un (.of main_v111 : TRef sig ⟨S128x100000, .f32⟩) (.of main_v112 : TRef sig ⟨S128x100000, .f32⟩) Host.negf,
    bin (.of main_v112 : TRef sig ⟨S128x100000, .f32⟩) (.of main_v101 : TRef sig ⟨S128x100000, .f32⟩) (.of main_v113 : TRef sig ⟨S128x100000, .f32⟩) addf ] ++ (
  argmaxL (.of main_v113 : TRef sig ⟨S128x100000, .f32⟩) main_call6 ++ (
  hotL (.of main_v114 : TRef sig ⟨S128, .i32⟩) main_call7 ++ (
  [ nul (.of main_cst_27 : TRef sig ⟨S_, .f32⟩) (constant S_ .f32 0x3C23D70A#32),
    un (.of main_cst_27 : TRef sig ⟨S_, .f32⟩) (.of main_v116 : TRef sig ⟨S128x100000, .f32⟩) (broadcastInDim S128x100000 ![] bcast_S_S128x100000),
    bin (.of main_v116 : TRef sig ⟨S128x100000, .f32⟩) (.of main_v99 : TRef sig ⟨S128x100000, .f32⟩) (.of main_v117 : TRef sig ⟨S128x100000, .f32⟩) mulf,
    bin (.of main_v115 : TRef sig ⟨S128x100000, .f32⟩) (.of main_v117 : TRef sig ⟨S128x100000, .f32⟩) (.of main_v118 : TRef sig ⟨S128x100000, .f32⟩) addf,
    nul (.of main_cst_28 : TRef sig ⟨S_, .f32⟩) (constant S_ .f32 0x3C23D70A#32),
    un (.of main_cst_28 : TRef sig ⟨S_, .f32⟩) (.of main_v119 : TRef sig ⟨S128x100000, .f32⟩) (broadcastInDim S128x100000 ![] bcast_S_S128x100000),
    bin (.of main_v119 : TRef sig ⟨S128x100000, .f32⟩) (.of main_v99 : TRef sig ⟨S128x100000, .f32⟩) (.of main_v120 : TRef sig ⟨S128x100000, .f32⟩) mulf,
    bin (.of main_v118 : TRef sig ⟨S128x100000, .f32⟩) (.of main_v120 : TRef sig ⟨S128x100000, .f32⟩) (.of main_v121 : TRef sig ⟨S128x100000, .f32⟩) subf,
    nul (.of main_cst_29 : TRef sig ⟨S_, .f32⟩) (constant S_ .f32 0x00000000#32),
    un (.of main_cst_29 : TRef sig ⟨S_, .f32⟩) (.of main_v122 : TRef sig ⟨S128x100000, .f32⟩) (broadcastInDim S128x100000 ![] bcast_S_S128x100000),
    bin (.of main_v115 : TRef sig ⟨S128x100000, .f32⟩) (.of main_v122 : TRef sig ⟨S128x100000, .f32⟩) (.of main_v123 : TRef sig ⟨S128x100000, .i1⟩) (cmpf .une),
    un (.of main_v123 : TRef sig ⟨S128x100000, .i1⟩) (.of main_v124 : TRef sig ⟨S128x100000, .i1⟩) id,
    bin (.of main_v124 : TRef sig ⟨S128x100000, .i1⟩) (.of main_v73 : TRef sig ⟨S128x100000, .i1⟩) (.of main_v125 : TRef sig ⟨S128x100000, .i1⟩) ori,
    un (.of main_v9 : TRef sig ⟨S1x100000, .f32⟩) (.of main_v126 : TRef sig ⟨S128x100000, .f32⟩) (broadcastInDim S128x100000 ![0, 1] bcast_S1x100000_S128x100000_0_1),
    bin (.of main_v121 : TRef sig ⟨S128x100000, .f32⟩) (.of main_v126 : TRef sig ⟨S128x100000, .f32⟩) (.of main_v127 : TRef sig ⟨S128x100000, .f32⟩) mulf,
    nul (.of main_cst_30 : TRef sig ⟨S_, .f32⟩) (constant S_ .f32 0x00000000#32),
    bin (.of main_v127 : TRef sig ⟨S128x100000, .f32⟩) (.of main_cst_30 : TRef sig ⟨S_, .f32⟩) (.of main_v128 : TRef sig ⟨S128, .f32⟩) ((fun x v => Host.reduceAdd x v reducesTo_S128x100000_S128_d1 h_S_)),
    resh (.of main_v128 : TRef sig ⟨S128, .f32⟩) (.of main_v129 : TRef sig ⟨S128x1, .f32⟩) shapeCasts_S128_S128x1,
    bin (.of main_v78 : TRef sig ⟨S128x2, .f32⟩) (.of main_v129 : TRef sig ⟨S128x1, .f32⟩) (.of main_v130 : TRef sig ⟨S128x3, .f32⟩) ((fun a b => concatenate S128x3 1 [⟨S128x2, a⟩, ⟨S128x1, b⟩] concatenates_S128x2_S128x1_S128x3_d1)) ])))))))

/-- The third draw's operations. -/
def it2L  : List (Step τ sig (Elt F)) :=
  [ un (.of main_v125 : TRef sig ⟨S128x100000, .i1⟩) (.of main_v131 : TRef sig ⟨S128x100000, .i1⟩) noti,
    un (.of main_v131 : TRef sig ⟨S128x100000, .i1⟩) (.of main_v132 : TRef sig ⟨S128x100000, .f32⟩) (uitofp .f32),
    bin (.of main_arg0 : TRef sig ⟨S128x100000, .f32⟩) (.of main_v132 : TRef sig ⟨S128x100000, .f32⟩) (.of main_v133 : TRef sig ⟨S128x100000, .f32⟩) mulf,
    nul (.of main_cst_31 : TRef sig ⟨S_, .f32⟩) (constant S_ .f32 0x3F800000#32),
    un (.of main_cst_31 : TRef sig ⟨S_, .f32⟩) (.of main_v134 : TRef sig ⟨S128x100000, .f32⟩) (broadcastInDim S128x100000 ![] bcast_S_S128x100000),
    bin (.of main_v134 : TRef sig ⟨S128x100000, .f32⟩) (.of main_v132 : TRef sig ⟨S128x100000, .f32⟩) (.of main_v135 : TRef sig ⟨S128x100000, .f32⟩) subf,
    nul (.of main_cst_32 : TRef sig ⟨S_, .f32⟩) (constant S_ .f32 0x461C4000#32),
    un (.of main_cst_32 : TRef sig ⟨S_, .f32⟩) (.of main_v136 : TRef sig ⟨S128x100000, .f32⟩) (broadcastInDim S128x100000 ![] bcast_S_S128x100000),
    bin (.of main_v136 : TRef sig ⟨S128x100000, .f32⟩) (.of main_v135 : TRef sig ⟨S128x100000, .f32⟩) (.of main_v137 : TRef sig ⟨S128x100000, .f32⟩) mulf,
    bin (.of main_v133 : TRef sig ⟨S128x100000, .f32⟩) (.of main_v137 : TRef sig ⟨S128x100000, .f32⟩) (.of main_v138 : TRef sig ⟨S128x100000, .f32⟩) subf,
    nul (.of main_cst_33 : TRef sig ⟨S_, .f32⟩) (constant S_ .f32 0xFF800000#32),
    bin (.of main_v138 : TRef sig ⟨S128x100000, .f32⟩) (.of main_cst_33 : TRef sig ⟨S_, .f32⟩) (.of main_v139 : TRef sig ⟨S128, .f32⟩) ((fun x v => Host.reduce FloatOps.maximumf x v reducesTo_S128x100000_S128_d1 h_S_)),
    un (.of main_v139 : TRef sig ⟨S128, .f32⟩) (.of main_v140 : TRef sig ⟨S128x1, .f32⟩) (broadcastInDim S128x1 ![0] bcast_S128_S128x1_0),
    un (.of main_v140 : TRef sig ⟨S128x1, .f32⟩) (.of main_v141 : TRef sig ⟨S128x100000, .f32⟩) (broadcastInDim S128x100000 ![0, 1] bcast_S128x1_S128x100000_0_1),
    bin (.of main_arg0 : TRef sig ⟨S128x100000, .f32⟩) (.of main_v141 : TRef sig ⟨S128x100000, .f32⟩) (.of main_v142 : TRef sig ⟨S128x100000, .f32⟩) subf,
    bin (.of main_v142 : TRef sig ⟨S128x100000, .f32⟩) (.of main_v132 : TRef sig ⟨S128x100000, .f32⟩) (.of main_v143 : TRef sig ⟨S128x100000, .f32⟩) mulf,
    un (.of main_v143 : TRef sig ⟨S128x100000, .f32⟩) (.of main_v144 : TRef sig ⟨S128x100000, .f32⟩) Host.exp,
    bin (.of main_v144 : TRef sig ⟨S128x100000, .f32⟩) (.of main_v132 : TRef sig ⟨S128x100000, .f32⟩) (.of main_v145 : TRef sig ⟨S128x100000, .f32⟩) mulf,
    nul (.of main_cst_34 : TRef sig ⟨S_, .f32⟩) (constant S_ .f32 0x00000000#32),
    bin (.of main_v145 : TRef sig ⟨S128x100000, .f32⟩) (.of main_cst_34 : TRef sig ⟨S_, .f32⟩) (.of main_v146 : TRef sig ⟨S128, .f32⟩) ((fun x v => Host.reduceAdd x v reducesTo_S128x100000_S128_d1 h_S_)),
    un (.of main_v146 : TRef sig ⟨S128, .f32⟩) (.of main_v147 : TRef sig ⟨S128x1, .f32⟩) (broadcastInDim S128x1 ![0] bcast_S128_S128x1_0),
    nul (.of main_cst_35 : TRef sig ⟨S_, .f32⟩) (constant S_ .f32 0x322BCC77#32),
    un (.of main_cst_35 : TRef sig ⟨S_, .f32⟩) (.of main_v148 : TRef sig ⟨S128x1, .f32⟩) (broadcastInDim S128x1 ![] bcast_S_S128x1),
    bin (.of main_v147 : TRef sig ⟨S128x1, .f32⟩) (.of main_v148 : TRef sig ⟨S128x1, .f32⟩) (.of main_v149 : TRef sig ⟨S128x1, .f32⟩) addf,
    un (.of main_v149 : TRef sig ⟨S128x1, .f32⟩) (.of main_v150 : TRef sig ⟨S128x100000, .f32⟩) (broadcastInDim S128x100000 ![0, 1] bcast_S128x1_S128x100000_0_1),
    bin (.of main_v145 : TRef sig ⟨S128x100000, .f32⟩) (.of main_v150 : TRef sig ⟨S128x100000, .f32⟩) (.of main_v151 : TRef sig ⟨S128x100000, .f32⟩) Host.divf,
    nul (.of main_c_36 : TRef sig ⟨S_, .i32⟩) (constantI S_ 32 2#32) ] ++ (
  foldL (.of main_v16 : TRef sig ⟨S2, .i32⟩) (.of main_c_36 : TRef sig ⟨S_, .i32⟩) (foldB main_call8) ++ (
  [ un (.of main_v151 : TRef sig ⟨S128x100000, .f32⟩) (.of main_v153 : TRef sig ⟨S128x100000, .f32⟩) Host.log,
    nul (.of main_cst_37 : TRef sig ⟨S_, .f32⟩) (constant S_ .f32 0x00000000#32),
    nul (.of main_cst_38 : TRef sig ⟨S_, .f32⟩) (constant S_ .f32 0x3F800000#32) ] ++ (
  uniL (.of main_v152 : TRef sig ⟨S2, .i32⟩) (.of main_cst_37 : TRef sig ⟨S_, .f32⟩) (.of main_cst_38 : TRef sig ⟨S_, .f32⟩) main_call9 ++ (
  [ nul (.of main_cst_39 : TRef sig ⟨S_, .f32⟩) (constant S_ .f32 0x3F800000#32),
    un (.of main_cst_39 : TRef sig ⟨S_, .f32⟩) (.of main_v155 : TRef sig ⟨S128x100000, .f32⟩) (broadcastInDim S128x100000 ![] bcast_S_S128x100000),
    bin (.of main_v154 : TRef sig ⟨S128x100000, .f32⟩) (.of main_v155 : TRef sig ⟨S128x100000, .f32⟩) (.of main_v156 : TRef sig ⟨S128x100000, .f32⟩) mulf,
    nul (.of main_cst_40 : TRef sig ⟨S_, .f32⟩) (constant S_ .f32 0x00800000#32),
    un (.of main_cst_40 : TRef sig ⟨S_, .f32⟩) (.of main_v157 : TRef sig ⟨S128x100000, .f32⟩) (broadcastInDim S128x100000 ![] bcast_S_S128x100000),
    bin (.of main_v156 : TRef sig ⟨S128x100000, .f32⟩) (.of main_v157 : TRef sig ⟨S128x100000, .f32⟩) (.of main_v158 : TRef sig ⟨S128x100000, .f32⟩) addf,
    nul (.of main_cst_41 : TRef sig ⟨S_, .f32⟩) (constant S_ .f32 0x00800000#32),
    un (.of main_cst_41 : TRef sig ⟨S_, .f32⟩) (.of main_v159 : TRef sig ⟨S128x100000, .f32⟩) (broadcastInDim S128x100000 ![] bcast_S_S128x100000),
    bin (.of main_v159 : TRef sig ⟨S128x100000, .f32⟩) (.of main_v158 : TRef sig ⟨S128x100000, .f32⟩) (.of main_v160 : TRef sig ⟨S128x100000, .f32⟩) maximumf,
    un (.of main_v160 : TRef sig ⟨S128x100000, .f32⟩) (.of main_v161 : TRef sig ⟨S128x100000, .f32⟩) Host.log,
    un (.of main_v161 : TRef sig ⟨S128x100000, .f32⟩) (.of main_v162 : TRef sig ⟨S128x100000, .f32⟩) Host.negf,
    un (.of main_v162 : TRef sig ⟨S128x100000, .f32⟩) (.of main_v163 : TRef sig ⟨S128x100000, .f32⟩) Host.log,
    un (.of main_v163 : TRef sig ⟨S128x100000, .f32⟩) (.of main_v164 : TRef sig ⟨S128x100000, .f32⟩) Host.negf,
    bin (.of main_v164 : TRef sig ⟨S128x100000, .f32⟩) (.of main_v153 : TRef sig ⟨S128x100000, .f32⟩) (.of main_v165 : TRef sig ⟨S128x100000, .f32⟩) addf ] ++ (
  argmaxL (.of main_v165 : TRef sig ⟨S128x100000, .f32⟩) main_call10 ++ (
  hotL (.of main_v166 : TRef sig ⟨S128, .i32⟩) main_call11 ++ (
  [ nul (.of main_cst_42 : TRef sig ⟨S_, .f32⟩) (constant S_ .f32 0x3C23D70A#32),
    un (.of main_cst_42 : TRef sig ⟨S_, .f32⟩) (.of main_v168 : TRef sig ⟨S128x100000, .f32⟩) (broadcastInDim S128x100000 ![] bcast_S_S128x100000),
    bin (.of main_v168 : TRef sig ⟨S128x100000, .f32⟩) (.of main_v151 : TRef sig ⟨S128x100000, .f32⟩) (.of main_v169 : TRef sig ⟨S128x100000, .f32⟩) mulf,
    bin (.of main_v167 : TRef sig ⟨S128x100000, .f32⟩) (.of main_v169 : TRef sig ⟨S128x100000, .f32⟩) (.of main_v170 : TRef sig ⟨S128x100000, .f32⟩) addf,
    nul (.of main_cst_43 : TRef sig ⟨S_, .f32⟩) (constant S_ .f32 0x3C23D70A#32),
    un (.of main_cst_43 : TRef sig ⟨S_, .f32⟩) (.of main_v171 : TRef sig ⟨S128x100000, .f32⟩) (broadcastInDim S128x100000 ![] bcast_S_S128x100000),
    bin (.of main_v171 : TRef sig ⟨S128x100000, .f32⟩) (.of main_v151 : TRef sig ⟨S128x100000, .f32⟩) (.of main_v172 : TRef sig ⟨S128x100000, .f32⟩) mulf,
    bin (.of main_v170 : TRef sig ⟨S128x100000, .f32⟩) (.of main_v172 : TRef sig ⟨S128x100000, .f32⟩) (.of main_v173 : TRef sig ⟨S128x100000, .f32⟩) subf,
    nul (.of main_cst_44 : TRef sig ⟨S_, .f32⟩) (constant S_ .f32 0x00000000#32),
    un (.of main_cst_44 : TRef sig ⟨S_, .f32⟩) (.of main_v174 : TRef sig ⟨S128x100000, .f32⟩) (broadcastInDim S128x100000 ![] bcast_S_S128x100000),
    bin (.of main_v167 : TRef sig ⟨S128x100000, .f32⟩) (.of main_v174 : TRef sig ⟨S128x100000, .f32⟩) (.of main_v175 : TRef sig ⟨S128x100000, .i1⟩) (cmpf .une),
    un (.of main_v175 : TRef sig ⟨S128x100000, .i1⟩) (.of main_v176 : TRef sig ⟨S128x100000, .i1⟩) id,
    bin (.of main_v176 : TRef sig ⟨S128x100000, .i1⟩) (.of main_v125 : TRef sig ⟨S128x100000, .i1⟩) (.of main_v177 : TRef sig ⟨S128x100000, .i1⟩) ori,
    un (.of main_v9 : TRef sig ⟨S1x100000, .f32⟩) (.of main_v178 : TRef sig ⟨S128x100000, .f32⟩) (broadcastInDim S128x100000 ![0, 1] bcast_S1x100000_S128x100000_0_1),
    bin (.of main_v173 : TRef sig ⟨S128x100000, .f32⟩) (.of main_v178 : TRef sig ⟨S128x100000, .f32⟩) (.of main_v179 : TRef sig ⟨S128x100000, .f32⟩) mulf,
    nul (.of main_cst_45 : TRef sig ⟨S_, .f32⟩) (constant S_ .f32 0x00000000#32),
    bin (.of main_v179 : TRef sig ⟨S128x100000, .f32⟩) (.of main_cst_45 : TRef sig ⟨S_, .f32⟩) (.of main_v180 : TRef sig ⟨S128, .f32⟩) ((fun x v => Host.reduceAdd x v reducesTo_S128x100000_S128_d1 h_S_)),
    resh (.of main_v180 : TRef sig ⟨S128, .f32⟩) (.of main_v181 : TRef sig ⟨S128x1, .f32⟩) shapeCasts_S128_S128x1,
    bin (.of main_v130 : TRef sig ⟨S128x3, .f32⟩) (.of main_v181 : TRef sig ⟨S128x1, .f32⟩) (.of main_v182 : TRef sig ⟨S128x4, .f32⟩) ((fun a b => concatenate S128x4 1 [⟨S128x3, a⟩, ⟨S128x1, b⟩] concatenates_S128x3_S128x1_S128x4_d1)) ])))))))
/-- The whole line. -/
def line : List (Step τ sig (Elt F)) := preL ++ (it0L ++ (it1L ++ it2L))

/-- The lines of the called functions are these functions. -/
theorem tf_body (a0 a1 : R0 sig) (a2 a3 : RS sig S1) (φ : fn_threefry2x32.Bufs) :
    fn_threefry2x32.body (F := F) a0 a1 a2 a3 φ = seq (ops (tfSteps bcast_S_S1 a0 a1 a2 a3 (tfB φ))) := by
  chain_rfl

/-- The program is its line. -/
theorem main_eq (d : Dev nD) : main (F := F) d = seq (ops line) := by
  chain_rfl

end Cert.ReferenceIdeal.Own

end
-- ==== Proof.RefRun.lean ====
/- The reference's run: every buffer ends at the line's final contents, whose equations all hold; and its frame. -/
module

public import proofs.«01_k».proof.Proof.RefLine
public import Idealize.ShloMosaic.Lib.Quiescent
public import Idealize.ShloMosaic.Lib.Claim

@[expose] public section

set_option maxRecDepth 16384

noncomputable section

namespace Cert.ReferenceIdeal.Own

open Idealize.ShloMosaic Idealize.ShloMosaic.TcCoe Idealize.ShloMosaic.StableHlo Idealize.SL.Sem Cert.Line
open Cert.ReferenceIdeal

variable {F : FTy → Type} [FloatOps F]

/-- The order in which the program's buffers are written. -/
def key (r : Ref sig .tc) : Nat := r.idx.val

/-- The line writes its buffers in order, each after what it reads. -/
theorem line_chk : chk key 2 (line (F := F)) = true := by
  chain_rfl

/-- The program's run: every buffer ends at the line's final contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops line) (launchContents m d) (Proc.devRef .tc b) :=
  run_seq (by decide) (by decide) defs main (fun _ => ops line) main_eq
    (fun _ => List.forall_iff_forall_mem.mpr fun op h => by
      obtain ⟨s, _, rfl⟩ := List.mem_map.mp h; exact s.hb) m ρ
    (fun _ op h => by obtain ⟨s, _, rfl⟩ := List.mem_map.mp h; exact s.hf)

/-- The arguments end as they were. -/
theorem keep (m : (ℓ : Loc nD τ sig) → Buf (Elt F) ℓ) (d : Dev nD) (b : Ref sig .tc) (hb : key b < 2) :
    after (ops line) (launchContents m d) (Proc.devRef .tc b) = m ((d.tc : Thread nD τ).loc b) :=
  after_of_lt key line 2 _ b line_chk hb

/-- The frame: the program ends, its arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h => ⟨fun c => ⟨(h c main_arg0).trans (keep m c main_arg0 (by decide)),
    (h c main_arg1).trans (keep m c main_arg1 (by decide))⟩, sem_eq_zero_of_no_sems (by decide) _⟩

end Cert.ReferenceIdeal.Own

end
-- ==== Proof.KernelSpec.lean ====
/- What one chunk of the kernel computes, written once for a chunk of any shape: the counter hash, the Gumbel noise and the
   running update of the per-lane maximum. -/
module

public import proofs.«01_k».proof.Proof.KernelIdealFrame
public import proofs.«01_k».proof.Proof.Threefry

@[expose] public section

set_option maxRecDepth 16384

noncomputable section

namespace Cert.KernelIdeal.Own

open Idealize.ShloMosaic Idealize.ShloMosaic.TcCoe Idealize.ShloMosaic.Tactic
open Cert.KernelIdeal Cert.KernelIdeal.Gen

variable {F : FTy → Type} [FloatOps F] {S : Shape}

/-- One round of the hash on arrays of word pairs. -/
def vrnd (n n' : BitVec 32) (p : IVec S 32 × IVec S 32) : IVec S 32 × IVec S 32 :=
  (addi p.1 p.2, xori (addi p.1 p.2) (ori (shli p.2 (broadcast S n)) (shrui p.2 (broadcast S n'))))

/-- The addition of key words between two groups of rounds. -/
def vinj (ka kb n : BitVec 32) (p : IVec S 32 × IVec S 32) : IVec S 32 × IVec S 32 :=
  (addi p.1 (broadcast S ka), addi p.2 (broadcast S (Scalar.addi kb n)))

/-- The rounds of an odd group. -/
def vodd (p : IVec S 32 × IVec S 32) : IVec S 32 × IVec S 32 :=
  vrnd 6#32 26#32 (vrnd 26#32 6#32 (vrnd 15#32 17#32 (vrnd 13#32 19#32 p)))

/-- The rounds of an even group. -/
def veven (p : IVec S 32 × IVec S 32) : IVec S 32 × IVec S 32 :=
  vrnd 24#32 8#32 (vrnd 16#32 16#32 (vrnd 29#32 3#32 (vrnd 17#32 15#32 p)))

/-- The hash of the counters `cnt` under the key `k0 k1`, whose third word is `kx`. -/
def vtf (k0 k1 kx : BitVec 32) (cnt : IVec S 32) : IVec S 32 × IVec S 32 :=
  vinj kx k0 5#32 <| vodd <| vinj k1 kx 4#32 <| veven <| vinj k0 k1 3#32 <| vodd <| vinj kx k0 2#32 <| veven <|
  vinj k1 kx 1#32 <| vodd (addi (broadcast S 0#32) (broadcast S k0), addi cnt (broadcast S k1))

/-- The number in `[0, 1)` made of a hash's upper bits. -/
def vuni (p : IVec S 32 × IVec S 32) : FVec F S .f32 :=
  subf (bitcastToFloat .f32 (ori (shrui (xori p.1 p.2) (broadcast S 9#32)) (broadcast S 1065353216#32)))
    (broadcast S (Scalar.ofBits .f32 0x3F800000#32))

/-- The Gumbel noise made of numbers in `[0, 1)`. -/
def vgum (u : FVec F S .f32) : FVec F S .f32 :=
  subf (broadcast S (Scalar.ofBits .f32 0x00000000#32)) (log (subf (broadcast S (Scalar.ofBits .f32 0x00000000#32))
    (log (maximumf (broadcast S (Scalar.ofBits .f32 0x00800000#32))
      (addf u (broadcast S (Scalar.ofBits .f32 0x00800000#32)))))))

/-- The running update: where the score beats the maximum so far and the lane is not masked, take the score and its count. -/
def vupd (w g : FVec F S .f32) (cnt : IVec S 32) (mk : IVec S 1) (acc : FVec F S .f32 × IVec S 32) :
    FVec F S .f32 × IVec S 32 :=
  (select (andi (cmpf .ogt (addf w g) acc.1) (xori mk (constantI S 1 1#1))) (addf w g) acc.1,
   select (andi (cmpf .ogt (addf w g) acc.1) (xori mk (constantI S 1 1#1))) cnt acc.2)

/-- One chunk's update. -/
def vscan (k0 k1 kx : BitVec 32) (w : FVec F S .f32) (cnt : IVec S 32) (mk : IVec S 1)
    (acc : FVec F S .f32 × IVec S 32) : FVec F S .f32 × IVec S 32 :=
  vupd w (vgum (vuni (vtf k0 k1 kx cnt))) cnt mk acc

/-- The third key word. -/
def kx (k0 k1 : BitVec 32) : BitVec 32 := Scalar.xori (Scalar.xori k0 k1) 466688986#32

/-- The counts of the first lanes of the rows of a grid point. -/
def rowC (i : grid0.Coords) : IVec S8x2048 32 :=
  muli (addi (broadcast S8x2048 (Scalar.muli (BitVec.ofNat 32 (i 0).val) 8#32)) (iota .tc S8x2048 32 [0] iota_S8x2048_d0_w32))
    (broadcast S8x2048 100000#32)

/-- The counts of the lanes of the first chunk. -/
def cnt0 (i : grid0.Coords) : IVec S8x2048 32 := addi (rowC i) (iota .tc S8x2048 32 [1] iota_S8x2048_d1_w32)

/-- The counts of the rows' first columns. -/
def row1 (i : grid0.Coords) : IVec S8x1 32 := extractStridedSlice S8x1 ![0, 0] (rowC i) slices_S8x2048_o0_0_S8x1

/-- The counts of the target column. -/
def tgtC (i : grid0.Coords) (v0 : BitVec 32) : IVec S8x1 32 := addi (row1 i) (broadcast S8x1 v0)

/-- The counts of a chunk that starts at column `b`. -/
def cntM (i : grid0.Coords) (b : BitVec 32) : IVec S8x2048 32 :=
  addi (addi (cnt0 i) (broadcast S8x2048 0#32)) (broadcast S8x2048 b)

/-- The counts of the tail. -/
def cntT (i : grid0.Coords) : IVec S8x1696 32 :=
  addi (addi (extractStridedSlice S8x1696 ![0, 0] (cnt0 i) slices_S8x2048_o0_0_S8x1696) (broadcast S8x1696 0#32))
    (broadcast S8x1696 98304#32)

/-- First mask: the target's count. -/
def mk1 (hb : S8x1.Broadcasts S) (cnt : IVec S 32) (t : IVec S8x1 32) : IVec S 1 := cmpi .eq cnt (broadcastTo S t hb)
/-- Second mask: the target's and the first pick's count. -/
def mk2 (hb : S8x1.Broadcasts S) (cnt : IVec S 32) (t a : IVec S8x1 32) : IVec S 1 :=
  ori (mk1 hb cnt t) (cmpi .eq cnt (broadcastTo S a hb))
/-- Third mask: the target's and both picks' counts. -/
def mk3 (hb : S8x1.Broadcasts S) (cnt : IVec S 32) (t a b : IVec S8x1 32) : IVec S 1 :=
  ori (mk2 hb cnt t a) (cmpi .eq cnt (broadcastTo S b hb))

/-- The first chunk column of a trip. -/
def base (k : ℕ) : BitVec 32 := Scalar.muli (Scf.iv 0#32 1#32 k) 2048#32

/-- The scan's start: the lowest maximum and count 0. -/
def start (S : Shape) : FVec F S .f32 × IVec S 32 := (broadcast S (Scalar.ofBits .f32 0xFF800000#32), broadcast S 0#32)

/-- The overall maximum of a row: over the lanes' maxima and over the tail. -/
def top (a : FVec F S8x2048 .f32 × IVec S8x2048 32) (t : FVec F S8x1696 .f32 × IVec S8x1696 32) : FVec F S8x1 .f32 :=
  maximumf (shapeCast S8x1 (multiReduction .maximumf [1] S8 a.1 0xFF800000#32 reduces_S8x2048_S8 (.inl rfl) rfl) shapeCasts_S8_S8x1)
    (shapeCast S8x1 (multiReduction .maximumf [1] S8 t.1 0xFF800000#32 reduces_S8x1696_S8 (.inl rfl) rfl) shapeCasts_S8_S8x1)

/-- The winner's count of a row: the least count among the lanes that hold the overall maximum. -/
def win (a : FVec F S8x2048 .f32 × IVec S8x2048 32) (t : FVec F S8x1696 .f32 × IVec S8x1696 32) : IVec S8x1 32 :=
  minsi
    (shapeCast S8x1 (multiReductionI .minsi [1] S8 (select (cmpf .oge a.1 (broadcastTo S8x2048 (top a t) broadcasts_S8x1_S8x2048)) a.2
      (broadcast S8x2048 1073741824#32)) 2147483647#32 reduces_S8x2048_S8 rfl) shapeCasts_S8_S8x1)
    (shapeCast S8x1 (multiReductionI .minsi [1] S8 (select (cmpf .oge t.1 (broadcastTo S8x1696 (top a t) broadcasts_S8x1_S8x1696)) t.2
      (broadcast S8x1696 1073741824#32)) 2147483647#32 reduces_S8x1696_S8 rfl) shapeCasts_S8_S8x1)

/-- A column of the result: the winners' columns as numbers. -/
def colOf (i : grid0.Coords) (w : IVec S8x1 32) : FVec F S8x1 .f32 :=
  shapeCast S8x1 (sitofp .f32 (shapeCast S8 (subi w (row1 i)) shapeCasts_S8x1_S8)) shapeCasts_S8_S8x1

/-! ## What the run found, in these terms -/

variable (c : Dev nD) (i : grid0.Coords) (arg3 : Memref sig .tc .vmem S8x100000 .f32) (harg3 : arg3.IsWhole)
  (arg4 : Memref sig .tc .vmem S8x4 .f32) (harg4 : arg4.IsWhole)
  (x0 : Vec F S8x100000 .f32) (xt0 : TbBuf0 (F := F) c tbM0_0) (xt1 : TbBuf0 (F := F) c tbM0_1)

/-- The target word. -/
abbrev tw : BitVec 32 := kernelRun0_A.sl.r c xt0
/-- The key words. -/
abbrev kw0 : BitVec 32 := kernelRun0_A.sl.r_1 c xt1
@[inherit_doc kw0] abbrev kw1 : BitVec 32 := kernelRun0_A.sl.r_2 c xt1
@[inherit_doc kw0] abbrev kw2 : BitVec 32 := kernelRun0_A.sl.r_21 c xt1
@[inherit_doc kw0] abbrev kw3 : BitVec 32 := kernelRun0_A.sl.r_22 c xt1
@[inherit_doc kw0] abbrev kw4 : BitVec 32 := kernelRun0_A.sl.r_40 c xt1
@[inherit_doc kw0] abbrev kw5 : BitVec 32 := kernelRun0_A.sl.r_41 c xt1

/-- The state of the first scan before trip `n`. -/
def sc1 (n : ℕ) : FVec F S8x2048 .f32 × IVec S8x2048 32 :=
  st_k0_t1 Variants.none c none i tbM0_0 htbM0_0 tbM0_1 htbM0_1 arg3 harg3 arg4 harg4 (kernelRun0_A.sl.r c xt0)
      (kernelRun0_A.sl.r_1 c xt1) (kernelRun0_A.sl.r_2 c xt1) (kernelRun0_A.sl.v15 c xt1) (harg3.unread x0)
      (k0_pay124, k0_pay125) n

/-- The state of the second scan before trip `n`. -/
def sc2 (n : ℕ) : FVec F S8x2048 .f32 × IVec S8x2048 32 :=
  st_k0_t2 Variants.none c none i tbM0_0 htbM0_0 tbM0_1 htbM0_1 arg3 harg3 arg4 harg4 (k0_pay121 i)
      (kernelRun0_A.sl.r_3 c i xt0) (kernelRun0_A.sl.r_4 c i arg3 harg3 arg4 harg4 x0 xt0 xt1)
      (kernelRun0_A.sl.r_5 c i arg3 harg3 arg4 harg4 x0 xt0 xt1)
      (kernelRun0_A.sl.r_6 c i arg3 harg3 arg4 harg4 x0 xt0 xt1) (kernelRun0_A.sl.r_19 c i arg3 harg3 x0 xt0 xt1)
      (kernelRun0_A.sl.r_20 c i arg3 harg3 x0 xt0 xt1) (kernelRun0_A.sl.r_21 c xt1) (kernelRun0_A.sl.r_22 c xt1)
      (kernelRun0_A.sl.v245 c xt1) (harg3.unread x0) (k0_pay181, k0_pay182) n

/-- The state of the third scan before trip `n`. -/
def sc3 (n : ℕ) : FVec F S8x2048 .f32 × IVec S8x2048 32 :=
  st_k0_t3 Variants.none c none i tbM0_0 htbM0_0 tbM0_1 htbM0_1 arg3 harg3 arg4 harg4 (k0_pay121 i)
      (kernelRun0_A.sl.r_3 c i xt0) (kernelRun0_A.sl.r_23 c i arg3 harg3 arg4 harg4 x0 xt0 xt1)
      (kernelRun0_A.sl.r_24 c i arg3 harg3 arg4 harg4 x0 xt0 xt1)
      (kernelRun0_A.sl.r_25 c i arg3 harg3 arg4 harg4 x0 xt0 xt1)
      (kernelRun0_A.sl.r_26 c i arg3 harg3 arg4 harg4 x0 xt0 xt1) k0_pay188 k0_pay189
      (kernelRun0_A.sl.r_27 arg3 harg3 x0) (kernelRun0_A.sl.r_28 i) (kernelRun0_A.sl.r_37 c i xt1)
      (kernelRun0_A.sl.r_38 c i xt0) (kernelRun0_A.sl.r_39 c i arg3 harg3 arg4 harg4 x0 xt0 xt1)
      (kernelRun0_A.sl.r_40 c xt1) (kernelRun0_A.sl.r_41 c xt1) (kernelRun0_A.sl.v478 c xt1) (harg3.unread x0)
      (k0_pay235, k0_pay236) n

/-- The weights of chunk `k`. -/
def chunk (k : Fin 48) : FVec F S8x2048 .f32 :=
  View.readAt (Elt F) arg3.view (Rect.unit (s := S8x100000) (k0_off1 k) S8x2048.size (k0_off1_inb k)).toLoadRect (harg3.unread x0)

/-- The weights of the tail. -/
def chunkT : FVec F S8x1696 .f32 :=
  View.readAt (Elt F) arg3.view (Rect.unit (s := S8x100000) ![0, 98304] S8x1696.size inb_S8x100000_S8x1696_0_98304).toLoadRect
    (harg3.unread x0)

/-- The first winners' counts. -/
def win1 : IVec S8x1 32 := kernelRun0_A.sl.r_23 c i arg3 harg3 arg4 harg4 x0 xt0 xt1
/-- The second winners' counts. -/
def win2 : IVec S8x1 32 := kernelRun0_A.sl.r_42 c i arg3 harg3 arg4 harg4 x0 xt0 xt1
/-- The third winners' counts. -/
def win3 : IVec S8x1 32 := kernelRun0_A.sl.r_56 c i arg3 harg3 arg4 harg4 x0 xt0 xt1

/-- Each scan starts at the lowest maximum. -/
theorem sc1_zero : sc1 c i arg3 harg3 arg4 harg4 x0 xt0 xt1 0 = start S8x2048 := by chain_rfl
@[inherit_doc sc1_zero]
theorem sc2_zero : sc2 c i arg3 harg3 arg4 harg4 x0 xt0 xt1 0 = start S8x2048 := by chain_rfl
@[inherit_doc sc1_zero]
theorem sc3_zero : sc3 c i arg3 harg3 arg4 harg4 x0 xt0 xt1 0 = start S8x2048 := by chain_rfl

/-- A trip of the first scan updates with one chunk, the target masked. -/
theorem sc1_succ (k : Fin 48) : sc1 c i arg3 harg3 arg4 harg4 x0 xt0 xt1 (k.val + 1)
    = vscan (kw0 c xt1) (kw1 c xt1) (kx (kw0 c xt1) (kw1 c xt1)) (chunk arg3 harg3 x0 k) (cntM i (base k))
        (mk1 broadcasts_S8x1_S8x2048 (cntM i (base k)) (tgtC i (tw c xt0))) (sc1 c i arg3 harg3 arg4 harg4 x0 xt0 xt1 k.val) := by
  refine (st_k0_t1_succ (F := F) (k := k) ..).trans ?_
  unfold tripR_k0_t1 trip_k0_t1
  chain_rfl

/-- A trip of the second scan updates with one chunk, the target and the first winner masked. -/
theorem sc2_succ (k : Fin 48) : sc2 c i arg3 harg3 arg4 harg4 x0 xt0 xt1 (k.val + 1)
    = vscan (kw2 c xt1) (kw3 c xt1) (kx (kw2 c xt1) (kw3 c xt1)) (chunk arg3 harg3 x0 k) (cntM i (base k))
        (mk2 broadcasts_S8x1_S8x2048 (cntM i (base k)) (tgtC i (tw c xt0)) (win1 c i arg3 harg3 arg4 harg4 x0 xt0 xt1))
        (sc2 c i arg3 harg3 arg4 harg4 x0 xt0 xt1 k.val) := by
  refine (st_k0_t2_succ (F := F) (k := k) ..).trans ?_
  unfold tripR_k0_t2 trip_k0_t2
  chain_rfl

/-- A trip of the third scan updates with one chunk, the target and both winners masked. -/
theorem sc3_succ (k : Fin 48) : sc3 c i arg3 harg3 arg4 harg4 x0 xt0 xt1 (k.val + 1)
    = vscan (kw4 c xt1) (kw5 c xt1) (kx (kw4 c xt1) (kw5 c xt1)) (chunk arg3 harg3 x0 k) (cntM i (base k))
        (mk3 broadcasts_S8x1_S8x2048 (cntM i (base k)) (tgtC i (tw c xt0)) (win1 c i arg3 harg3 arg4 harg4 x0 xt0 xt1)
          (win2 c i arg3 harg3 arg4 harg4 x0 xt0 xt1))
        (sc3 c i arg3 harg3 arg4 harg4 x0 xt0 xt1 k.val) := by
  refine (st_k0_t3_succ (F := F) (k := k) ..).trans ?_
  unfold tripR_k0_t3 trip_k0_t3
  chain_rfl

/-- The first winners, from the first scan and its tail. -/
theorem win1_eq : win1 c i arg3 harg3 arg4 harg4 x0 xt0 xt1
    = win (sc1 c i arg3 harg3 arg4 harg4 x0 xt0 xt1 48)
        (vscan (kw0 c xt1) (kw1 c xt1) (kx (kw0 c xt1) (kw1 c xt1)) (chunkT arg3 harg3 x0) (cntT i)
          (mk1 broadcasts_S8x1_S8x1696 (cntT i) (tgtC i (tw c xt0))) (start S8x1696)) := by
  chain_rfl

/-- The second winners, from the second scan and its tail. -/
theorem win2_eq : win2 c i arg3 harg3 arg4 harg4 x0 xt0 xt1
    = win (sc2 c i arg3 harg3 arg4 harg4 x0 xt0 xt1 48)
        (vscan (kw2 c xt1) (kw3 c xt1) (kx (kw2 c xt1) (kw3 c xt1)) (chunkT arg3 harg3 x0) (cntT i)
          (mk2 broadcasts_S8x1_S8x1696 (cntT i) (tgtC i (tw c xt0)) (win1 c i arg3 harg3 arg4 harg4 x0 xt0 xt1))
          (start S8x1696)) := by
  chain_rfl

/-- The third winners, from the third scan and its tail. -/
theorem win3_eq : win3 c i arg3 harg3 arg4 harg4 x0 xt0 xt1
    = win (sc3 c i arg3 harg3 arg4 harg4 x0 xt0 xt1 48)
        (vscan (kw4 c xt1) (kw5 c xt1) (kx (kw4 c xt1) (kw5 c xt1)) (chunkT arg3 harg3 x0) (cntT i)
          (mk3 broadcasts_S8x1_S8x1696 (cntT i) (tgtC i (tw c xt0)) (win1 c i arg3 harg3 arg4 harg4 x0 xt0 xt1)
            (win2 c i arg3 harg3 arg4 harg4 x0 xt0 xt1)) (start S8x1696)) := by
  chain_rfl

/-- The body's four stores: the target and the winners' columns. -/
theorem stores_eq : (kernelRun0_A c i arg3 harg3 arg4 harg4 x0 xt0 xt1).1 =
    [⟨Rect.unit (s := S8x4) ![0, 3] ![8, 1] inb_S8x4_S8x1_0_3, colOf i (win3 c i arg3 harg3 arg4 harg4 x0 xt0 xt1)⟩,
     ⟨Rect.unit (s := S8x4) ![0, 2] ![8, 1] inb_S8x4_S8x1_0_2, colOf i (win2 c i arg3 harg3 arg4 harg4 x0 xt0 xt1)⟩,
     ⟨Rect.unit (s := S8x4) ![0, 1] ![8, 1] inb_S8x4_S8x1_0_1, colOf i (win1 c i arg3 harg3 arg4 harg4 x0 xt0 xt1)⟩,
     ⟨Rect.unit (s := S8x4) ![0, 0] ![8, 1] inb_S8x4_S8x1_0_0,
       shapeCast S8x1 (broadcast S8 (Scalar.sitofp .f32 (tw c xt0))) shapeCasts_S8_S8x1⟩] := by
  unfold kernelRun0_A
  chain_rfl

end Cert.KernelIdeal.Own
end
-- ==== Proof.Pick.lean ====
/- The pick: the least column of greatest score among the unmasked ones, and two ways to find it — a scan of lanes that keep
   running maxima, and a fold of (score, column) pairs. -/
module

public import Idealize.ShloMosaic.Lib.IdealHost
public import Idealize.ShloMosaic.Lib.KernelVsHost
public import Idealize.ShloMosaic.Lib.SortNet.Extract

@[expose] public section

namespace Cert.Pick

open Idealize.ShloMosaic

/-- `c` is the least of the unmasked columns below `n` whose score is greatest. -/
def IsPick (n : ℕ) (M : ℕ → Prop) (s : ℕ → ℝ) (c : ℕ) : Prop :=
  c < n ∧ ¬ M c ∧ ∀ c', c' < n → ¬ M c' → s c' ≤ s c ∧ (c' < c → s c' < s c)

/-- There is at most one pick. -/
theorem IsPick.unique {n : ℕ} {M : ℕ → Prop} {s : ℕ → ℝ} {c c' : ℕ} (h : IsPick n M s c) (h' : IsPick n M s c') : c = c' := by
  obtain ⟨h1, h2, h3⟩ := h
  obtain ⟨h1', h2', h3'⟩ := h'
  rcases lt_trichotomy c c' with hl | rfl | hl
  · exact absurd ((h3' c h1 h2).2 hl) (not_lt.2 (h3 c' h1' h2').1)
  · rfl
  · exact absurd ((h3 c' h1' h2').2 hl) (not_lt.2 (h3' c h1 h2).1)

/-- `p` holds the pick among the columns of `D`, or the lowest value when all of them are masked. -/
def Best (D M : ℕ → Prop) (s : ℕ → ℝ) (cnt : ℕ → BitVec 32) (p : EReal × BitVec 32) : Prop :=
  (p.1 = ⊥ ∧ ∀ c, D c → M c) ∨
    ∃ c₀, D c₀ ∧ ¬ M c₀ ∧ p.1 = (s c₀ : EReal) ∧ p.2 = cnt c₀ ∧ ∀ c, D c → ¬ M c → s c ≤ s c₀ ∧ (c < c₀ → s c < s c₀)

/-- A column beyond those seen is taken where it is not masked and beats the maximum so far. -/
theorem Best.step {D M : ℕ → Prop} {s : ℕ → ℝ} {cnt : ℕ → BitVec 32} {p p' : EReal × BitVec 32} (h : Best D M s cnt p) (c : ℕ)
    (hc : ∀ c', D c' → c' < c) (hy : p.1 < (s c : EReal) → ¬ M c → p' = ((s c : EReal), cnt c))
    (hn : ¬ (p.1 < (s c : EReal) ∧ ¬ M c) → p' = p) {D' : ℕ → Prop} (hD : ∀ c', D' c' ↔ D c' ∨ c' = c) :
    Best D' M s cnt p' := by
  by_cases hp : p.1 < (s c : EReal) ∧ ¬ M c
  · obtain rfl := hy hp.1 hp.2
    refine .inr ⟨c, (hD c).2 (.inr rfl), hp.2, rfl, rfl, fun c' hc' hm' => ?_⟩
    rcases (hD c').1 hc' with hd | rfl
    · rcases h with ⟨_, h2⟩ | ⟨c₀, _, _, h3, _, h5⟩
      · exact absurd (h2 c' hd) hm'
      · have : s c₀ < s c := EReal.coe_lt_coe_iff.1 (h3 ▸ hp.1)
        have h6 := lt_of_le_of_lt (h5 c' hd hm').1 this
        exact ⟨h6.le, fun _ => h6⟩
    · exact ⟨le_rfl, fun h => absurd h (lt_irrefl _)⟩
  · obtain rfl := hn hp
    rcases h with ⟨h1, h2⟩ | ⟨c₀, h1, h2, h3, h4, h5⟩
    · refine .inl ⟨h1, fun c' hc' => ?_⟩
      rcases (hD c').1 hc' with hd | rfl
      · exact h2 c' hd
      · by_contra hm
        exact hp ⟨by rw [h1]; exact EReal.bot_lt_coe _, hm⟩
    · refine .inr ⟨c₀, (hD c₀).2 (.inl h1), h2, h3, h4, fun c' hc' hm' => ?_⟩
      rcases (hD c').1 hc' with hd | rfl
      · exact h5 c' hd hm'
      · refine ⟨not_lt.1 fun hl => hp ⟨by rw [h3]; exact EReal.coe_lt_coe_iff.2 hl, hm'⟩, fun hl => ?_⟩
        exact absurd (hc c₀ h1) (not_lt.2 hl.le)

/-- The signed value of a small word. -/
theorem toInt_small {x : ℕ} (h : x < 2 ^ 31) : (BitVec.ofNat 32 x).toInt = x := by
  have : (BitVec.ofNat 32 x).toNat = x := by rw [BitVec.toNat_ofNat]; omega
  rw [BitVec.toInt_eq_toNat_of_lt (by omega), this]

/-- The least count among the lanes that hold the overall maximum is the pick's. -/
theorem of_lanes {J : Type*} {n r : ℕ} {M : ℕ → Prop} {s : ℕ → ℝ} (hr : r + n < 2 ^ 30) (D : J → ℕ → Prop)
    (hcov : ∀ c, c < n → ∃ j, D j c) (hD : ∀ j c, D j c → c < n) (p : J → EReal × BitVec 32)
    (hb : ∀ j, Best (D j) M s (fun c => BitVec.ofNat 32 (r + c)) (p j)) (hne : ∃ c, c < n ∧ ¬ M c) (m : EReal)
    (hm : ∀ j, (p j).1 ≤ m) (hm' : m = ⊥ ∨ ∃ j, (p j).1 = m) (w : BitVec 32) (v : J → BitVec 32)
    (hv : ∀ j, m ≤ (p j).1 → v j = (p j).2) (hv' : ∀ j, ¬ m ≤ (p j).1 → v j = 1073741824#32)
    (hw : ∀ j, w.toInt ≤ (v j).toInt) (hw' : w = 2147483647#32 ∨ ∃ j, w = v j) :
    ∃ c, IsPick n M s c ∧ w = BitVec.ofNat 32 (r + c) := by
  have key : ∀ c, c < n → ¬ M c → ∃ j c₀, D j c ∧ D j c₀ ∧ ¬ M c₀ ∧ (p j).1 = (s c₀ : EReal) ∧ (p j).2 = BitVec.ofNat 32 (r + c₀)
      ∧ s c ≤ s c₀ ∧ (c < c₀ → s c < s c₀) := by
    intro c hc hmc
    obtain ⟨j, hj⟩ := hcov c hc
    rcases hb j with ⟨_, h2⟩ | ⟨c₀, h1, h2, h3, h4, h5⟩
    · exact absurd (h2 c hj) hmc
    · exact ⟨j, c₀, hj, h1, h2, h3, h4, h5 c hj hmc⟩
  have top : ∀ j, m ≤ (p j).1 → m ≠ ⊥ → ∃ c₀, D j c₀ ∧ ¬ M c₀ ∧ m = (s c₀ : EReal) ∧ v j = BitVec.ofNat 32 (r + c₀)
      ∧ ∀ c, D j c → ¬ M c → s c ≤ s c₀ ∧ (c < c₀ → s c < s c₀) := by
    intro j hj hbot
    have he : (p j).1 = m := le_antisymm (hm j) hj
    rcases hb j with ⟨h1, _⟩ | ⟨c₀, h1, h2, h3, h4, h5⟩
    · exact absurd (he ▸ h1) hbot
    · exact ⟨c₀, h1, h2, he ▸ h3, (hv j hj).trans h4, h5⟩
  obtain ⟨c₁, hc₁, hmc₁⟩ := hne
  obtain ⟨j₁, d₁, _, _, _, hp₁, _⟩ := key c₁ hc₁ hmc₁
  have hbot : m ≠ ⊥ := fun h => by
    have := hm j₁; rw [h, hp₁] at this; exact absurd (EReal.bot_lt_coe _) (not_lt.2 this)
  obtain ⟨jm, hjm⟩ := hm'.resolve_left hbot
  obtain ⟨cm, hcm, _, _, hvm, _⟩ := top jm hjm.ge hbot
  have hcm' := hD _ _ hcm
  have hwm := hw jm
  rw [hvm, toInt_small (by omega)] at hwm
  obtain ⟨j, hj⟩ := hw'.resolve_left fun h => by
    rw [h, show (2147483647#32 : BitVec 32).toInt = 2147483647 from by decide] at hwm; omega
  have hjt : m ≤ (p j).1 := by
    by_contra h
    rw [hj, hv' j h, show (1073741824#32 : BitVec 32).toInt = 1073741824 from by decide] at hwm; omega
  obtain ⟨c₀, h1, h2, h3, h4, h5⟩ := top j hjt hbot
  have hc₀ := hD _ _ h1
  refine ⟨c₀, ⟨hc₀, h2, fun c hc hmc => ?_⟩, hj.trans h4⟩
  obtain ⟨j', c', k1, k2, k3, k4, k5, k6, k7⟩ := key c hc hmc
  have hle : s c' ≤ s c₀ := by
    have := hm j'; rw [k4, h3] at this; exact EReal.coe_le_coe_iff.1 this
  refine ⟨k6.trans hle, fun hlt => lt_of_le_of_ne (k6.trans hle) fun he => ?_⟩
  have hs : s c' = s c₀ := le_antisymm hle (he ▸ k6)
  have hcc : c' ≤ c := by
    by_contra h
    exact absurd (k7 (not_le.1 h)) (by rw [he, hs]; exact lt_irrefl _)
  have hc' := hD _ _ k2
  have := hw j'
  rw [hj, h4, hv j' (by rw [k4, hs, h3]), k5, toInt_small (by omega), toInt_small (by omega)] at this
  omega

/-- A fold of the signed minimum is at most every word met, and is one of them or the start. -/
theorem fold_min_word {J : Type*} [DecidableEq J] (g : J → BitVec 32) (t : Finset J) (z : BitVec 32) :
    (∀ j ∈ t, (t.fold IntOp.minsi z g).toInt ≤ (g j).toInt) ∧ (t.fold IntOp.minsi z g = z ∨ ∃ j ∈ t, t.fold IntOp.minsi z g = g j) := by
  refine Finset.induction_on t ⟨by simp, .inl (by simp)⟩ fun a t ha ih => ?_
  rw [Finset.fold_insert ha]
  have hm := Idealize.ShloMosaic.SortNet.toInt_minsi (g a) (t.fold IntOp.minsi z g)
  refine ⟨fun j hj => ?_, ?_⟩
  · rw [hm]
    rcases Finset.mem_insert.1 hj with rfl | hj
    · exact min_le_left _ _
    · exact (min_le_right _ _).trans (ih.1 j hj)
  · rcases min_choice (g a).toInt (t.fold IntOp.minsi z g).toInt with h | h
    · exact .inr ⟨a, Finset.mem_insert_self _ _, BitVec.eq_of_toInt_eq (hm.trans h)⟩
    · have he := BitVec.eq_of_toInt_eq (hm.trans h)
      rcases ih.2 with h' | ⟨j, hj, h'⟩
      · exact .inl (he.trans h')
      · exact .inr ⟨j, Finset.mem_insert_of_mem hj, he.trans h'⟩

/-- A fold of the maximum is at least every value met, and is one of them or the start. -/
theorem fold_max_value {J : Type*} [DecidableEq J] (g : J → EReal) (t : Finset J) (z : EReal) :
    (∀ j ∈ t, g j ≤ t.fold max z g) ∧ (t.fold max z g = z ∨ ∃ j ∈ t, t.fold max z g = g j) := by
  refine Finset.induction_on t ⟨by simp, .inl (by simp)⟩ fun a t ha ih => ?_
  rw [Finset.fold_insert ha]
  refine ⟨fun j hj => ?_, ?_⟩
  · rcases Finset.mem_insert.1 hj with rfl | hj
    · exact le_max_left _ _
    · exact (ih.1 j hj).trans (le_max_right _ _)
  · rcases max_choice (g a) (t.fold max z g) with h | h
    · exact .inr ⟨a, Finset.mem_insert_self _ _, h⟩
    · rcases ih.2 with h' | ⟨j, hj, h'⟩
      · exact .inl (h.trans h')
      · exact .inr ⟨j, Finset.mem_insert_of_mem hj, h.trans h'⟩

/-! ## The fold of pairs -/

/-- `q` is no better than `p`: a smaller value, or the same value and no smaller column. -/
def NoBetter (q p : EReal × BitVec 32) : Prop := q.1 < p.1 ∨ (q.1 = p.1 ∧ p.2.toInt ≤ q.2.toInt)

/-- Being no better is transitive. -/
theorem NoBetter.trans {a b c : EReal × BitVec 32} (h : NoBetter a b) (h' : NoBetter b c) : NoBetter a c := by
  rcases h with h | ⟨h, k⟩ <;> rcases h' with h' | ⟨h', k'⟩
  · exact .inl (h.trans h')
  · exact .inl (h'.symm ▸ h)
  · exact .inl (h ▸ h')
  · exact .inr ⟨h.trans h', k'.trans k⟩

/-- Being no better is reflexive. -/
theorem NoBetter.refl (a : EReal × BitVec 32) : NoBetter a a := .inr ⟨rfl, le_rfl⟩

/-- A fold that keeps the better of two pairs ends with one that none beats. -/
theorem foldl_best (f : EReal × BitVec 32 → EReal × BitVec 32 → EReal × BitVec 32)
    (hf : ∀ a b, (f a b = a ∨ f a b = b) ∧ NoBetter a (f a b) ∧ NoBetter b (f a b)) (l : List (EReal × BitVec 32)) :
    ∀ p, (l.foldl f p = p ∨ l.foldl f p ∈ l) ∧ NoBetter p (l.foldl f p) ∧ ∀ q ∈ l, NoBetter q (l.foldl f p) := by
  induction l with
  | nil => exact fun p => ⟨.inl rfl, .refl p, fun q hq => absurd hq (by simp)⟩
  | cons a l ih =>
    intro p
    obtain ⟨h1, h2, h3⟩ := ih (f p a)
    obtain ⟨k1, k2, k3⟩ := hf p a
    refine ⟨?_, k2.trans h2, fun q hq => ?_⟩
    · rw [List.foldl_cons]
      rcases h1 with h | h
      · rcases k1 with k | k
        · exact .inl (h.trans k)
        · exact .inr (by rw [h, k]; exact List.mem_cons_self)
      · exact .inr (List.mem_cons_of_mem _ h)
    · rcases List.mem_cons.1 hq with rfl | hq
      · exact k3.trans h2
      · exact h3 q hq

/-- The best of the (score, column) pairs, masked columns at the lowest score, is the pick. -/
theorem of_best {n : ℕ} {M : ℕ → Prop} {s : ℕ → ℝ} (hn : n < 2 ^ 30) (x : ℕ → EReal) (hx : ∀ c, c < n → M c → x c = ⊥)
    (hx' : ∀ c, c < n → ¬ M c → x c = (s c : EReal)) (hne : ∃ c, c < n ∧ ¬ M c) (p : EReal × BitVec 32) (b : BitVec 32)
    (hp : p = (⊥, b) ∨ ∃ c, c < n ∧ p = (x c, BitVec.ofNat 32 c))
    (hbest : ∀ c, c < n → NoBetter (x c, BitVec.ofNat 32 c) p) : ∃ c, IsPick n M s c ∧ p.2 = BitVec.ofNat 32 c := by
  obtain ⟨c₁, hc₁, hm₁⟩ := hne
  have hpb : p.1 ≠ ⊥ := fun h => by
    rcases hbest c₁ hc₁ with hh | ⟨hh, _⟩
    · rw [h] at hh; exact not_lt_bot hh
    · rw [h, hx' c₁ hc₁ hm₁] at hh; exact EReal.coe_ne_bot _ hh
  obtain ⟨c, hc, rfl⟩ := hp.resolve_left fun h => hpb (by rw [h])
  have hmc : ¬ M c := fun h => hpb (hx c hc h)
  refine ⟨c, ⟨hc, hmc, fun c' hc' hm' => ?_⟩, rfl⟩
  have := hbest c' hc'
  simp only [NoBetter, hx' c hc hmc, hx' c' hc' hm', EReal.coe_lt_coe_iff, EReal.coe_eq_coe_iff] at this
  rw [toInt_small (by omega), toInt_small (by omega)] at this
  rcases this with h | ⟨h, k⟩
  · exact ⟨h.le, fun _ => h⟩
  · exact ⟨h.le, fun hl => by omega⟩

/-- Scores shifted by a constant have the same pick. -/
theorem IsPick.shift {n : ℕ} {M : ℕ → Prop} {s s' : ℕ → ℝ} {c : ℕ} (C : ℝ) (h : IsPick n M s c)
    (hs : ∀ c, c < n → s' c = s c + C) : IsPick n M s' c := by
  obtain ⟨h1, h2, h3⟩ := h
  refine ⟨h1, h2, fun c' hc' hm' => ?_⟩
  rw [hs c h1, hs c' hc']
  have := h3 c' hc' hm'
  exact ⟨by linarith [this.1], fun hl => by linarith [this.2 hl]⟩

end Cert.Pick
-- ==== Proof.Gumbel.lean ====
/- The Gumbel noise of a pair of words as a real number, and that both spellings of it — the kernel's and the reference's — are
   this number. -/
module

public import Idealize.ShloMosaic.Lib.IdealHost
public import Idealize.ShloMosaic.Lib.KernelVsHost

@[expose] public section

noncomputable section

namespace Cert.Pick

open Idealize.ShloMosaic Idealize.ShloMosaic.ValueIdx

/-- The upper 23 bits of the words' difference as a fraction in `[0, 1)`. -/
def frac (p : BitVec 32 × BitVec 32) : ℝ := (((p.1 ^^^ p.2).toNat / 512 : ℕ) : ℝ) / 8388608

/-- The least normal number. -/
def tiny : ℝ := (2 : ℝ) ^ (-126 : ℤ)

/-- The Gumbel noise. -/
def noise (p : BitVec 32 × BitVec 32) : ℝ := -Real.log (-Real.log (frac p + tiny))

/-- The least normal number is positive. -/
theorem tiny_pos : 0 < tiny := by unfold tiny; positivity

/-- The least normal number is below one step of a uniform number. -/
theorem tiny_small : tiny < 1 / 8388608 := by unfold tiny; norm_num

/-- A uniform number is not negative. -/
theorem frac_nonneg (p : BitVec 32 × BitVec 32) : 0 ≤ frac p := by unfold frac; positivity

/-- A uniform number is at least one step below one. -/
theorem frac_le (p : BitVec 32 × BitVec 32) : frac p ≤ 1 - 1 / 8388608 := by
  have h : (p.1 ^^^ p.2).toNat / 512 ≤ 8388607 := by have := (p.1 ^^^ p.2).isLt; omega
  have h' : (((p.1 ^^^ p.2).toNat / 512 : ℕ) : ℝ) ≤ 8388607 := by exact_mod_cast h
  unfold frac
  linarith

/-- The float whose upper bits are those of 1 and whose fraction is the words' is 1 plus the fraction. -/
theorem ofBits_frac (p : BitVec 32 × BitVec 32) :
    Ideal.ofBits .f32 (IntOp.ori (IntOp.shrui .vector (IntOp.xori p.1 p.2) 9#32) 1065353216#32) = ((1 + frac p : ℝ) : EReal) := by
  have hs : IntOp.shrui .vector (IntOp.xori p.1 p.2) 9#32 = (p.1 ^^^ p.2) >>> 9 := by simp [IntOp.shrui, IntOp.xori]
  rw [hs]
  unfold frac
  generalize p.1 ^^^ p.2 = x
  have e1 : (((x >>> 9) ||| 1065353216#32).extractLsb' 31 1 == 1#1) = false := by
    rw [beq_eq_false_iff_ne]
    intro h
    have := congrArg (fun b => b.getLsbD 0) h
    simp at this
  have e2 : ((x >>> 9) ||| 1065353216#32).extractLsb' 23 8 = 127#8 := by
    apply BitVec.eq_of_getLsbD_eq
    intro i hi
    interval_cases i <;> simp
  have e3 : (((x >>> 9) ||| 1065353216#32).extractLsb' 0 23).toNat = x.toNat / 512 := by
    have h : ((x >>> 9) ||| 1065353216#32).extractLsb' 0 23 = (x >>> 9).extractLsb' 0 23 := by
      apply BitVec.eq_of_getLsbD_eq
      intro i hi
      interval_cases i <;> simp
    rw [h, BitVec.extractLsb'_toNat, BitVec.toNat_ushiftRight, Nat.shiftRight_eq_div_pow, Nat.shiftRight_eq_div_pow]
    have := x.isLt
    omega
  have e0 : (127#8 : BitVec 8).toNat = 127 := by decide
  show Ideal.ieee 8 23 _ = _
  unfold Ideal.ieee IntOp.ori
  rw [show (8 + 23 : ℕ) = 31 from rfl, e1, e2, e3, e0]
  rw [if_neg (by norm_num), if_neg (by norm_num)]
  refine congrArg _ ?_
  rw [show ((127 : ℕ) : ℤ) - (2 ^ (8 - 1) - 1) - (23 : ℕ) = -23 from by norm_num]
  simp only [Bool.false_eq_true, if_false]
  push_cast
  norm_num
  ring

/-- The constant one. -/
theorem ofBits_one : Ideal.ofBits .f32 0x3F800000#32 = ((1 : ℝ) : EReal) := by
  simp [Ideal.ofBits, Ideal.ieee]
  rw [← EReal.coe_mul]
  norm_num

/-- The constant zero. -/
theorem ofBits_zero : Ideal.ofBits .f32 0x00000000#32 = ((0 : ℝ) : EReal) := by
  simp [Ideal.ofBits, Ideal.ieee]

/-- The constant for the least normal number. -/
theorem ofBits_tiny : Ideal.ofBits .f32 0x00800000#32 = (tiny : EReal) := by
  simp [Ideal.ofBits, Ideal.ieee, tiny]
  rw [← EReal.coe_mul]
  norm_num

/-- The constant for minus infinity. -/
theorem ofBits_bot : Ideal.ofBits .f32 0xFF800000#32 = (⊥ : EReal) := by
  simp [Ideal.ofBits, Ideal.ieee]

/-- The double logarithm of a number in `(0, 1)`. -/
theorem log_log {u : ℝ} (h0 : 0 < u) (h1 : u < 1) :
    Ideal.log (-Ideal.log (u : EReal)) = ((Real.log (-Real.log u) : ℝ) : EReal) := by
  have h2 : 0 < -Real.log u := by have := Real.log_neg h0 h1; linarith
  rw [Ideal.log_coe, if_neg (not_le.2 h0), ← EReal.coe_neg, Ideal.log_coe, if_neg (not_le.2 h2)]

/-- The argument of the logarithms lies in `(0, 1)`, and is at least the least normal number. -/
theorem arg_mem (p : BitVec 32 × BitVec 32) : 0 < frac p + tiny ∧ frac p + tiny < 1 ∧ tiny ≤ frac p + tiny := by
  have := frac_nonneg p; have := frac_le p; have := tiny_pos; have := tiny_small
  exact ⟨by linarith, by linarith, by linarith⟩

/-- The reference's spelling, with its scalings by 1 and its shifts by 0. -/
theorem noise_reference (p : BitVec 32 × BitVec 32) (x : EReal) (hx : x = ((1 + frac p : ℝ) : EReal)) :
    -Ideal.log (-Ideal.log (max (tiny : EReal) (max ((0 : ℝ) : EReal) ((x - (1 : ℝ)) * ((1 : ℝ) - (0 : ℝ)) + (0 : ℝ)) * (1 : ℝ) + (tiny : EReal))))
      = (noise p : EReal) := by
  have h : max (tiny : EReal) (max ((0 : ℝ) : EReal) ((x - (1 : ℝ)) * ((1 : ℝ) - (0 : ℝ)) + (0 : ℝ)) * (1 : ℝ) + (tiny : EReal))
      = ((frac p + tiny : ℝ) : EReal) := by
    rw [hx]
    have e : ((((1 + frac p : ℝ) : EReal) - (1 : ℝ)) * ((1 : ℝ) - (0 : ℝ)) + (0 : ℝ)) = (frac p : EReal) := by
      rw [← EReal.coe_sub, ← EReal.coe_sub, ← EReal.coe_mul, ← EReal.coe_add]; congr 1; ring
    rw [e, max_eq_right (show ((0 : ℝ) : EReal) ≤ (frac p : EReal) from EReal.coe_le_coe_iff.2 (frac_nonneg p)), max_eq_right]
    · rw [← EReal.coe_mul, ← EReal.coe_add, mul_one]
    · rw [← EReal.coe_mul, ← EReal.coe_add]
      exact_mod_cast (by rw [mul_one]; exact (arg_mem p).2.2)
  rw [h, log_log (arg_mem p).1 (arg_mem p).2.1, ← EReal.coe_neg]
  rfl

/-- The kernel's spelling. -/
theorem noise_kernel (p : BitVec 32 × BitVec 32) (x : EReal) (hx : x = ((1 + frac p : ℝ) : EReal)) :
    ((0 : ℝ) : EReal) - Ideal.log ((0 : ℝ) - Ideal.log (max (tiny : EReal) ((x - (1 : ℝ)) + (tiny : EReal)))) = (noise p : EReal) := by
  have h : max (tiny : EReal) ((x - (1 : ℝ)) + (tiny : EReal)) = ((frac p + tiny : ℝ) : EReal) := by
    rw [hx]
    have e : (((1 + frac p : ℝ) : EReal) - (1 : ℝ)) = (frac p : EReal) := by
      rw [← EReal.coe_sub]; congr 1; ring
    rw [e, ← EReal.coe_add, max_eq_right]
    exact_mod_cast (arg_mem p).2.2
  rw [h, EReal.coe_zero, zero_sub, zero_sub, log_log (arg_mem p).1 (arg_mem p).2.1, ← EReal.coe_neg]
  rfl

end Cert.Pick

end
-- ==== Proof.KernelPick.lean ====
/- The kernel's scans at the ideal reals: every lane keeps the best of its columns, and the winner's count of a row is that of the
   row's pick. -/
module

public import proofs.«01_k».proof.Proof.KernelSpec
public import proofs.«01_k».proof.Proof.Pick
public import proofs.«01_k».proof.Proof.Gumbel
public import Idealize.ShloMosaic.Lib.ValueLayoutCasts
public import Idealize.ShloMosaic.Lib.Pointwise.Reduce

@[expose] public section

set_option maxRecDepth 16384

noncomputable section

namespace Cert.KernelIdeal.Own

open Idealize.ShloMosaic hiding ix0 ix1 ix2
open Idealize.ShloMosaic.ValueIdx
open Cert.KernelIdeal Cert.KernelIdeal.Gen Cert.Pick

/-! ## At one lane -/

section Lane

variable {S : Shape}

/-- An array of word pairs at one place. -/
abbrev at2 (p : IVec S 32 × IVec S 32) (j : S.Idx) : BitVec 32 × BitVec 32 := (p.1 j, p.2 j)

/-- A round on arrays is, at each place, a round on words. -/
theorem at_rnd (n n' : BitVec 32) (p : IVec S 32 × IVec S 32) (j : S.Idx) : at2 (vrnd n n' p) j = Cert.Line.rnd n n' (at2 p j) := rfl

/-- A key injection on arrays is, at each place, one on words. -/
theorem at_inj (ka kb n : BitVec 32) (p : IVec S 32 × IVec S 32) (j : S.Idx) :
    at2 (vinj ka kb n p) j = Cert.Line.inj ka kb n (at2 p j) := rfl

/-- The hash of an array is the cipher at each place. -/
theorem at_tf (k0 k1 : BitVec 32) (cnt : IVec S 32) (j : S.Idx) :
    at2 (vtf k0 k1 (kx k0 k1) cnt) j = Cert.Line.tf k0 k1 0#32 (cnt j) := by
  unfold vtf vodd veven Cert.Line.tf Cert.Line.odd Cert.Line.even
  simp only [at_inj, at_rnd]
  rfl

/-- The noise of an array is the noise at each place. -/
theorem at_gum (k0 k1 : BitVec 32) (cnt : IVec S 32) (j : S.Idx) :
    vgum (vuni (F := Ideal) (vtf k0 k1 (kx k0 k1) cnt)) j = ((noise (Cert.Line.tf k0 k1 0#32 (cnt j)) : ℝ) : EReal) := by
  rw [← at_tf]
  generalize vtf k0 k1 (kx k0 k1) cnt = p
  have h := noise_kernel (at2 p j) _ (ofBits_frac (at2 p j))
  rw [← ofBits_zero, ← ofBits_one, ← ofBits_tiny] at h
  exact h

/-- One update at one lane: the score and its count where the score beats the maximum and the lane is not masked. -/
theorem at_scan (k0 k1 : BitVec 32) (w : FVec Ideal S .f32) (cnt : IVec S 32) (mk : IVec S 1) (acc : FVec Ideal S .f32 × IVec S 32)
    (j : S.Idx) (x : ℝ) (hw : w j = (x : EReal)) :
    ((acc.1 j : EReal) < ((x + noise (Cert.Line.tf k0 k1 0#32 (cnt j)) : ℝ) : EReal) → ¬ mk j = 1#1 →
      (((vscan k0 k1 (kx k0 k1) w cnt mk acc).1 j, (vscan k0 k1 (kx k0 k1) w cnt mk acc).2 j) : EReal × BitVec 32)
        = (((x + noise (Cert.Line.tf k0 k1 0#32 (cnt j)) : ℝ) : EReal), cnt j)) ∧
    (¬ ((acc.1 j : EReal) < ((x + noise (Cert.Line.tf k0 k1 0#32 (cnt j)) : ℝ) : EReal) ∧ ¬ mk j = 1#1) →
      (((vscan k0 k1 (kx k0 k1) w cnt mk acc).1 j, (vscan k0 k1 (kx k0 k1) w cnt mk acc).2 j) : EReal × BitVec 32)
        = (acc.1 j, acc.2 j)) := by
  have hs : (w j : EReal) + vgum (vuni (F := Ideal) (vtf k0 k1 (kx k0 k1) cnt)) j
      = ((x + noise (Cert.Line.tf k0 k1 0#32 (cnt j)) : ℝ) : EReal) := by
    rw [at_gum, hw, ← EReal.coe_add]
  have e1 : ((vscan k0 k1 (kx k0 k1) w cnt mk acc).1 j : EReal)
      = Scalar.select (IntOp.andi (Ideal.cmp .ogt ((w j : EReal) + vgum (vuni (F := Ideal) (vtf k0 k1 (kx k0 k1) cnt)) j) (acc.1 j))
          (IntOp.xori (mk j) 1#1)) ((w j : EReal) + vgum (vuni (F := Ideal) (vtf k0 k1 (kx k0 k1) cnt)) j) (acc.1 j) := rfl
  have e2 : (vscan k0 k1 (kx k0 k1) w cnt mk acc).2 j
      = Scalar.select (IntOp.andi (Ideal.cmp .ogt ((w j : EReal) + vgum (vuni (F := Ideal) (vtf k0 k1 (kx k0 k1) cnt)) j) (acc.1 j))
          (IntOp.xori (mk j) 1#1)) (cnt j) (acc.2 j) := rfl
  rw [hs] at e1 e2
  rw [e1, e2]
  refine ⟨fun h hm => ?_, fun h => ?_⟩
  · have h1 : IntOp.andi (Ideal.cmp .ogt ((x + noise (Cert.Line.tf k0 k1 0#32 (cnt j)) : ℝ) : EReal) (acc.1 j))
        (IntOp.xori (mk j) 1#1) = 1#1 := by
      rw [eq_zero_of_ne_one hm]
      simp only [Ideal.cmp, h, decide_true]
      decide
    rw [h1, select_one, select_one]
  · have h1 : IntOp.andi (Ideal.cmp .ogt ((x + noise (Cert.Line.tf k0 k1 0#32 (cnt j)) : ℝ) : EReal) (acc.1 j))
        (IntOp.xori (mk j) 1#1) = 0#1 := by
      by_cases hm : mk j = 1#1
      · rw [hm, show IntOp.xori 1#1 1#1 = 0#1 from rfl]
        simp [IntOp.andi]
      · have h2 : ¬ (acc.1 j : EReal) < ((x + noise (Cert.Line.tf k0 k1 0#32 (cnt j)) : ℝ) : EReal) := fun h3 => h ⟨h3, hm⟩
        simp only [Ideal.cmp, h2, decide_false]
        simp [IntOp.andi]
    rw [h1, select_zero, select_zero]

end Lane

/-! ## The counts -/

variable (i : grid0.Coords)

/-- The count of row `r`'s first column. -/
def rowN (r : Fin 8) : ℕ := ((i 0).val * 8 + r.val) * 100000

/-- The counters of a row are small. -/
theorem rowN_lt (r : Fin 8) : rowN i r + 100000 < 2 ^ 30 := by
  have h : (i 0).val < 16 := (i 0).isLt
  have := r.isLt
  unfold rowN; omega

/-- The array of row counters holds the first counter of the row. -/
theorem rowC_at (r : Fin 8) (l : Fin 2048) : rowC i (ix2 r l) = BitVec.ofNat 32 (rowN i r) := by
  show IntOp.muli (IntOp.addi (IntOp.muli (BitVec.ofNat 32 (i 0).val) 8#32) (iota .tc S8x2048 32 [0] iota_S8x2048_d0_w32 (ix2 r l))) 100000#32 = _
  rw [iota_single_apply]
  unfold rowN IntOp.muli IntOp.addi
  rw [BitVec.ofNat_mul, BitVec.ofNat_add, BitVec.ofNat_mul]

/-- The counters of the first chunk. -/
theorem cnt0_at (r : Fin 8) (l : Fin 2048) : cnt0 i (ix2 r l) = BitVec.ofNat 32 (rowN i r + l.val) := by
  show IntOp.addi (rowC i (ix2 r l)) (iota .tc S8x2048 32 [1] iota_S8x2048_d1_w32 (ix2 r l)) = _
  rw [rowC_at, iota_single_apply, BitVec.ofNat_add]
  rfl

/-- The column of row counters holds the first counter of the row. -/
theorem row1_at (r : Fin 8) (u : Fin 1) : row1 i (ix2 r u) = BitVec.ofNat 32 (rowN i r) := by
  unfold row1
  refine (extractStridedSlice_apply _ _ _ _ (ix2 r (⟨0, by omega⟩ : Fin 2048)) fun a => ?_).trans (rowC_at i r _)
  match a with
  | ⟨0, _⟩ => exact (Nat.zero_add _).symm
  | ⟨1, _⟩ => show 0 = 0 + u.val; omega

/-- The counters of a chunk of the loop. -/
theorem cntM_at (k : ℕ) (r : Fin 8) (l : Fin 2048) :
    cntM i (base k) (ix2 r l) = BitVec.ofNat 32 (rowN i r + (k * 2048 + l.val)) := by
  show IntOp.addi (IntOp.addi (cnt0 i (ix2 r l)) 0#32) (base k) = _
  have hb : base k = BitVec.ofNat 32 (k * 2048) := by
    unfold base
    simp [Scf.iv, Scalar.muli, IntOp.muli, IntOp.addi, BitVec.ofNat_mul]
  rw [hb, cnt0_at]
  simp only [IntOp.addi, BitVec.add_zero, ← BitVec.ofNat_add]
  exact congrArg (BitVec.ofNat 32) (by omega)

/-- The counters of the last chunk. -/
theorem cntT_at (r : Fin 8) (l : Fin 1696) :
    cntT i (ix2 r l) = BitVec.ofNat 32 (rowN i r + (98304 + l.val)) := by
  show IntOp.addi (IntOp.addi (extractStridedSlice S8x1696 ![0, 0] (cnt0 i) slices_S8x2048_o0_0_S8x1696 (ix2 r l)) 0#32) 98304#32 = _
  have hl := l.isLt
  rw [extractStridedSlice_apply _ _ _ _ (ix2 r (⟨l.val, by omega⟩ : Fin 2048)) (fun a => by
    match a with
    | ⟨0, _⟩ => exact (Nat.zero_add _).symm
    | ⟨1, _⟩ => exact (Nat.zero_add _).symm), cnt0_at]
  simp only [IntOp.addi, BitVec.add_zero]
  rw [show (98304#32 : BitVec 32) = BitVec.ofNat 32 98304 from rfl, ← BitVec.ofNat_add]
  exact congrArg (BitVec.ofNat 32) (by show rowN i r + l.val + 98304 = _; omega)

/-! ## The scan -/

section Scan

variable (k0 k1 : BitVec 32) (M : Fin 8 → ℕ → Prop) (w : Fin 8 → ℕ → ℝ)

/-- The score of column `c` of row `r`. -/
def score (r : Fin 8) (c : ℕ) : ℝ := w r c + noise (Cert.Line.tf k0 k1 0#32 (BitVec.ofNat 32 (rowN i r + c)))

/-- The columns of lane `l` seen in the first `n` trips. -/
def seen (n : ℕ) (l : ℕ) (c : ℕ) : Prop := ∃ k, k < n ∧ c = k * 2048 + l

variable (W : Fin 48 → FVec Ideal S8x2048 .f32) (hW : ∀ k r (l : Fin 2048), W k (ix2 r l) = ((w r (k.val * 2048 + l.val) : ℝ) : EReal))
  (mk : Fin 48 → IVec S8x2048 1) (hmk : ∀ k r (l : Fin 2048), mk k (ix2 r l) = 1#1 ↔ M r (k.val * 2048 + l.val))
  (st : ℕ → FVec Ideal S8x2048 .f32 × IVec S8x2048 32) (h0 : st 0 = start S8x2048)
  (hs : ∀ k : Fin 48, st (k.val + 1) = vscan k0 k1 (kx k0 k1) (W k) (cntM i (base k)) (mk k) (st k.val))

include hW hmk h0 hs in
/-- Before trip `n` every lane holds the best of the columns it has seen. -/
theorem scan_best (r : Fin 8) (l : Fin 2048) : ∀ n, n ≤ 48 →
    Best (seen n l.val) (M r) (score i k0 k1 w r) (fun c => BitVec.ofNat 32 (rowN i r + c)) ((st n).1 (ix2 r l), (st n).2 (ix2 r l))
  | 0, _ => by
    rw [h0]
    exact .inl ⟨ofBits_bot, fun c hc => absurd hc.choose_spec.1 (Nat.not_lt_zero _)⟩
  | n + 1, hn => by
    have ih := scan_best r l n (by omega)
    have hk := hs ⟨n, by omega⟩
    simp only at hk
    rw [hk]
    have hc := cntM_at i n r l
    have ha := at_scan k0 k1 (W ⟨n, by omega⟩) (cntM i (base n)) (mk ⟨n, by omega⟩) (st n) (ix2 r l) _ (hW ⟨n, by omega⟩ r l)
    rw [hc, hmk] at ha
    exact ih.step (n * 2048 + l.val) (fun c' ⟨k, hk, e⟩ => by rw [e]; omega) ha.1 ha.2 fun c' =>
      ⟨fun ⟨k, hk, e⟩ => by
        rcases Nat.lt_succ_iff_lt_or_eq.1 hk with h | rfl
        · exact .inl ⟨k, h, e⟩
        · exact .inr e,
       fun h => h.elim (fun ⟨k, hk, e⟩ => ⟨k, by omega, e⟩) fun e => ⟨n, by omega, e⟩⟩

variable (WT : FVec Ideal S8x1696 .f32) (hWT : ∀ r (l : Fin 1696), WT (ix2 r l) = ((w r (98304 + l.val) : ℝ) : EReal))
  (mkT : IVec S8x1696 1) (hmkT : ∀ r (l : Fin 1696), mkT (ix2 r l) = 1#1 ↔ M r (98304 + l.val))

include hWT hmkT in
/-- After the tail every tail lane holds the best of its one column. -/
theorem tail_best (r : Fin 8) (l : Fin 1696) :
    Best (fun c => c = 98304 + l.val) (M r) (score i k0 k1 w r) (fun c => BitVec.ofNat 32 (rowN i r + c))
      ((vscan k0 k1 (kx k0 k1) WT (cntT i) mkT (start S8x1696)).1 (ix2 r l),
       (vscan k0 k1 (kx k0 k1) WT (cntT i) mkT (start S8x1696)).2 (ix2 r l)) := by
  have ha := at_scan k0 k1 WT (cntT i) mkT (start S8x1696) (ix2 r l) _ (hWT r l)
  rw [cntT_at i r l, hmkT] at ha
  have hb : Best (fun _ => False) (M r) (score i k0 k1 w r) (fun c => BitVec.ofNat 32 (rowN i r + c))
      ((start (F := Ideal) S8x1696).1 (ix2 r l), (start (F := Ideal) S8x1696).2 (ix2 r l)) :=
    .inl ⟨ofBits_bot, fun c hc => hc.elim⟩
  exact hb.step (98304 + l.val) (fun c' h => h.elim) ha.1 ha.2 fun c' => by simp

end Scan

/-! ## The winner -/

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- The greatest value of a row of an array: at least each of the row's values, and one of them or the lowest. -/
theorem rowMax {n : ℕ} (x : FVec Ideal (⟨2, ![8, n]⟩ : Shape) .f32) (h : (⟨2, ![8, n]⟩ : Shape).Reduces [1] S8) (r : Fin 8) (u : Fin 1) :
    ∃ m : EReal, shapeCast S8x1 (multiReduction .maximumf [1] S8 x 0xFF800000#32 h (.inl rfl) rfl) shapeCasts_S8_S8x1 (ix2 r u) = m
      ∧ (∀ l, x (ix2 r l) ≤ m) ∧ (m = ⊥ ∨ ∃ l, m = x (ix2 r l)) := by
  refine ⟨_, (shapeCast_a_a1_apply _ _ r u).trans ((multiReduction_maximumf_eq_fold x _ h _ _ _).trans
    (Shape.Reduces.fold_fiber_r2_a1 h (ix1 r) _ _ x)), ?_⟩
  have := fold_max_value (fun k : Fin n => (x (ix2 r k) : EReal)) Finset.univ (Ideal.ofBits .f32 0xFF800000#32)
  refine ⟨fun l => this.1 l (Finset.mem_univ l), ?_⟩
  rcases this.2 with h | ⟨l, _, h⟩
  · exact .inl (h.trans ofBits_bot)
  · exact .inr ⟨l, h⟩

/-- A column read over a row. -/
theorem bcast_at {n : ℕ} {α : Type} (x : S8x1.Idx → α) (h : S8x1.Broadcasts (⟨2, ![8, n]⟩ : Shape)) (r : Fin 8) (l : Fin n) :
    broadcastTo (⟨2, ![8, n]⟩ : Shape) x h (ix2 r l) = x (ix2 r 0) :=
  broadcastTo_apply x h _ _ fun a => by
    match a with
    | ⟨0, _⟩ => rfl
    | ⟨1, _⟩ => rfl

/-- The count a lane offers: its own when it holds the row's maximum, else a large one. -/
theorem sel_at {n : ℕ} (p : FVec Ideal (⟨2, ![8, n]⟩ : Shape) .f32 × IVec (⟨2, ![8, n]⟩ : Shape) 32) (t : FVec Ideal S8x1 .f32)
    (h : S8x1.Broadcasts (⟨2, ![8, n]⟩ : Shape)) (r : Fin 8) (l : Fin n) :
    ((t (ix2 r 0) : EReal) ≤ p.1 (ix2 r l) →
      select (cmpf .oge p.1 (broadcastTo (⟨2, ![8, n]⟩ : Shape) t h)) p.2 (broadcast _ 1073741824#32) (ix2 r l) = p.2 (ix2 r l)) ∧
    (¬ (t (ix2 r 0) : EReal) ≤ p.1 (ix2 r l) →
      select (cmpf .oge p.1 (broadcastTo (⟨2, ![8, n]⟩ : Shape) t h)) p.2 (broadcast _ 1073741824#32) (ix2 r l) = 1073741824#32) := by
  have e : select (cmpf .oge p.1 (broadcastTo (⟨2, ![8, n]⟩ : Shape) t h)) p.2 (broadcast _ 1073741824#32) (ix2 r l)
      = Scalar.select (Ideal.cmp .oge (p.1 (ix2 r l)) (broadcastTo (⟨2, ![8, n]⟩ : Shape) t h (ix2 r l))) (p.2 (ix2 r l)) 1073741824#32 := rfl
  rw [e, bcast_at]
  refine ⟨fun hh => ?_, fun hh => ?_⟩
  · simp only [Ideal.cmp, hh, decide_true]; exact select_one ..
  · simp only [Ideal.cmp, hh, decide_false]; exact select_zero ..

/-- The least count a row's lanes offer: at most each of those, and one of them or the start. -/
theorem rowWin {n : ℕ} (p : FVec Ideal (⟨2, ![8, n]⟩ : Shape) .f32 × IVec (⟨2, ![8, n]⟩ : Shape) 32) (t : FVec Ideal S8x1 .f32)
    (hb : S8x1.Broadcasts (⟨2, ![8, n]⟩ : Shape)) (h : (⟨2, ![8, n]⟩ : Shape).Reduces [1] S8) (r : Fin 8) (u : Fin 1) :
    ∃ (m : BitVec 32) (v : Fin n → BitVec 32),
      shapeCast S8x1 (multiReductionI .minsi [1] S8 (select (cmpf .oge p.1 (broadcastTo (⟨2, ![8, n]⟩ : Shape) t hb)) p.2
        (broadcast _ 1073741824#32)) 2147483647#32 h rfl) shapeCasts_S8_S8x1 (ix2 r u) = m
      ∧ (∀ l, (t (ix2 r 0) : EReal) ≤ p.1 (ix2 r l) → v l = p.2 (ix2 r l))
      ∧ (∀ l, ¬ (t (ix2 r 0) : EReal) ≤ p.1 (ix2 r l) → v l = 1073741824#32)
      ∧ (∀ l, m.toInt ≤ (v l).toInt) ∧ (m = 2147483647#32 ∨ ∃ l, m = v l) := by
  refine ⟨_, _, (shapeCast_a_a1_apply _ _ r u).trans ((multiReductionI_eq_fold _ _ _ h _ _).trans
    (Shape.Reduces.fold_fiber_r2_a1 h (ix1 r) _ _ _)), fun l => (sel_at p t hb r l).1, fun l => (sel_at p t hb r l).2, ?_⟩
  have := fold_min_word (fun k : Fin n => select (cmpf .oge p.1 (broadcastTo (⟨2, ![8, n]⟩ : Shape) t hb)) p.2
        (broadcast _ 1073741824#32) (ix2 r k)) Finset.univ 2147483647#32
  refine ⟨fun l => this.1 l (Finset.mem_univ l), ?_⟩
  rcases this.2 with h | ⟨l, _, h⟩
  · exact .inl h
  · exact .inr ⟨l, h⟩

/-- The winner's count of a row is that of the row's pick. -/
theorem win_pick (M : ℕ → Prop) (s : ℕ → ℝ) (a : FVec Ideal S8x2048 .f32 × IVec S8x2048 32)
    (t : FVec Ideal S8x1696 .f32 × IVec S8x1696 32) (r : Fin 8)
    (ha : ∀ l : Fin 2048, Best (seen 48 l.val) M s (fun c => BitVec.ofNat 32 (rowN i r + c)) (a.1 (ix2 r l), a.2 (ix2 r l)))
    (ht : ∀ l : Fin 1696, Best (fun c => c = 98304 + l.val) M s (fun c => BitVec.ofNat 32 (rowN i r + c)) (t.1 (ix2 r l), t.2 (ix2 r l)))
    (hne : ∃ c, c < 100000 ∧ ¬ M c) :
    ∃ c, IsPick 100000 M s c ∧ win a t (ix2 r 0) = BitVec.ofNat 32 (rowN i r + c) := by
  obtain ⟨ma, ea, ha1, ha2⟩ := rowMax a.1 reduces_S8x2048_S8 r 0
  obtain ⟨mt, et, ht1, ht2⟩ := rowMax t.1 reduces_S8x1696_S8 r 0
  have etop : (top a t (ix2 r 0) : EReal) = max ma mt := by rw [← ea, ← et]; rfl
  obtain ⟨wa, va, ewa, hva, hva', hwa1, hwa2⟩ := rowWin a (top a t) broadcasts_S8x1_S8x2048 reduces_S8x2048_S8 r 0
  obtain ⟨wt, vt, ewt, hvt, hvt', hwt1, hwt2⟩ := rowWin t (top a t) broadcasts_S8x1_S8x1696 reduces_S8x1696_S8 r 0
  have ewin : win a t (ix2 r 0) = IntOp.minsi wa wt := by rw [← ewa, ← ewt]; rfl
  rw [ewin]
  have hmin := Idealize.ShloMosaic.SortNet.toInt_minsi wa wt
  rw [etop] at hva hva' hvt hvt'
  refine of_lanes (J := Fin 2048 ⊕ Fin 1696) (rowN_lt i r) (Sum.elim (fun l c => seen 48 l.val c) (fun l c => c = 98304 + l.val))
    (fun c hc => ?_) (fun j c => ?_) (Sum.elim (fun l => (a.1 (ix2 r l), a.2 (ix2 r l))) (fun l => (t.1 (ix2 r l), t.2 (ix2 r l))))
    (fun j => ?_) hne (max ma mt) (fun j => ?_) ?_ _
    (Sum.elim va vt) (fun j h => ?_) (fun j h => ?_) (fun j => ?_) ?_
  · by_cases hl : c < 98304
    · exact ⟨.inl ⟨c % 2048, Nat.mod_lt _ (by omega)⟩, c / 2048, by omega, by show c = c / 2048 * 2048 + c % 2048; omega⟩
    · exact ⟨.inr ⟨c - 98304, by omega⟩, by show c = 98304 + (c - 98304); omega⟩
  · rcases j with l | l
    · rintro ⟨k, hk, rfl⟩; have := l.isLt; omega
    · intro (h : c = 98304 + l.val); have := l.isLt; omega
  · rcases j with l | l
    · exact ha l
    · exact ht l
  · rcases j with l | l
    · exact (ha1 l).trans (le_max_left _ _)
    · exact (ht1 l).trans (le_max_right _ _)
  · rcases max_choice ma mt with h | h <;> rw [h]
    · exact ha2.imp_right fun ⟨l, e⟩ => ⟨.inl l, e.symm⟩
    · exact ht2.imp_right fun ⟨l, e⟩ => ⟨.inr l, e.symm⟩
  · rcases j with l | l
    · exact hva l h
    · exact hvt l h
  · rcases j with l | l
    · exact hva' l h
    · exact hvt' l h
  · rw [hmin]
    rcases j with l | l
    · exact (min_le_left _ _).trans (hwa1 l)
    · exact (min_le_right _ _).trans (hwt1 l)
  · rcases min_choice wa.toInt wt.toInt with h | h
    · rw [BitVec.eq_of_toInt_eq (hmin.trans h)]
      exact hwa2.imp_right fun ⟨l, e⟩ => ⟨.inl l, e⟩
    · rw [BitVec.eq_of_toInt_eq (hmin.trans h)]
      exact hwt2.imp_right fun ⟨l, e⟩ => ⟨.inr l, e⟩

end Cert.KernelIdeal.Own
end
-- ==== Proof.Row.lean ====
/- A row of the result: the target, and three picks, each masked from the draws after it. -/
module

public import proofs.«01_k».proof.Proof.Pick
public import proofs.«01_k».proof.Proof.Gumbel
public import proofs.«01_k».proof.Proof.Threefry

@[expose] public section

noncomputable section

namespace Cert.Pick

open Idealize.ShloMosaic

/-- The score of column `c`: its weight and the noise of its place in the flat array, of which the row starts at `b`. -/
def sc (k0 k1 : BitVec 32) (w : ℕ → ℝ) (b c : ℕ) : ℝ := w c + noise (Cert.Line.tf k0 k1 0#32 (BitVec.ofNat 32 (b + c)))

/-- First draw: the target is masked. -/
def M1 (t : BitVec 32) (c : ℕ) : Prop := c = t.toNat
/-- Second draw: also the first pick. -/
def M2 (t : BitVec 32) (p c : ℕ) : Prop := M1 t c ∨ c = p
/-- Third draw: also the second pick. -/
def M3 (t : BitVec 32) (p q c : ℕ) : Prop := M2 t p c ∨ c = q

/-- `f` is the row of weights `w` that starts at `b` of the flat array, under the three draws' keys. -/
def Row (k : Fin 6 → BitVec 32) (t : BitVec 32) (w : ℕ → ℝ) (b : ℕ) (f : Fin 4 → EReal) : Prop :=
  ∃ p q r : ℕ, IsPick 100000 (M1 t) (sc (k 0) (k 1) w b) p ∧ IsPick 100000 (M2 t p) (sc (k 2) (k 3) w b) q
    ∧ IsPick 100000 (M3 t p q) (sc (k 4) (k 5) w b) r
    ∧ f = ![((t.toInt : ℝ) : EReal), ((p : ℝ) : EReal), ((q : ℝ) : EReal), ((r : ℝ) : EReal)]

/-- There is one such row. -/
theorem Row.unique {k : Fin 6 → BitVec 32} {t : BitVec 32} {w : ℕ → ℝ} {b : ℕ} {f g : Fin 4 → EReal} (hf : Row k t w b f)
    (hg : Row k t w b g) : f = g := by
  obtain ⟨p, q, r, h1, h2, h3, rfl⟩ := hf
  obtain ⟨p', q', r', k1, k2, k3, rfl⟩ := hg
  obtain rfl := h1.unique k1
  obtain rfl := h2.unique k2
  obtain rfl := h3.unique k3
  rfl

/-- Three columns do not exhaust a row. -/
theorem M3_open (t : BitVec 32) (p q : ℕ) : ∃ c, c < 100000 ∧ ¬ M3 t p q c := by
  by_contra h
  simp only [not_exists, not_and, not_not, M3, M2, M1] at h
  have h0 := h 0 (by omega); have h1 := h 1 (by omega); have h2 := h 2 (by omega); have h3 := h 3 (by omega)
  omega

/-- The second mask leaves some column open. -/
theorem M2_open (t : BitVec 32) (p : ℕ) : ∃ c, c < 100000 ∧ ¬ M2 t p c := by
  obtain ⟨c, hc, h⟩ := M3_open t p p
  exact ⟨c, hc, fun h' => h (.inl h')⟩

/-- The first mask leaves some column open. -/
theorem M1_open (t : BitVec 32) : ∃ c, c < 100000 ∧ ¬ M1 t c := by
  obtain ⟨c, hc, h⟩ := M2_open t 0
  exact ⟨c, hc, fun h' => h (.inl h')⟩

/-- The columns of a row are told apart by their words. -/
theorem ofNat_eq_iff {c : ℕ} (hc : c < 100000) (t : BitVec 32) : BitVec.ofNat 32 c = t ↔ c = t.toNat := by
  refine ⟨fun h => ?_, fun h => ?_⟩
  · rw [← h, BitVec.toNat_ofNat]; omega
  · rw [h, BitVec.ofNat_toNat, BitVec.setWidth_eq]

/-- A column's word has the column's signed value. -/
theorem toInt_col {c : ℕ} (hc : c < 100000) : ((BitVec.ofNat 32 c).toInt : ℝ) = (c : ℝ) := by
  rw [toInt_small (by omega)]; norm_cast

end Cert.Pick

end
-- ==== Proof.KernelBlock.lean ====
/- The block a grid point of the kernel leaves: eight rows, each the target and the three picks. -/
module

public import proofs.«01_k».proof.Proof.KernelPick
public import proofs.«01_k».proof.Proof.Row
public import Idealize.ShloMosaic.Lib.WritesUnit

@[expose] public section

set_option maxRecDepth 16384

noncomputable section

namespace Cert.KernelIdeal.Own

open Idealize.ShloMosaic hiding ix0 ix1 ix2
open Idealize.ShloMosaic.ValueIdx
open Cert.KernelIdeal Cert.KernelIdeal.Gen Cert.Pick

/-! ## The masks -/

section Masks

variable (i : grid0.Coords) {n : ℕ} (hb : S8x1.Broadcasts (⟨2, ![8, n]⟩ : Shape)) (cnt : IVec (⟨2, ![8, n]⟩ : Shape) 32)
  (r : Fin 8) (l : Fin n) {c : ℕ} (hc : c < 100000) (hcnt : cnt (ix2 r l) = BitVec.ofNat 32 (rowN i r + c)) (tg : BitVec 32)

/-- The comparison for equality is set exactly when the two words are equal. -/
theorem bit_eq {x y : BitVec 32} : IntOp.cmpi .eq x y = 1#1 ↔ x = y := by
  by_cases h : x = y
  · simp [IntOp.cmpi, h]
  · have e : (x == y) = false := by simpa using h
    simp [IntOp.cmpi, e, h]

/-- The or of two bits is set exactly when one of them is. -/
theorem bit_or (x y : BitVec 1) : IntOp.ori x y = 1#1 ↔ x = 1#1 ∨ y = 1#1 := by
  revert x y; decide

include hc hcnt in
/-- A counter equals the counter of column d of its row exactly when its column is d. -/
theorem eq_count {d : ℕ} (hd : d < 100000) (a : IVec S8x1 32) (ha : a (ix2 r 0) = BitVec.ofNat 32 (rowN i r + d)) :
    cmpi .eq cnt (broadcastTo (⟨2, ![8, n]⟩ : Shape) a hb) (ix2 r l) = 1#1 ↔ c = d := by
  show IntOp.cmpi .eq (cnt (ix2 r l)) (broadcastTo (⟨2, ![8, n]⟩ : Shape) a hb (ix2 r l)) = 1#1 ↔ _
  rw [bcast_at, hcnt, ha, bit_eq]
  have h := rowN_lt i r
  refine ⟨fun e => ?_, fun e => by rw [e]⟩
  have := congrArg BitVec.toNat e
  rw [BitVec.toNat_ofNat, BitVec.toNat_ofNat] at this
  omega

include hc hcnt in
/-- The first mask of a chunk is set at the target column and nowhere else. -/
theorem mk1_at : mk1 hb cnt (tgtC i tg) (ix2 r l) = 1#1 ↔ M1 tg c := by
  show IntOp.cmpi .eq (cnt (ix2 r l)) (broadcastTo (⟨2, ![8, n]⟩ : Shape) (tgtC i tg) hb (ix2 r l)) = 1#1 ↔ _
  rw [bcast_at, hcnt, bit_eq]
  have e : tgtC i tg (ix2 r 0) = BitVec.ofNat 32 (rowN i r) + tg := by
    show IntOp.addi (row1 i (ix2 r 0)) tg = _
    rw [row1_at]; rfl
  rw [e, BitVec.ofNat_add, BitVec.add_right_inj, ofNat_eq_iff hc]
  rfl

include hc hcnt in
/-- The second mask of a chunk is set at the target and at the first pick. -/
theorem mk2_at {d : ℕ} (hd : d < 100000) (a : IVec S8x1 32) (ha : a (ix2 r 0) = BitVec.ofNat 32 (rowN i r + d)) :
    mk2 hb cnt (tgtC i tg) a (ix2 r l) = 1#1 ↔ M2 tg d c := by
  show IntOp.ori (mk1 hb cnt (tgtC i tg) (ix2 r l)) _ = 1#1 ↔ _
  rw [bit_or, mk1_at i hb cnt r l hc hcnt]
  exact or_congr_right (eq_count i hb cnt r l hc hcnt hd a ha)

include hc hcnt in
/-- The third mask of a chunk is set at the target and at the first two picks. -/
theorem mk3_at {d e : ℕ} (hd : d < 100000) (he : e < 100000) (a b : IVec S8x1 32)
    (ha : a (ix2 r 0) = BitVec.ofNat 32 (rowN i r + d)) (hbb : b (ix2 r 0) = BitVec.ofNat 32 (rowN i r + e)) :
    mk3 hb cnt (tgtC i tg) a b (ix2 r l) = 1#1 ↔ M3 tg d e c := by
  show IntOp.ori (mk2 hb cnt (tgtC i tg) a (ix2 r l)) _ = 1#1 ↔ _
  rw [bit_or, mk2_at i hb cnt r l hc hcnt tg hd a ha]
  exact or_congr_right (eq_count i hb cnt r l hc hcnt he b hbb)

/-- A winner's column as a number. -/
theorem colOf_at (w : IVec S8x1 32) {d : ℕ} (hd : d < 100000) (hw : w (ix2 r 0) = BitVec.ofNat 32 (rowN i r + d)) :
    (colOf (F := Ideal) i w (ix2 r 0) : EReal) = ((d : ℝ) : EReal) := by
  have h1 : shapeCast S8 (subi w (row1 i)) shapeCasts_S8x1_S8 (ix1 r) = BitVec.ofNat 32 d := by
    rw [shapeCast_apply _ _ (ix1 r) (ix2 r (0 : Fin 1)) (by
      rw [Shape.rowMajor_val_two, Shape.rowMajor_val_one]
      show r.val * 1 + 0 = r.val
      omega)]
    show IntOp.subi (w (ix2 r 0)) (row1 i (ix2 r 0)) = _
    rw [hw, row1_at, BitVec.ofNat_add]
    show BitVec.ofNat 32 (rowN i r) + BitVec.ofNat 32 d - BitVec.ofNat 32 (rowN i r) = _
    rw [BitVec.add_comm, BitVec.add_sub_cancel]
  unfold colOf
  rw [shapeCast_a_a1_apply]
  show (((shapeCast S8 (subi w (row1 i)) shapeCasts_S8x1_S8 (ix1 r)).toInt : ℝ) : EReal) = _
  rw [h1, toInt_col hd]

end Masks

/-! ## The block -/

section Block

variable (c : Dev nD) (i : grid0.Coords) (arg3 : Memref sig .tc .vmem S8x100000 .f32) (harg3 : arg3.IsWhole)
  (arg4 : Memref sig .tc .vmem S8x4 .f32) (harg4 : arg4.IsWhole)
  (x0 : Vec Ideal S8x100000 .f32) (xt0 : TbBuf0 (F := Ideal) c tbM0_0) (xt1 : TbBuf0 (F := Ideal) c tbM0_1)

/-- A chunk of the loop holds the weights of its columns. -/
theorem chunk_at (k : Fin 48) (r : Fin 8) (l : Fin 2048) :
    chunk arg3 harg3 x0 k (ix2 r l) = x0 (ix2 r (⟨k.val * 2048 + l.val, by have := k.isLt; have := l.isLt; omega⟩ : Fin 100000)) := by
  unfold chunk
  rw [View.readAt_apply, harg3.read_unread]
  refine congrArg x0 (funext fun a => Fin.ext ?_)
  have h := k0_off1_eq k
  match a with
  | ⟨0, _⟩ =>
    show k0_off1 k 0 + 1 * r.val = r.val
    rw [h]; show 0 + 1 * r.val = r.val; omega
  | ⟨1, _⟩ =>
    show k0_off1 k 1 + 1 * l.val = k.val * 2048 + l.val
    rw [h]; show 2048 * k.val + 1 * l.val = _; omega

/-- The last, narrower chunk holds the weights of its columns. -/
theorem chunkT_at (r : Fin 8) (l : Fin 1696) :
    chunkT arg3 harg3 x0 (ix2 r l) = x0 (ix2 r (⟨98304 + l.val, by have := l.isLt; omega⟩ : Fin 100000)) := by
  unfold chunkT
  rw [View.readAt_apply, harg3.read_unread]
  refine congrArg x0 (funext fun a => Fin.ext ?_)
  match a with
  | ⟨0, _⟩ => show 0 + 1 * r.val = r.val; omega
  | ⟨1, _⟩ => show 98304 + 1 * l.val = 98304 + l.val; omega

variable (w : Fin 8 → ℕ → ℝ) (hw : ∀ r (d : Fin 100000), x0 (ix2 r d) = ((w r d.val : ℝ) : EReal))

/-- One draw: from the scan's and the tail's masks to the pick. -/
theorem draw (k0 k1 : BitVec 32) (M : Fin 8 → ℕ → Prop) (mk : Fin 48 → IVec S8x2048 1) (mkT : IVec S8x1696 1)
    (hmk : ∀ k r (l : Fin 2048), mk k (ix2 r l) = 1#1 ↔ M r (k.val * 2048 + l.val))
    (hmkT : ∀ r (l : Fin 1696), mkT (ix2 r l) = 1#1 ↔ M r (98304 + l.val))
    (st : ℕ → FVec Ideal S8x2048 .f32 × IVec S8x2048 32) (h0 : st 0 = start S8x2048)
    (hs : ∀ k : Fin 48, st (k.val + 1)
      = vscan k0 k1 (kx k0 k1) (chunk arg3 harg3 x0 k) (cntM i (base k)) (mk k) (st k.val))
    (hw : ∀ r (d : Fin 100000), x0 (ix2 r d) = ((w r d.val : ℝ) : EReal)) (r : Fin 8) (hne : ∃ c, c < 100000 ∧ ¬ M r c) :
    ∃ d, IsPick 100000 (M r) (sc k0 k1 (w r) (rowN i r)) d ∧
      win (st 48) (vscan k0 k1 (kx k0 k1) (chunkT arg3 harg3 x0) (cntT i) mkT (start S8x1696)) (ix2 r 0)
        = BitVec.ofNat 32 (rowN i r + d) :=
  win_pick i (M r) (sc k0 k1 (w r) (rowN i r)) _ _ r
    (fun l => scan_best i k0 k1 M w _ (fun k r l => (chunk_at arg3 harg3 x0 k r l).trans (hw r _)) mk hmk st h0 hs r l 48 le_rfl)
    (fun l => tail_best i k0 k1 M w _ (fun r l => (chunkT_at arg3 harg3 x0 r l).trans (hw r _)) mkT hmkT r l) hne

/-- The block after the body's stores. -/
def block : Vec Ideal S8x4 .f32 :=
  VO0_1.read (Elt Ideal) (VO0_1.writes (Elt Ideal) VO0_1.junk (kernelRun0_A (F := Ideal) c i arg3 harg3 arg4 harg4 x0 xt0 xt1).1)

/-- The keys of the three draws. -/
def keys : Fin 6 → BitVec 32 :=
  ![kw0 (F := Ideal) c xt1, kw1 (F := Ideal) c xt1, kw2 (F := Ideal) c xt1, kw3 (F := Ideal) c xt1, kw4 (F := Ideal) c xt1,
    kw5 (F := Ideal) c xt1]

include hw in
/-- Every row of the block is the row the specification asks for. -/
theorem block_row (r : Fin 8) :
    Row (keys c xt1) (tw (F := Ideal) c xt0) (w r) (rowN i r) (fun q => block c i arg3 harg3 arg4 harg4 x0 xt0 xt1 (ix2 r q)) := by
  have cM : ∀ (k : Fin 48) (r : Fin 8) (l : Fin 2048), _ := fun k r l => cntM_at i k r l
  have lM : ∀ (k : Fin 48) (l : Fin 2048), k.val * 2048 + l.val < 100000 := fun k l => by
    have := k.isLt; have := l.isLt; omega
  have lT : ∀ l : Fin 1696, 98304 + l.val < 100000 := fun l => by have := l.isLt; omega
  have h1 : ∀ r, ∃ d, IsPick 100000 (M1 (tw c xt0)) (sc (kw0 c xt1) (kw1 c xt1) (w r) (rowN i r)) d ∧
      win1 c i arg3 harg3 arg4 harg4 x0 xt0 xt1 (ix2 r 0) = BitVec.ofNat 32 (rowN i r + d) := fun r => by
    rw [win1_eq]
    exact draw i arg3 harg3 x0 w _ _ (fun _ => M1 (tw c xt0)) _ _
      (fun k r l => mk1_at i _ _ r l (lM k l) (cM k r l) _) (fun r l => mk1_at i _ _ r l (lT l) (cntT_at i r l) _)
      (sc1 c i arg3 harg3 arg4 harg4 x0 xt0 xt1) (sc1_zero ..) (sc1_succ c i arg3 harg3 arg4 harg4 x0 xt0 xt1) hw r (M1_open _)
  choose p hp ep using h1
  have h2 : ∀ r, ∃ d, IsPick 100000 (M2 (tw c xt0) (p r)) (sc (kw2 c xt1) (kw3 c xt1) (w r) (rowN i r)) d ∧
      win2 c i arg3 harg3 arg4 harg4 x0 xt0 xt1 (ix2 r 0) = BitVec.ofNat 32 (rowN i r + d) := fun r => by
    rw [win2_eq]
    exact draw i arg3 harg3 x0 w _ _ (fun r => M2 (tw c xt0) (p r)) _ _
      (fun k r l => mk2_at i _ _ r l (lM k l) (cM k r l) _ (hp r).1 _ (ep r))
      (fun r l => mk2_at i _ _ r l (lT l) (cntT_at i r l) _ (hp r).1 _ (ep r))
      (sc2 c i arg3 harg3 arg4 harg4 x0 xt0 xt1) (sc2_zero ..) (sc2_succ c i arg3 harg3 arg4 harg4 x0 xt0 xt1) hw r (M2_open _ _)
  choose q hq eq using h2
  have h3 : ∀ r, ∃ d, IsPick 100000 (M3 (tw c xt0) (p r) (q r)) (sc (kw4 c xt1) (kw5 c xt1) (w r) (rowN i r)) d ∧
      win3 c i arg3 harg3 arg4 harg4 x0 xt0 xt1 (ix2 r 0) = BitVec.ofNat 32 (rowN i r + d) := fun r => by
    rw [win3_eq]
    exact draw i arg3 harg3 x0 w _ _ (fun r => M3 (tw c xt0) (p r) (q r)) _ _
      (fun k r l => mk3_at i _ _ r l (lM k l) (cM k r l) _ (hp r).1 (hq r).1 _ _ (ep r) (eq r))
      (fun r l => mk3_at i _ _ r l (lT l) (cntT_at i r l) _ (hp r).1 (hq r).1 _ _ (ep r) (eq r))
      (sc3 c i arg3 harg3 arg4 harg4 x0 xt0 xt1) (sc3_zero ..) (sc3_succ c i arg3 harg3 arg4 harg4 x0 xt0 xt1) hw r (M3_open _ _ _)
  obtain ⟨s, hs, es⟩ := h3 r
  refine ⟨p r, q r, s, hp r, hq r, hs, ?_⟩
  have off : ∀ (o : ℕ) (b : Fin 4), b.val ≠ o → b.val < o ∨ o + 1 ≤ b.val := fun o b h => by omega
  have hit : ∀ (o : ℕ) (b : Fin 4), b.val = o → ∀ a : Fin 2,
      ((ix2 r b : S8x4.Idx) a).val = (![0, o] : Fin 2 → ℕ) a + ((ix2 r (0 : Fin 1) : S8x1.Idx) a).val := fun o b h a => by
    match a with
    | ⟨0, _⟩ => exact (Nat.zero_add _).symm
    | ⟨1, _⟩ => exact h
  funext b
  unfold block
  rw [stores_eq]
  match b with
  | ⟨3, hb⟩ =>
    refine (View.read_writes_cons_unit_of_mem VO0_1 _ _ _ _ (ix2 r ⟨3, hb⟩) (ix2 r (0 : Fin 1)) rfl (hit 3 ⟨3, hb⟩ rfl)).trans ?_
    exact colOf_at i r _ hs.1 es
  | ⟨2, hb⟩ =>
    refine (View.read_writes_cons_unit_of_not_mem VO0_1 _ _ _ _ (ix2 r ⟨2, hb⟩) rfl 1 (off 3 ⟨2, hb⟩ (by simp))).trans ?_
    refine (View.read_writes_cons_unit_of_mem VO0_1 _ _ _ _ (ix2 r ⟨2, hb⟩) (ix2 r (0 : Fin 1)) rfl (hit 2 ⟨2, hb⟩ rfl)).trans ?_
    exact colOf_at i r _ (hq r).1 (eq r)
  | ⟨1, hb⟩ =>
    refine (View.read_writes_cons_unit_of_not_mem VO0_1 _ _ _ _ (ix2 r ⟨1, hb⟩) rfl 1 (off 3 ⟨1, hb⟩ (by simp))).trans ?_
    refine (View.read_writes_cons_unit_of_not_mem VO0_1 _ _ _ _ (ix2 r ⟨1, hb⟩) rfl 1 (off 2 ⟨1, hb⟩ (by simp))).trans ?_
    refine (View.read_writes_cons_unit_of_mem VO0_1 _ _ _ _ (ix2 r ⟨1, hb⟩) (ix2 r (0 : Fin 1)) rfl (hit 1 ⟨1, hb⟩ rfl)).trans ?_
    exact colOf_at i r _ (hp r).1 (ep r)
  | ⟨0, hb⟩ =>
    refine (View.read_writes_cons_unit_of_not_mem VO0_1 _ _ _ _ (ix2 r ⟨0, hb⟩) rfl 1 (off 3 ⟨0, hb⟩ (by simp))).trans ?_
    refine (View.read_writes_cons_unit_of_not_mem VO0_1 _ _ _ _ (ix2 r ⟨0, hb⟩) rfl 1 (off 2 ⟨0, hb⟩ (by simp))).trans ?_
    refine (View.read_writes_cons_unit_of_not_mem VO0_1 _ _ _ _ (ix2 r ⟨0, hb⟩) rfl 1 (off 1 ⟨0, hb⟩ (by simp))).trans ?_
    refine (View.read_writes_cons_unit_of_mem VO0_1 _ _ _ _ (ix2 r ⟨0, hb⟩) (ix2 r (0 : Fin 1)) rfl (hit 0 ⟨0, hb⟩ rfl)).trans ?_
    exact shapeCast_a_a1_apply _ _ r 0

end Block

end Cert.KernelIdeal.Own
end
-- ==== Proof.KernelArray.lean ====
/- The kernel's whole result array: every row is the row the specification asks for. -/
module

public import proofs.«01_k».proof.Proof.KernelBlock
public import proofs.«01_k».proof.Proof.KernelIdealFrame
public import Idealize.ShloMosaic.Lib.Pipeline.Value

@[expose] public section

set_option maxRecDepth 16384

noncomputable section

namespace Cert.KernelIdeal.Own

open Idealize.ShloMosaic hiding ix0 ix1 ix2
open Idealize.ShloMosaic.ValueIdx
open Idealize.ShloMosaic.Pipeline
open Cert.KernelIdeal Cert.KernelIdeal.Gen Cert.Pick

variable (m : (l : Loc nD τ sig) → Buf (Elt Ideal) l) (hO : Ok m) (c : Dev nD)

/-- The one grid coordinate of a point is its number. -/
theorem coords_val (t : Fin (cfgM m hO).N) : (grid0.coords t 0).val = t.val := by
  have h : ∀ t : Fin grid0.N, (grid0.coords t 0).val = t.val := by decide
  exact h t

/-- The block indices of a point's windows: its number on the rows, zero on the columns. -/
theorem index_row (i : grid0.Coords) : cc0_transform_1 i 0 = (i 0).val := by
  have h : ∀ k : Fin 16, (BitVec.ofNat 32 k.val).toNat = k.val := by decide
  exact h (i 0)

/-- The row of the result a place of an output block is at. -/
theorem out_row (t : Fin (cfgM m hO).N) (j : S8x4.Idx) :
    ((((cfgM m hO).win 1).blk t).view.emb j (0 : Fin 2)).val = t.val * 8 + (j 0).val := by
  show cc0_transform_1 (grid0.coords t) 0 * 8 + 1 * (j 0).val = _
  rw [index_row, coords_val m hO]; omega

/-- The column of the result a place of an output block is at. -/
theorem out_col (t : Fin (cfgM m hO).N) (j : S8x4.Idx) :
    ((((cfgM m hO).win 1).blk t).view.emb j (1 : Fin 2)).val = (j 1).val := by
  show 0 * 4 + 1 * (j 1).val = _
  omega

/-- A place of an input block holds the weight at its row and column. -/
theorem in_at (t : Fin (cfgM m hO).N) (r : Fin 8) (d : Fin 100000) (h : t.val * 8 + r.val < 128) :
    iblk m hO c 0 t (ix2 r d) = m ((c.tc : Thread nD τ).loc main_arg0) (ix2 ⟨t.val * 8 + r.val, h⟩ d) := by
  rw [← V_main_arg0 m c]
  show V m c main_arg0 ((((cfgM m hO).win 0).blk t).view.emb (ix2 r d)) = _
  refine congrArg (V m c main_arg0) ?_
  funext a
  refine Fin.ext ?_
  match a with
  | ⟨0, _⟩ =>
    show cc0_transform_0 (grid0.coords t) 0 * 8 + 1 * r.val = t.val * 8 + r.val
    have := (index_row (grid0.coords t)).trans (coords_val m hO t)
    rw [show cc0_transform_0 (grid0.coords t) 0 = t.val from this]; omega
  | ⟨1, _⟩ => show 0 * 100000 + 1 * d.val = d.val; omega

/-- The point whose block holds a row. -/
def pt (R : Fin 128) : Fin (cfgM m hO).N := ⟨R.val / 8, show R.val / 8 < 16 by have := R.isLt; omega⟩

/-- The whole result array, block by block. -/
def whole : Buf (Elt Ideal) ((c.tc : Thread nD τ).loc main_v13) := fun i : S128x4.Idx =>
  outsAt0 m hO c (pt m hO (i 0)) (ix2 (⟨(i 0).val % 8, Nat.mod_lt _ (by decide)⟩ : Fin 8) (i 1 : Fin 4))

/-- Each block of the whole result is what its grid point wrote. -/
theorem cut_eq (t : Fin (cfgM m hO).N) (j : S8x4.Idx) :
    outsAt0 m hO c t j = whole m hO c ((((cfgM m hO).win 1).blk t).view.emb j) := by
  have h0 := out_row m hO t j
  have h1 := out_col m hO t j
  have hj : (j 0 : Fin 8).val < 8 := (j 0 : Fin 8).isLt
  have ht : pt m hO ((((cfgM m hO).win 1).blk t).view.emb j (0 : Fin 2)) = t :=
    Fin.ext (by show _ / 8 = _; omega)
  unfold whole
  rw [ht]
  refine congrArg (outsAt0 m hO c t) ?_
  funext a
  match a with
  | ⟨0, _⟩ => exact Fin.ext (by show (j 0).val = _ % 8; omega)
  | ⟨1, _⟩ => exact Fin.ext h1.symm

/-- What a point writes back is its block of the whole array. -/
theorem flushed_eq (t : Fin (cfgM m hO).N) :
    (dats m hO 0 c).flushed 1 t = (((cfgM m hO).win 1).blk t).view.read (Elt Ideal) (whole m hO c) := by
  show ((cfgM m hO).win 1).cut (grid0.coords t) ((dats m hO 0 c).after 1 t) = _
  rw [after0_1]
  funext j
  exact cut_eq m hO c t j

/-- Every place of the result lies in the block of some grid point. -/
theorem covered (i : S128x4.Idx) :
    ∃ t : Fin (cfgM m hO).N, ((cfgM m hO).win 1).flush t = true ∧ i ∈ (((cfgM m hO).win 1).blk t).view.set := by
  refine ⟨pt m hO (i 0), flush0_1 _ _, ?_⟩
  have h := (((cfgM m hO).win 1).blk (pt m hO (i 0))).view.emb_mem_set
    (ix2 (⟨(i 0).val % 8, Nat.mod_lt _ (by decide)⟩ : Fin 8) (i 1 : Fin 4))
  have e : (((cfgM m hO).win 1).blk (pt m hO (i 0))).view.emb
      (ix2 (⟨(i 0).val % 8, Nat.mod_lt _ (by decide)⟩ : Fin 8) (i 1 : Fin 4)) = i := by
    funext a
    refine Fin.ext ?_
    match a with
    | ⟨0, _⟩ =>
      refine (out_row m hO _ _).trans ?_
      show (i 0).val / 8 * 8 + (i 0).val % 8 = (i 0).val
      omega
    | ⟨1, _⟩ => exact out_col m hO _ _
  rwa [e] at h

/-- The result array after the run. -/
theorem arr_eq : (dats m hO 0 c).arrAt 1 (cfgM m hO).N = whole m hO c :=
  (dats m hO 0 c).arrAt_eq_of_cover 1 (whole m hO c) (fun t _ => flushed_eq m hO c t) (covered m hO)

/-- Every row of the result array is the row the specification asks for. -/
theorem whole_row (w : Fin 128 → ℕ → ℝ)
    (hw : ∀ (r : Fin 128) (d : Fin 100000), m ((c.tc : Thread nD τ).loc main_arg0) (ix2 r d) = ((w r d.val : ℝ) : EReal))
    (R : Fin 128) :
    Row (keys c (tbl m 1)) (tw (F := Ideal) c (tbl m 0)) (w R) (R.val * 100000) (fun q => whole m hO c (ix2 R q)) := by
  have hR := R.isLt
  have hb : ∀ r : Fin 8, (pt m hO R).val * 8 + r.val < 128 := fun r => by
    have := r.isLt; show R.val / 8 * 8 + r.val < 128; omega
  have h := block_row c (grid0.coords (pt m hO R)) (ms0_0 m hO (pt m hO R)) (hs0_0 m hO (pt m hO R))
    (ms0_1 m hO (pt m hO R)) (hs0_1 m hO (pt m hO R)) (iblk m hO c 0 (pt m hO R)) (tbl m 0) (tbl m 1)
    (fun r d => w ⟨_, hb r⟩ d) (fun r d => (in_at m hO c _ r d (hb r)).trans (hw _ d))
    (⟨R.val % 8, Nat.mod_lt _ (by decide)⟩ : Fin 8)
  have e1 : (⟨(pt m hO R).val * 8 + R.val % 8, hb ⟨R.val % 8, Nat.mod_lt _ (by decide)⟩⟩ : Fin 128) = R :=
    Fin.ext (by show R.val / 8 * 8 + R.val % 8 = R.val; omega)
  have e2 : rowN (grid0.coords (pt m hO R)) (⟨R.val % 8, Nat.mod_lt _ (by decide)⟩ : Fin 8) = R.val * 100000 := by
    show ((grid0.coords (pt m hO R) 0).val * 8 + R.val % 8) * 100000 = _
    rw [coords_val m hO]
    show (R.val / 8 * 8 + R.val % 8) * 100000 = _
    congr 1; omega
  simp only [e1, e2] at h
  exact h

variable (ρ : Dev nD → PrngReg)

/-- The run with the result array, and the arguments unchanged. -/
theorem run_whole : θ_run defs (onTc (τ := τ) (main (F := Ideal))) ⟨m, fun _ => 0, ρ⟩ (fun r => ∀ c : Dev nD,
      r.2.mem ((c.tc : Thread nD τ).loc main_v13) = whole m hO c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 1).trans (arr_eq m hO c), h.2 c⟩)
    (θ_run_and (run_main m ρ hO) (unchanged m ρ hO))

end Cert.KernelIdeal.Own

end
-- ==== Proof.Keys.lean ====
/- The keys of the draws: the seed, and the seed with each draw's number folded in. -/
module

public import proofs.«01_k».proof.Proof.Threefry

@[expose] public section

noncomputable section

namespace Cert.Line

open Idealize.ShloMosaic Idealize.ShloMosaic.StableHlo Idealize.ShloMosaic.ValueIdx

variable (hb : Z0.BroadcastsInDim Z1 ![]) (hc : Shape.Concatenates [Z1, Z1] Z2 0) (hs0 : Z2.Slices ![0] Z1)
  (hs1 : Z2.Slices ![1] Z1) (hr : Z1.ShapeCasts Z0)

/-- The key made from the seed. -/
def seed : Z2.Idx → BitVec 32 :=
  concatenate Z2 0 [⟨Z1, broadcastInDim Z1 ![] hb (Host.shrui (constantI Z0 32 42#32) (constantI Z0 32 32#32))⟩,
    ⟨Z1, broadcastInDim Z1 ![] hb (andi (constantI Z0 32 42#32) (constantI Z0 32 4294967295#32))⟩] hc

/-- The key of draw `d`. -/
def drawKey (d : BitVec 32) : Z2.Idx → BitVec 32 := foldIn hb hc hs0 hs1 hr (seed hb hc) (constantI Z0 32 d)

/-- The six key words of the three draws. -/
def words : Fin 6 → BitVec 32 :=
  ![drawKey hb hc hs0 hs1 hr 0#32 (ix1 0), drawKey hb hc hs0 hs1 hr 0#32 (ix1 1),
    drawKey hb hc hs0 hs1 hr 1#32 (ix1 0), drawKey hb hc hs0 hs1 hr 1#32 (ix1 1),
    drawKey hb hc hs0 hs1 hr 2#32 (ix1 0), drawKey hb hc hs0 hs1 hr 2#32 (ix1 1)]

end Cert.Line

end
-- ==== Proof.KernelHost.lean ====
/- The tables the kernel's host operations prepare: the target and the six key words. -/
module

public import proofs.«01_k».proof.Proof.Keys
public import proofs.«01_k».proof.Proof.KernelBlock
public import Idealize.ShloMosaic.Lib.Pipeline.Regions
public import Idealize.ShloMosaic.Lib.Pipeline.Value

@[expose] public section

set_option maxRecDepth 16384

noncomputable section

namespace Cert.KernelIdeal.Own

open Idealize.ShloMosaic hiding ix0 ix1 ix2
open Idealize.ShloMosaic.StableHlo Idealize.SL.Sem Cert.Line
open Idealize.ShloMosaic.ValueIdx (ix0 ix1 ix2)
open Cert.KernelIdeal Cert.KernelIdeal.Gen

section Any

variable {F : FTy → Type} [FloatOps F]

/-- The cipher's buffers of a call on one word, in the order of its operations. -/
def tfB (φ : fn_threefry2x32.Bufs) : Tf sig S1 :=
  ⟨φ.v0, φ.c, φ.v1, φ.v2, φ.v3, φ.v4, φ.v5,
   ⟨⟨φ.v6, φ.c_0, φ.v7, φ.v8, φ.c_1, φ.v9, φ.v10, φ.v11, φ.v12⟩,
    ⟨φ.v13, φ.c_2, φ.v14, φ.v15, φ.c_3, φ.v16, φ.v17, φ.v18, φ.v19⟩,
    ⟨φ.v20, φ.c_4, φ.v21, φ.v22, φ.c_5, φ.v23, φ.v24, φ.v25, φ.v26⟩,
    ⟨φ.v27, φ.c_6, φ.v28, φ.v29, φ.c_7, φ.v30, φ.v31, φ.v32, φ.v33⟩,
    φ.v34, φ.v35, φ.v36, φ.v37, φ.c_8, φ.v38, φ.v39⟩,
   ⟨⟨φ.v40, φ.c_9, φ.v41, φ.v42, φ.c_10, φ.v43, φ.v44, φ.v45, φ.v46⟩,
    ⟨φ.v47, φ.c_11, φ.v48, φ.v49, φ.c_12, φ.v50, φ.v51, φ.v52, φ.v53⟩,
    ⟨φ.v54, φ.c_13, φ.v55, φ.v56, φ.c_14, φ.v57, φ.v58, φ.v59, φ.v60⟩,
    ⟨φ.v61, φ.c_15, φ.v62, φ.v63, φ.c_16, φ.v64, φ.v65, φ.v66, φ.v67⟩,
    φ.v68, φ.v69, φ.v70, φ.v71, φ.c_17, φ.v72, φ.v73⟩,
   ⟨⟨φ.v74, φ.c_18, φ.v75, φ.v76, φ.c_19, φ.v77, φ.v78, φ.v79, φ.v80⟩,
    ⟨φ.v81, φ.c_20, φ.v82, φ.v83, φ.c_21, φ.v84, φ.v85, φ.v86, φ.v87⟩,
    ⟨φ.v88, φ.c_22, φ.v89, φ.v90, φ.c_23, φ.v91, φ.v92, φ.v93, φ.v94⟩,
    ⟨φ.v95, φ.c_24, φ.v96, φ.v97, φ.c_25, φ.v98, φ.v99, φ.v100, φ.v101⟩,
    φ.v102, φ.v103, φ.v104, φ.v105, φ.c_26, φ.v106, φ.v107⟩,
   ⟨⟨φ.v108, φ.c_27, φ.v109, φ.v110, φ.c_28, φ.v111, φ.v112, φ.v113, φ.v114⟩,
    ⟨φ.v115, φ.c_29, φ.v116, φ.v117, φ.c_30, φ.v118, φ.v119, φ.v120, φ.v121⟩,
    ⟨φ.v122, φ.c_31, φ.v123, φ.v124, φ.c_32, φ.v125, φ.v126, φ.v127, φ.v128⟩,
    ⟨φ.v129, φ.c_33, φ.v130, φ.v131, φ.c_34, φ.v132, φ.v133, φ.v134, φ.v135⟩,
    φ.v136, φ.v137, φ.v138, φ.v139, φ.c_35, φ.v140, φ.v141⟩,
   ⟨⟨φ.v142, φ.c_36, φ.v143, φ.v144, φ.c_37, φ.v145, φ.v146, φ.v147, φ.v148⟩,
    ⟨φ.v149, φ.c_38, φ.v150, φ.v151, φ.c_39, φ.v152, φ.v153, φ.v154, φ.v155⟩,
    ⟨φ.v156, φ.c_40, φ.v157, φ.v158, φ.c_41, φ.v159, φ.v160, φ.v161, φ.v162⟩,
    ⟨φ.v163, φ.c_42, φ.v164, φ.v165, φ.c_43, φ.v166, φ.v167, φ.v168, φ.v169⟩,
    φ.v170, φ.v171, φ.v172, φ.v173, φ.c_44, φ.v174, φ.v175⟩⟩

/-- The buffers of a folding call. -/
def foldB (φ : fn_threefry_fold_in.Bufs) : Fold sig :=
  ⟨φ.c, φ.v0, φ.v1, φ.c_0, φ.v2, φ.v3, φ.v4, φ.v5, φ.v6, φ.v7, φ.v8, φ.v9, φ.v10, tfB φ.call0, φ.v12⟩

/-- A folding call's operations. -/
abbrev foldL (a0 : RS sig S2) (a1 : R0 sig) (φ : Fold sig) : List (Step τ sig (Elt F)) :=
  foldSteps bcast_S_S1 concatenates_S1_S1_S2_d0 slices_S2_S1_0 slices_S2_S1_1 shapeCasts_S1_S_ a0 a1 φ

/-- The operations that make the seed's key. -/
def hostPre : List (Step τ sig (Elt F)) :=
  [ nul (.of main_c : TRef sig ⟨S_, .i32⟩) (constantI S_ 32 42#32),
    nul (.of main_c_0 : TRef sig ⟨S_, .i32⟩) (constantI S_ 32 32#32),
    bin (.of main_c : TRef sig ⟨S_, .i32⟩) (.of main_c_0 : TRef sig ⟨S_, .i32⟩) (.of main_v0 : TRef sig ⟨S_, .i32⟩) Host.shrui,
    un (.of main_v0 : TRef sig ⟨S_, .i32⟩) (.of main_v1 : TRef sig ⟨S_, .i32⟩) id,
    un (.of main_v1 : TRef sig ⟨S_, .i32⟩) (.of main_v2 : TRef sig ⟨S1, .i32⟩) (broadcastInDim S1 ![] bcast_S_S1),
    nul (.of main_c_1 : TRef sig ⟨S_, .i32⟩) (constantI S_ 32 4294967295#32),
    bin (.of main_c : TRef sig ⟨S_, .i32⟩) (.of main_c_1 : TRef sig ⟨S_, .i32⟩) (.of main_v3 : TRef sig ⟨S_, .i32⟩) andi,
    un (.of main_v3 : TRef sig ⟨S_, .i32⟩) (.of main_v4 : TRef sig ⟨S_, .i32⟩) id,
    un (.of main_v4 : TRef sig ⟨S_, .i32⟩) (.of main_v5 : TRef sig ⟨S1, .i32⟩) (broadcastInDim S1 ![] bcast_S_S1),
    bin (.of main_v2 : TRef sig ⟨S1, .i32⟩) (.of main_v5 : TRef sig ⟨S1, .i32⟩) (.of main_v6 : TRef sig ⟨S2, .i32⟩) (fun a b => concatenate S2 0 [⟨S1, a⟩, ⟨S1, b⟩] concatenates_S1_S1_S2_d0),
    nul (.of main_c_2 : TRef sig ⟨S_, .i32⟩) (constantI S_ 32 0#32) ]

/-- The operations that make the three keys. -/
def hostL : List (Step τ sig (Elt F)) := hostPre ++ (
  foldL (.of main_v6 : TRef sig ⟨S2, .i32⟩) (.of main_c_2 : TRef sig ⟨S_, .i32⟩) (foldB main_call0) ++ (
  [ nul (.of main_c_3 : TRef sig ⟨S_, .i32⟩) (constantI S_ 32 1#32) ] ++ (
  foldL (.of main_v6 : TRef sig ⟨S2, .i32⟩) (.of main_c_3 : TRef sig ⟨S_, .i32⟩) (foldB main_call1) ++ (
  [ nul (.of main_c_4 : TRef sig ⟨S_, .i32⟩) (constantI S_ 32 2#32) ] ++
  foldL (.of main_v6 : TRef sig ⟨S2, .i32⟩) (.of main_c_4 : TRef sig ⟨S_, .i32⟩) (foldB main_call2)))))

/-- The order in which the host's buffers are written. -/
def key (r : Ref sig .tc) : Nat := r.idx.val

/-- The line writes its buffers in order, each after what it reads. -/
theorem hostL_chk : chk key 2 (hostL (F := F)) = true := by
  chain_rfl

/-- The host's operations are the line and three more. -/
theorem host_eq : List.flatten [hostOps0, hostOps0_1, hostOps0_2, hostOps0_3, hostOps0_4, hostOps0_5, hostOps0_6]
    = ops (hostL (F := F)) ++ hostOps0_6 := by
  chain_rfl

variable (m : (l : Loc nD τ sig) → Buf (Elt F) l) (c : Dev nD)

/-- What the three keys' operations leave. -/
abbrev W : Valuation τ sig (Elt F) := after (ops (hostL (F := F))) (fun b => m (c, b))

/-- The two words of a key folded with a number, read from the steps that compute them. -/
theorem key_at (d : BitVec 32) {W : Valuation τ sig (Elt F)} {k : RS sig S2} {n : R0 sig} {φ : Fold sig}
    (hk : get W k = seed bcast_S_S1 concatenates_S1_S1_S2_d0) (hn : get W n = constantI S_ 32 d) (e : Eqs (foldL k n φ) W) :
    get W φ.v12 = drawKey bcast_S_S1 concatenates_S1_S1_S2_d0 slices_S2_S1_0 slices_S2_S1_1 shapeCasts_S1_S_ d := by
  have h := fold_of _ _ _ _ _ e
  rw [hk, hn] at h
  exact h

/-- The three keys. -/
theorem keys_eq :
    get (W m c) (.of main_v7 : RS sig S2) = drawKey bcast_S_S1 concatenates_S1_S1_S2_d0 slices_S2_S1_0 slices_S2_S1_1 shapeCasts_S1_S_ 0#32
    ∧ get (W m c) (.of main_v8 : RS sig S2) = drawKey bcast_S_S1 concatenates_S1_S1_S2_d0 slices_S2_S1_0 slices_S2_S1_1 shapeCasts_S1_S_ 1#32
    ∧ get (W m c) (.of main_v9 : RS sig S2) = drawKey bcast_S_S1 concatenates_S1_S1_S2_d0 slices_S2_S1_0 slices_S2_S1_1 shapeCasts_S1_S_ 2#32 := by
  have e := eqs_after key hostL 2 (fun b => m (c, b)) hostL_chk
  have e' : Eqs hostL (W m c) := e
  generalize W m c = V at e'
  obtain ⟨⟨h1, h2, h3, h4, h5, h6, h7, h8, h9, h10, h11⟩, e'⟩ := (eqs_append hostPre _ V).mp e'
  obtain ⟨f0, e'⟩ := (eqs_append (foldL _ _ (foldB main_call0)) _ V).mp e'
  obtain ⟨h12, e'⟩ := (eqs_append [_] _ V).mp e'
  obtain ⟨f1, e'⟩ := (eqs_append (foldL _ _ (foldB main_call1)) _ V).mp e'
  obtain ⟨h13, f2⟩ := (eqs_append [_] _ V).mp e'
  have hs : get V (.of main_v6 : RS sig S2) = seed bcast_S_S1 concatenates_S1_S1_S2_d0 := by
    refine Eq.trans h10 ?_
    rw [h9, h8, h7, h6, h5, h4, h3, h2, h1]
    rfl
  exact ⟨key_at 0#32 hs h11 f0, key_at 1#32 hs h12 f1, key_at 2#32 hs h13 f2⟩

/-- The last operations leave the three keys one after the other. -/
theorem last_keys (V : Valuation τ sig (Elt F)) : after hostOps0_6 V (Proc.devRef .tc main_v11)
    = (concatenate S6 0 [⟨S2, get V (.of main_v7 : RS sig S2)⟩, ⟨S2, get V (.of main_v8 : RS sig S2)⟩,
      ⟨S2, get V (.of main_v9 : RS sig S2)⟩] concatenates_S2_S2_S2_S6_d0 : S6.Idx → BitVec 32) := by
  rw [hostOps0_6, after_cons, after_cons, after_cons, after_nil]
  rw [result_of_writes_ne _ _ main_v12 main_v11 (reshape_writes ..) (by decide), unary_result, nary_result]
  rfl

/-- The last operations leave the target. -/
theorem last_target (V : Valuation τ sig (Elt F)) : after hostOps0_6 V (Proc.devRef .tc main_v12)
    = (shapeCast S1 (V (Proc.devRef .tc main_arg1) : S_.Idx → BitVec 32) shapeCasts_S_S1 : S1.Idx → BitVec 32) := by
  rw [hostOps0_6, after_cons, after_cons, after_cons, after_nil, reshape_result]
  rw [result_of_writes_ne _ _ main_v11 main_arg1 (unary_writes ..) (by decide),
    result_of_writes_ne _ _ main_v10 main_arg1 (nary_writes ..) (by decide)]
  rfl

/-- The arrays at the launch are those after the last group of steps before it. -/
theorem after_host (b : Ref sig .tc) : V m c b = after hostOps0_6 (W m c) (Proc.devRef .tc b) := by
  show after _ _ (Proc.devRef .tc b) = _
  rw [host_eq, after_append]

/-- The table of key words: the three keys one after the other. -/
theorem tbl_keys : tbl m 1 = (concatenate S6 0 [⟨S2, get (W m 0) (.of main_v7 : RS sig S2)⟩,
    ⟨S2, get (W m 0) (.of main_v8 : RS sig S2)⟩, ⟨S2, get (W m 0) (.of main_v9 : RS sig S2)⟩]
      concatenates_S2_S2_S2_S6_d0 : S6.Idx → BitVec 32) :=
  (after_host m 0 main_v11).trans (last_keys (W m 0))

/-- The target's table: the argument. -/
theorem tbl_target : tbl m 0
    = (shapeCast S1 (m ((0 : Dev nD).tc.loc main_arg1) : S_.Idx → BitVec 32) shapeCasts_S_S1 : S1.Idx → BitVec 32) :=
  ((after_host m 0 main_v12).trans (last_target (W m 0))).trans
    (congrArg (fun x => (shapeCast S1 x shapeCasts_S_S1 : S1.Idx → BitVec 32))
      (after_of_lt key hostL 2 _ main_arg1 hostL_chk (by decide)))

/-- A word of three keys laid one after the other is a word of one of them. -/
theorem cat_piece (a b d : S2.Idx → BitVec 32) (p : Fin 3) (q : Fin 2) (k : Fin 6) (hk : p.val * 2 + q.val = k.val) :
    concatenate S6 0 [⟨S2, a⟩, ⟨S2, b⟩, ⟨S2, d⟩] concatenates_S2_S2_S2_S6_d0 (ix1 k) = ![a, b, d] p (ix1 q) := by
  refine concatenate_apply_piece 0 _ _ (ix1 k) p.val (by have := p.isLt; simpa using this) S2 (![a, b, d] p) ?_ rfl
    (p.val * 2) ?_ (ix1 q) (fun x hx => absurd (Subsingleton.elim _ _) hx) hk
  · fin_cases p <;> rfl
  · fin_cases p <;> rfl

/-- The words of three keys laid one after the other. -/
theorem cat_words (a b d : S2.Idx → BitVec 32) (k : Fin 6) :
    concatenate S6 0 [⟨S2, a⟩, ⟨S2, b⟩, ⟨S2, d⟩] concatenates_S2_S2_S2_S6_d0 (ix1 k)
      = ![a (ix1 0), a (ix1 1), b (ix1 0), b (ix1 1), d (ix1 0), d (ix1 1)] k := by
  refine (cat_piece a b d ⟨k.val / 2, by omega⟩ ⟨k.val % 2, by omega⟩ k (by show k.val / 2 * 2 + k.val % 2 = _; omega)).trans ?_
  fin_cases k <;> rfl

/-- An index of a one-dimensional array is known by its number. -/
theorem idx1 {n : ℕ} (j : (⟨1, ![n]⟩ : Shape).Idx) (k : Fin n) (h : (j 0).val = k.val) : j = ix1 k := by
  funext a
  match a with
  | ⟨0, _⟩ => exact Fin.ext h

end Any

section Words

variable (m : (l : Loc nD τ sig) → Buf (Elt Ideal) l) (c : Dev nD)

/-- What the six reads of the table of key words find. -/
theorem keys_at (x : S6.Idx → BitVec 32) (k : Fin 6) : keys c x k = x (ix1 k) := by
  fin_cases k <;> exact congrArg x (idx1 _ _ rfl)

/-- The kernel's key words are the specification's. -/
theorem keys_words : keys c (tbl m 1) = words bcast_S_S1 concatenates_S1_S1_S2_d0 slices_S2_S1_0 slices_S2_S1_1 shapeCasts_S1_S_ := by
  obtain ⟨h0, h1, h2⟩ := keys_eq m 0
  funext k
  refine (keys_at c (tbl m 1) k).trans ?_
  rw [tbl_keys, h0, h1, h2]
  exact cat_words _ _ _ k

/-- The kernel's target word is the argument's. -/
theorem target_word : tw (F := Ideal) c (tbl m 0) = (m ((0 : Dev nD).tc.loc main_arg1) : S_.Idx → BitVec 32) ValueIdx.ix0 := by
  rw [tbl_target]
  exact congrArg (m ((0 : Dev nD).tc.loc main_arg1) : S_.Idx → BitVec 32) (funext fun a => a.elim0)

end Words

end Cert.KernelIdeal.Own

end
-- ==== Proof.RefRow.lean ====
/- One row of the reference's draw, in the extended reals: the log-probabilities, and the value read off the one-hot row. -/
module

public import proofs.«01_k».proof.Proof.Pick
public import proofs.«01_k».proof.Proof.Gumbel

@[expose] public section

noncomputable section

namespace Cert.Pick

open Idealize.ShloMosaic
open scoped BigOperators

/-- A finite sum of reals, in the extended reals. -/
theorem coe_sum' {J : Type*} (t : Finset J) (f : J → ℝ) : (∑ j ∈ t, (f j : EReal)) = ((∑ j ∈ t, f j : ℝ) : EReal) := by
  classical
  refine Finset.induction_on t (by simp) fun a t ha ih => ?_
  rw [Finset.sum_insert ha, Finset.sum_insert ha, ih, EReal.coe_add]

/-- The quotient of two reals, the second positive. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The log-probabilities of a row: nothing for a masked column, and for the others the weight up to a constant of the
    row; the probabilities are reals. -/
theorem logp_row {n : ℕ} (hn : 0 < n) (M : Fin n → Prop) (w : Fin n → ℝ) (W G A E P L : Fin n → EReal) (mx sm : EReal) (eps big : ℝ)
    (heps : 0 < eps) (hW : ∀ c, W c = (w c : EReal))
    (hG : ∀ c, (M c → G c = ((0 : ℝ) : EReal)) ∧ (¬ M c → G c = ((1 : ℝ) : EReal)))
    (hA : ∀ c, A c = W c * G c - (big : EReal) * (((1 : ℝ) : EReal) - G c))
    (hmx : (∀ c, A c ≤ mx) ∧ (mx = ⊥ ∨ ∃ c, mx = A c))
    (hE : ∀ c, E c = Ideal.exp ((W c - mx) * G c) * G c)
    (hsm : sm = ((0 : ℝ) : EReal) + ∑ c, E c)
    (hP : ∀ c, P c = Ideal.div (E c) (sm + (eps : EReal)))
    (hL : ∀ c, L c = Ideal.log (P c)) :
    (∃ p : Fin n → ℝ, ∀ c, P c = (p c : EReal)) ∧
    ∃ C : ℝ, ∀ c, (M c → L c = ⊥) ∧ (¬ M c → L c = ((w c + C : ℝ) : EReal)) := by
  classical
  have hg : ∃ g : Fin n → ℝ, ∀ c, G c = (g c : EReal) ∧ (M c → g c = 0) ∧ (¬ M c → g c = 1) :=
    ⟨fun c => if M c then 0 else 1, fun c => by
      by_cases h : M c
      · simp [h, (hG c).1 h]
      · simp [h, (hG c).2 h]⟩
  obtain ⟨g, hg⟩ := hg
  have hA' : ∀ c, A c = ((w c * g c - big * (1 - g c) : ℝ) : EReal) := fun c => by
    rw [hA, hW, (hg c).1, ← EReal.coe_sub, ← EReal.coe_mul, ← EReal.coe_mul, ← EReal.coe_sub]
  obtain ⟨x, hx⟩ : ∃ x : ℝ, mx = (x : EReal) := by
    rcases hmx.2 with h | ⟨c, h⟩
    · have := hmx.1 ⟨0, hn⟩
      rw [h, hA', le_bot_iff] at this
      exact absurd this (EReal.coe_ne_bot _)
    · exact ⟨_, h.trans (hA' c)⟩
  have hE' : ∀ c, E c = ((Real.exp ((w c - x) * g c) * g c : ℝ) : EReal) := fun c => by
    rw [hE, hW, (hg c).1, hx, ← EReal.coe_sub, ← EReal.coe_mul, Ideal.exp_coe, ← EReal.coe_mul]
  have hg0 : ∀ c, 0 ≤ g c := fun c => by
    by_cases h : M c
    · rw [(hg c).2.1 h]
    · rw [(hg c).2.2 h]; exact zero_le_one
  have hs : sm + (eps : EReal) = ((∑ c, Real.exp ((w c - x) * g c) * g c + eps : ℝ) : EReal) := by
    rw [hsm, Finset.sum_congr rfl (fun c _ => hE' c), coe_sum', ← EReal.coe_add, ← EReal.coe_add, zero_add]
  have hpos : 0 < ∑ c, Real.exp ((w c - x) * g c) * g c + eps :=
    add_pos_of_nonneg_of_pos (Finset.sum_nonneg fun c _ => mul_nonneg (Real.exp_pos _).le (hg0 c)) heps
  have hP' : ∀ c, P c = ((Real.exp ((w c - x) * g c) * g c / (∑ c, Real.exp ((w c - x) * g c) * g c + eps) : ℝ) : EReal) :=
    fun c => by rw [hP, hs, hE', div_coe _ _ hpos]
  refine ⟨⟨_, hP'⟩, -x - Real.log (∑ c, Real.exp ((w c - x) * g c) * g c + eps), fun c => ⟨fun h => ?_, fun h => ?_⟩⟩
  · rw [hL, hP', Ideal.log_coe, (hg c).2.1 h, if_pos (by simp)]
  · rw [hL, hP', Ideal.log_coe, (hg c).2.2 h, if_neg (not_le.2 (div_pos (by simpa using Real.exp_pos _) hpos)),
      Real.log_div (by simpa using (Real.exp_pos _).ne') hpos.ne']
    simp only [mul_one, Real.log_exp]
    congr 1; ring

/-- The value read off a row: with the one-hot row of column `q` and the two scaled probabilities cancelling, the sum
    over the columns of their numbers is `q`. -/
theorem value_row {n : ℕ} (q : Fin n) (H P V K : Fin n → EReal) (p : Fin n → ℝ) (tau : ℝ) (v : EReal)
    (hH : ∀ c, (c = q → H c = ((1 : ℝ) : EReal)) ∧ (c ≠ q → H c = ((0 : ℝ) : EReal)))
    (hP : ∀ c, P c = (p c : EReal)) (hK : ∀ c, K c = ((c.val : ℝ) : EReal))
    (hV : ∀ c, V c = (H c + (tau : EReal) * P c - (tau : EReal) * P c) * K c)
    (hv : v = ((0 : ℝ) : EReal) + ∑ c, V c) : v = ((q.val : ℝ) : EReal) := by
  have hV' : ∀ c, V c = (((if c = q then 1 else 0) * (c.val : ℝ) : ℝ) : EReal) := fun c => by
    have : H c = (((if c = q then 1 else 0) : ℝ) : EReal) := by
      by_cases h : c = q
      · rw [(hH c).1 h, if_pos h]
      · rw [(hH c).2 h, if_neg h]
    rw [hV, this, hP, hK, ← EReal.coe_mul, ← EReal.coe_add, ← EReal.coe_sub, ← EReal.coe_mul]
    congr 1; ring
  rw [hv, Finset.sum_congr rfl (fun c _ => hV' c), coe_sum', ← EReal.coe_add, zero_add]
  congr 1
  simp

end Cert.Pick

end
-- ==== Proof.RefArr.lean ====
/- The reference's array operations read at an index: broadcasts, reductions along the columns, the place of the largest. -/
module

public import proofs.«01_k».proof.Proof.RefRow
public import proofs.«01_k».proof.Proof.RefLine
public import Idealize.ShloMosaic.Lib.Pipeline.Value
public import Idealize.ShloMosaic.Lib.Pointwise.Reduce

@[expose] public section

set_option maxRecDepth 16384

noncomputable section

namespace Cert.ReferenceIdeal.Own

open Idealize.ShloMosaic hiding ix0 ix1 ix2
open Idealize.ShloMosaic.ValueIdx
open Cert.ReferenceIdeal Cert.ReferenceIdeal.Gen Cert.Pick

/-! ## Broadcasts -/

section Broadcasts

variable {α : Type}

/-- A scalar over a shape. -/
theorem bc_s {T : Shape} (h : S_.BroadcastsInDim T ![]) (x : S_.Idx → α) (j : T.Idx) : broadcastInDim T ![] h x j = x ix0 :=
  broadcastInDim_scalar_apply h x j

/-- A column over the columns. -/
theorem bc_col (x : S128x1.Idx → α) (r : Fin 128) (c : Fin 100000) :
    broadcastInDim S128x100000 ![0, 1] bcast_S128x1_S128x100000_0_1 x (ix2 r c) = x (ix2 r 0) :=
  broadcastInDim_apply _ _ x _ _ fun a => by
    match a with
    | ⟨0, _⟩ => rfl
    | ⟨1, _⟩ => rfl

/-- A row over the rows. -/
theorem bc_row (x : S1x100000.Idx → α) (r : Fin 128) (c : Fin 100000) :
    broadcastInDim S128x100000 ![0, 1] bcast_S1x100000_S128x100000_0_1 x (ix2 r c) = x (ix2 0 c) :=
  broadcastInDim_apply _ _ x _ _ fun a => by
    match a with
    | ⟨0, _⟩ => rfl
    | ⟨1, _⟩ => rfl

/-- One number over the array. -/
theorem bc_11 (x : S1x1.Idx → α) (r : Fin 128) (c : Fin 100000) :
    broadcastInDim S128x100000 ![0, 1] bcast_S1x1_S128x100000_0_1 x (ix2 r c) = x (ix2 0 0) :=
  broadcastInDim_apply _ _ x _ _ fun a => by
    match a with
    | ⟨0, _⟩ => rfl
    | ⟨1, _⟩ => rfl

/-- A vector as a column. -/
theorem bc_v (x : S128.Idx → α) (r : Fin 128) (u : Fin 1) :
    broadcastInDim S128x1 ![0] bcast_S128_S128x1_0 x (ix2 r u) = x (ix1 r) :=
  broadcastInDim_apply _ _ x _ _ fun a => by
    match a with
    | ⟨0, _⟩ => rfl

/-- A vector as a row. -/
theorem bc_r (x : S100000.Idx → α) (u : Fin 1) (c : Fin 100000) :
    broadcastInDim S1x100000 ![1] bcast_S100000_S1x100000_1 x (ix2 u c) = x (ix1 c) :=
  broadcastInDim_apply _ _ x _ _ fun a => by
    match a with
    | ⟨0, _⟩ => rfl

end Broadcasts

/-! ## Reductions along the columns -/

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- The greatest value of a row: at least each of its values, and one of them or the lowest. -/
theorem max_at (x : FVec Ideal S128x100000 .f32) (r : Fin 128) (m : EReal)
    (hm : m = Host.reduce FloatOps.maximumf x (constant S_ .f32 0xFF800000#32) reducesTo_S128x100000_S128_d1 h_S_ (ix1 r)) :
    (∀ c, x (ix2 r c) ≤ m) ∧ (m = ⊥ ∨ ∃ c, m = x (ix2 r c)) := by
  have e := (Host.reduce_eq_fold (FloatOps.maximumf (F := Ideal) (φ := .f32)) x (constant S_ .f32 0xFF800000#32)
    reducesTo_S128x100000_S128_d1 h_S_ (ix1 r)).trans (Shape.ReducesTo.fold_fiber_r2_a1 _ (ix1 r) _ _ x)
  have := fold_max_value (fun k : Fin 100000 => (x (ix2 r k) : EReal)) Finset.univ (Ideal.ofBits .f32 0xFF800000#32)
  have hm' := hm.trans e
  refine ⟨fun c => (this.1 c (Finset.mem_univ c)).trans_eq hm'.symm, ?_⟩
  rcases this.2 with h | ⟨l, _, h⟩
  · exact .inl (hm'.trans (h.trans ofBits_bot))
  · exact .inr ⟨l, hm'.trans h⟩

/-- The sum of a row, from zero. -/
theorem sum_at (x : FVec Ideal S128x100000 .f32) (r : Fin 128) :
    (Host.reduceAdd x (constant S_ .f32 0x00000000#32) reducesTo_S128x100000_S128_d1 h_S_ (ix1 r) : EReal)
      = ((0 : ℝ) : EReal) + ∑ c : Fin 100000, (x (ix2 r c) : EReal) := by
  refine Eq.trans (Ideal.hostReduceAdd_r2_a1 reducesTo_S128x100000_S128_d1 x (Ideal.ofBits .f32 0x00000000#32) (ix1 r)) ?_
  rw [ofBits_zero]
  rfl

/-- The argmax's step keeps the better of two pairs: the greater value, else the smaller place. -/
theorem reducer_best (a b : EReal × BitVec 32) :
    (reducer_argmax_f32_i32 (F := Ideal) a b = a ∨ reducer_argmax_f32_i32 (F := Ideal) a b = b)
      ∧ NoBetter a (reducer_argmax_f32_i32 (F := Ideal) a b) ∧ NoBetter b (reducer_argmax_f32_i32 (F := Ideal) a b) := by
  have e : reducer_argmax_f32_i32 (F := Ideal) a b
      = if b.1 < a.1 ∨ (a.1 = b.1 ∧ a.2.toInt < b.2.toInt) then a else b := by
    obtain ⟨a1, a2⟩ := a
    obtain ⟨b1, b2⟩ := b
    have h0 : FloatOps.cmpf (F := Ideal) (φ := .f32) .une a1 a1 = 0#1 := by simp [Ideal.cmpf_def, Ideal.cmp]
    have h1 : FloatOps.cmpf (F := Ideal) (φ := .f32) .ogt a1 b1 = BitVec.ofBool (decide (b1 < a1)) := rfl
    have h2 : FloatOps.cmpf (F := Ideal) (φ := .f32) .oeq a1 b1 = BitVec.ofBool (decide (a1 = b1)) := rfl
    have h3 : IntOp.cmpi .slt a2 b2 = BitVec.ofBool (decide (a2.toInt < b2.toInt)) := by simp [IntOp.cmpi, BitVec.slt]
    unfold reducer_argmax_f32_i32
    simp only [h0, h1, h2, h3]
    rcases lt_trichotomy b1 a1 with h | h | h
    · simp [h, h.ne', Scalar.select, IntOp.ori, IntOp.andi]
    · subst h
      by_cases h' : a2.toInt < b2.toInt <;> simp [h', Scalar.select, IntOp.ori, IntOp.andi]
    · simp [h.not_gt, h.ne, Scalar.select, IntOp.ori, IntOp.andi]
  rw [e]
  by_cases h : b.1 < a.1 ∨ (a.1 = b.1 ∧ a.2.toInt < b.2.toInt)
  · rw [if_pos h]
    refine ⟨.inl rfl, NoBetter.refl a, ?_⟩
    rcases h with h | ⟨h, h'⟩
    · exact .inl h
    · exact .inr ⟨h.symm, h'.le⟩
  · rw [if_neg h]
    refine ⟨.inr rfl, ?_, NoBetter.refl b⟩
    simp only [not_or, not_lt, not_and] at h
    rcases h.1.lt_or_eq with h' | h'
    · exact .inl h'
    · exact .inr ⟨h', h.2 h'⟩

/-- The place of the largest of a row: the pick of its scores among the columns not masked. -/
theorem argmax_at (x : FVec Ideal S128x100000 .f32) (r : Fin 128) (M : ℕ → Prop) (s : ℕ → ℝ)
    (hx : ∀ c : Fin 100000, (M c → x (ix2 r c) = (⊥ : EReal)) ∧ (¬ M c → x (ix2 r c) = ((s c : ℝ) : EReal)))
    (hne : ∃ c, c < 100000 ∧ ¬ M c) :
    ∃ c, IsPick 100000 M s c ∧ (Host.argReduce reducer_argmax_f32_i32 x (iotaInDim S128x100000 32 1)
      (constant S_ .f32 0xFF800000#32) (constantI S_ 32 0#32) reducesTo_S128x100000_S128_d1 h_S_ (ix1 r)).2 = BitVec.ofNat 32 c := by
  rw [Ideal.argReduce_eq_reduce2, Host.reduce2_eq_foldl_fiber]
  have hb := foldl_best (reducer_argmax_f32_i32 (F := Ideal)) reducer_best
    (Host.argReduceFiber x (iotaInDim S128x100000 32 1) reducesTo_S128x100000_S128_d1 (ix1 r)) (Ideal.ofBits .f32 0xFF800000#32, 0#32)
  have hmem : ∀ q : EReal × BitVec 32, q ∈ Host.argReduceFiber x (iotaInDim S128x100000 32 1) reducesTo_S128x100000_S128_d1 (ix1 r)
      ↔ ∃ c : Fin 100000, q = (x (ix2 r c), BitVec.ofNat 32 c.val) := fun q => by
    unfold Host.argReduceFiber
    simp only [List.mem_map, List.mem_filter, List.mem_finRange, true_and, decide_eq_true_eq]
    constructor
    · rintro ⟨k, hk, rfl⟩
      obtain ⟨c, hc⟩ := (Shape.ReducesTo.fiber_r2_a1 _ (ix1 r) _).1 hk
      exact ⟨c, by rw [← hc]; rfl⟩
    · rintro ⟨c, rfl⟩
      refine ⟨S128x100000.rowMajor (ix2 r c), ?_, ?_⟩
      · rw [Equiv.symm_apply_apply]
        exact (Shape.ReducesTo.fiber_r2_a1 _ (ix1 r) _).2 ⟨c, rfl⟩
      · rw [Equiv.symm_apply_apply]; rfl
  let xn : ℕ → EReal := fun c => if h : c < 100000 then x (ix2 r ⟨c, h⟩) else ⊥
  have hxn : ∀ c (h : c < 100000), xn c = x (ix2 r ⟨c, h⟩) := fun c h => dif_pos h
  refine of_best (by norm_num) xn (fun c hc hm => (hxn c hc).trans ((hx ⟨c, hc⟩).1 hm))
    (fun c hc hm => (hxn c hc).trans ((hx ⟨c, hc⟩).2 hm)) hne _ 0#32 ?_ (fun c hc => ?_)
  · rcases hb.1 with h | h
    · exact .inl (h.trans (by rw [ofBits_bot]))
    · obtain ⟨c, hc⟩ := (hmem _).1 h
      exact .inr ⟨c.val, c.isLt, hc.trans (by rw [hxn c.val c.isLt])⟩
  · rw [hxn c hc]
    exact hb.2.2 _ ((hmem _).2 ⟨⟨c, hc⟩, rfl⟩)

end Cert.ReferenceIdeal.Own

end
-- ==== Proof.RefNoise.lean ====
/- The reference's noise: the uniform draw at an index, and the Gumbel transform of it. -/
module

public import proofs.«01_k».proof.Proof.RefArr
public import proofs.«01_k».proof.Proof.RefRun
public import Idealize.ShloMosaic.Lib.KernelVsHost

@[expose] public section

set_option maxRecDepth 16384

noncomputable section

namespace Cert.ReferenceIdeal.Own

open Idealize.ShloMosaic hiding ix0 ix1 ix2
open Idealize.ShloMosaic.StableHlo Idealize.SL.Sem Cert.Line
open Idealize.ShloMosaic.ValueIdx
open Cert.ReferenceIdeal Cert.ReferenceIdeal.Gen Cert.Pick

/-- An index's place in the flat array, as a 64-bit word. -/
theorem place64 (r : Fin 128) (c : Fin 100000) :
    100000#64 * BitVec.ofNat 64 r.val + 1#64 * BitVec.ofNat 64 c.val = BitVec.ofNat 64 (r.val * 100000 + c.val) := by
  apply BitVec.eq_of_toNat_eq
  have hr := r.isLt
  have hc := c.isLt
  simp only [BitVec.toNat_add, BitVec.toNat_mul, BitVec.toNat_ofNat]
  omega

/-- The low word of an index's place. -/
theorem place_lo (r : Fin 128) (c : Fin 100000) :
    (BitVec.ofNat 64 (r.val * 100000 + c.val)).setWidth 32 = BitVec.ofNat 32 (r.val * 100000 + c.val) := by
  apply BitVec.eq_of_toNat_eq
  have hr := r.isLt
  have hc := c.isLt
  simp only [BitVec.toNat_setWidth, BitVec.toNat_ofNat]
  omega

/-- The high word of an index's place is zero. -/
theorem place_hi (r : Fin 128) (c : Fin 100000) :
    (BitVec.ofNat 64 (r.val * 100000 + c.val) >>> 32).setWidth 32 = 0#32 := by
  apply BitVec.eq_of_toNat_eq
  have hr := r.isLt
  have hc := c.isLt
  have h : r.val * 100000 + c.val < 2 ^ 32 := by omega
  simp only [BitVec.toNat_setWidth, BitVec.toNat_ushiftRight, BitVec.toNat_ofNat, Nat.shiftRight_eq_div_pow]
  rw [Nat.mod_eq_of_lt (h.trans (by norm_num) : _ < 2 ^ 64), Nat.div_eq_of_lt h]

/-- A word of a key, cut out and reshaped to a scalar. -/
theorem key_word0 (k : S2.Idx → BitVec 32) :
    shapeCast S_ (extractStridedSlice S1 ![0] k slices_S2_S1_0) shapeCasts_S1_S_ ix0 = k (ix1 0) :=
  (shapeCast_apply _ _ ix0 (ix1 0) rfl).trans (extractStridedSlice_apply _ _ _ _ _ (fun a => by
    match a with
    | ⟨0, _⟩ => rfl))

/-- The second word of a key. -/
theorem key_word1 (k : S2.Idx → BitVec 32) :
    shapeCast S_ (extractStridedSlice S1 ![1] k slices_S2_S1_1) shapeCasts_S1_S_ ix0 = k (ix1 1) :=
  (shapeCast_apply _ _ ix0 (ix1 0) rfl).trans (extractStridedSlice_apply _ _ _ _ _ (fun a => by
    match a with
    | ⟨0, _⟩ => rfl))

variable {V : Valuation τ sig (Elt Ideal)}

/-- The uniform draw at an index: the cipher's word as a number in `[1, 2)`, less one, scaled by one and moved by zero. -/
theorem uniform_at {arg0 : RS sig S2} {arg1 arg2 : TRef sig ⟨S_, .f32⟩} {φ : fn_uniform.Bufs} (e : Eqs (uniL arg0 arg1 arg2 φ) V)
    (h0 : get V arg1 = (constant S_ .f32 0x00000000#32 : FVec Ideal S_ .f32)) (h1 : get V arg2 = (constant S_ .f32 0x3F800000#32 : FVec Ideal S_ .f32))
    (k : S2.Idx → BitVec 32) (hk : get V arg0 = k) (r : Fin 128) (c : Fin 100000) :
    (get V φ.v34 (ix2 r c) : EReal) = max ((0 : ℝ) : EReal)
      (((((1 + frac (tf (k (ix1 0)) (k (ix1 1)) 0#32 (BitVec.ofNat 32 (r.val * 100000 + c.val))) : ℝ) : EReal)
        - ((1 : ℝ) : EReal)) * (((1 : ℝ) : EReal) - ((0 : ℝ) : EReal)) + ((0 : ℝ) : EReal))) := by
  unfold uniL at e
  obtain ⟨⟨u1, u2, u3, u4, u5, u6, u7, u8, u9, u10, u11, u12, u13, u14, u15, u16, u17, u18, u19, u20, u21, u22⟩, e⟩ :=
    (eqs_append [_, _, _, _, _, _, _, _, _, _, _, _, _, _, _, _, _, _, _, _, _, _] _ V).mp e
  obtain ⟨et, e⟩ := (eqs_append (tfSteps _ _ _ _ _ _) _ V).mp e
  obtain ⟨t1, t2, t3, t4, t5, t6, t7, t8, t9, t10, t11, t12, t13, t14, t15, t16, t17, t18⟩ := e
  have ht := tf_of _ et (ix2 r c)
  have k0 : get V φ.v5 ix0 = k (ix1 0) := by
    refine (congrFun u6 ix0).trans ?_
    rw [u5, hk]; exact key_word0 k
  have k1 : get V φ.v7 ix0 = k (ix1 1) := by
    refine (congrFun u8 ix0).trans ?_
    rw [u7, hk]; exact key_word1 k
  have p14 : get V φ.v14 (ix2 r c) = BitVec.ofNat 64 (r.val * 100000 + c.val) := by
    refine (congrFun u17 (ix2 r c)).trans ?_
    rw [u13, u16, u12, u15, u11, u14, u10, u9]
    exact place64 r c
  have plo : get V φ.v17 (ix2 r c) = BitVec.ofNat 32 (r.val * 100000 + c.val) := by
    refine (congrFun u21 (ix2 r c)).trans ?_
    refine Eq.trans ?_ (place_lo r c)
    exact congrArg (BitVec.setWidth 32) p14
  have phi : get V φ.v18 (ix2 r c) = 0#32 := by
    refine (congrFun u22 (ix2 r c)).trans ?_
    refine Eq.trans ?_ (place_hi r c)
    refine congrArg (BitVec.setWidth 32) ?_
    refine (congrFun u20 (ix2 r c)).trans ?_
    rw [u19, u18]
    show IntOp.shrui .host (get V φ.v14 (ix2 r c)) 32#64 = _
    rw [p14]
    simp [IntOp.shrui]
  rw [k0, k1, plo, phi] at ht
  have hx : get V φ.v25 (ix2 r c) = ((1 + frac (tf (k (ix1 0)) (k (ix1 1)) 0#32 (BitVec.ofNat 32 (r.val * 100000 + c.val))) : ℝ) : EReal) := by
    refine Eq.trans ?_ (ofBits_frac _)
    rw [← ht]
    refine (congrFun t8 (ix2 r c)).trans ?_
    rw [t7, t6, t5, t4, t3, t2, t1, hostShrui_eq_shrui]
    rfl
  have z2 : ∀ j, get V φ.v2 j = ((0 : ℝ) : EReal) := fun j => by
    rw [u3, u1, h0]; exact (bc_s _ _ j).trans ofBits_zero
  have z3 : ∀ j, get V φ.v3 j = ((1 : ℝ) : EReal) := fun j => by
    rw [u4, u2, h1]; exact (bc_s _ _ j).trans ofBits_one
  have z26 : get V φ.v26 (ix2 r c) = ((1 : ℝ) : EReal) := by
    rw [t10, t9]; exact (bc_s _ _ _).trans ofBits_one
  have z31 : get V φ.v31 (ix2 r c) = ((0 : ℝ) : EReal) := by
    rw [t15]; exact (bc_11 _ r c).trans (z2 _)
  have z33 : get V φ.v33 (ix2 r c) = ((0 : ℝ) : EReal) := by
    rw [t17]; exact (bc_11 _ r c).trans (z2 _)
  have z29 : get V φ.v29 (ix2 r c) = ((1 : ℝ) : EReal) - ((0 : ℝ) : EReal) := by
    rw [t13]
    refine (bc_11 _ r c).trans ?_
    rw [t12, ← z2 (ix2 0 0), ← z3 (ix2 0 0)]; rfl
  have z27 : get V φ.v27 (ix2 r c) = get V φ.v25 (ix2 r c) - get V φ.v26 (ix2 r c) := congrFun t11 _
  have z30 : get V φ.v30 (ix2 r c) = get V φ.v27 (ix2 r c) * get V φ.v29 (ix2 r c) := congrFun t14 _
  have z32 : get V φ.v32 (ix2 r c) = get V φ.v30 (ix2 r c) + get V φ.v31 (ix2 r c) := congrFun t16 _
  have z34 : get V φ.v34 (ix2 r c) = max (get V φ.v33 (ix2 r c)) (get V φ.v32 (ix2 r c)) := congrFun t18 _
  rw [z34, z33, z32, z30, z27, hx, z26, z29, z31]

end Cert.ReferenceIdeal.Own

end
-- ==== Proof.RefDraw.lean ====
/- One draw of the reference, read at a row: the pick, the value it adds to the result, and the mask it leaves. -/
module

public import proofs.«01_k».proof.Proof.RefNoise
public import proofs.«01_k».proof.Proof.Row

@[expose] public section

set_option maxRecDepth 16384

noncomputable section

namespace Cert.ReferenceIdeal.Own

open Idealize.ShloMosaic hiding ix0 ix1 ix2
open Idealize.ShloMosaic.StableHlo Cert.Line
open Idealize.ShloMosaic.ValueIdx
open Cert.ReferenceIdeal Cert.ReferenceIdeal.Gen Cert.Pick

/-- Arrays of numbers, of mask bits. -/
local notation "Arr" => FVec Ideal S128x100000 FTy.f32
local notation "Bit" => IVec S128x100000 1

/-! ## The constants -/

/-- The constant of the mask is a real number. -/
theorem ofBits_big : ∃ x : ℝ, Ideal.ofBits .f32 0x461C4000#32 = (x : EReal) :=
  ⟨10000, by simp [Ideal.ofBits, Ideal.ieee]; rw [← EReal.coe_mul]; norm_num⟩

/-- The constant tau is a real number. -/
theorem ofBits_tau : ∃ x : ℝ, Ideal.ofBits .f32 0x3C23D70A#32 = (x : EReal) :=
  ⟨10737418 * (2 : ℝ) ^ (-30 : ℤ), by simp [Ideal.ofBits, Ideal.ieee]⟩

/-- The constant epsilon is a positive real number. -/
theorem ofBits_eps : ∃ x : ℝ, 0 < x ∧ Ideal.ofBits .f32 0x322BCC77#32 = (x : EReal) :=
  ⟨11258999 * (2 : ℝ) ^ (-50 : ℤ), by positivity, by simp [Ideal.ofBits, Ideal.ieee]⟩

/-! ## Mask bits as numbers -/

/-- A bit as a number. -/
theorem bit_num (b : BitVec 1) :
    (b = 1#1 → ((b.toNat : ℝ) : EReal) = ((1 : ℝ) : EReal)) ∧ (b ≠ 1#1 → ((b.toNat : ℝ) : EReal) = ((0 : ℝ) : EReal)) := by
  rcases BitVec.eq_zero_or_eq_one b with rfl | rfl <;> simp

/-- A mask bit's complement as a number. -/
theorem mask_num (b : BitVec 1) (M : Prop) (h : b = 1#1 ↔ M) :
    (M → (((~~~b).toNat : ℝ) : EReal) = ((0 : ℝ) : EReal)) ∧ (¬ M → (((~~~b).toNat : ℝ) : EReal) = ((1 : ℝ) : EReal)) := by
  rw [← h]
  rcases BitVec.eq_zero_or_eq_one b with rfl | rfl <;> simp

/-- Whether two words are equal. -/
theorem eq_bit (a b : BitVec 32) : IntOp.cmpi .eq a b = 1#1 ↔ a = b := by
  by_cases h : a = b
  · simp [IntOp.cmpi, h]
  · have : (a == b) = false := beq_eq_false_iff_ne.2 h
    simp [IntOp.cmpi, this, h]

/-- Whether two columns' words are equal. -/
theorem col_eq (p c : ℕ) (hp : p < 100000) (hc : c < 100000) :
    IntOp.cmpi .eq (BitVec.ofNat 32 p) (BitVec.ofNat 32 c) = 1#1 ↔ c = p := by
  rw [eq_bit, ofNat_eq_iff hp, BitVec.toNat_ofNat]
  omega

/-- A one-hot entry is not zero just where it is one. -/
theorem hot_bit (x : EReal) (P : Prop) (h1 : P → x = ((1 : ℝ) : EReal)) (h0 : ¬ P → x = ((0 : ℝ) : EReal)) :
    FloatOps.cmpf (F := Ideal) (φ := .f32) .une x (Ideal.ofBits .f32 0x00000000#32) = 1#1 ↔ P := by
  rw [ofBits_zero]
  by_cases h : P
  · rw [h1 h]; simp [Ideal.cmpf_def, Ideal.cmp, h]
  · rw [h0 h]; simp [Ideal.cmpf_def, Ideal.cmp, h]

/-- Either of two bits. -/
theorem or_bit (a b : BitVec 1) : IntOp.ori a b = 1#1 ↔ a = 1#1 ∨ b = 1#1 := by
  unfold IntOp.ori; revert a b; decide

/-! ## The draw -/

/-- A draw's noise from a uniform array. -/
def gum (U : Arr) : Arr :=
  Host.negf (Host.log (Host.negf (Host.log (maximumf
    (broadcastInDim S128x100000 ![] bcast_S_S128x100000 (constant S_ .f32 0x00800000#32))
    (addf (mulf U (broadcastInDim S128x100000 ![] bcast_S_S128x100000 (constant S_ .f32 0x3F800000#32)))
      (broadcastInDim S128x100000 ![] bcast_S_S128x100000 (constant S_ .f32 0x00800000#32)))))))

/-- The noise at an index whose uniform draw comes of the words `p`. -/
theorem gum_at (U : Arr) (j : S128x100000.Idx) (p : BitVec 32 × BitVec 32)
    (hU : (U j : EReal) = max ((0 : ℝ) : EReal) (((((1 + frac p : ℝ) : EReal) - ((1 : ℝ) : EReal))
      * (((1 : ℝ) : EReal) - ((0 : ℝ) : EReal)) + ((0 : ℝ) : EReal)))) : (gum U j : EReal) = (noise p : EReal) := by
  refine Eq.trans ?_ (noise_reference p _ rfl)
  rw [← hU, ← ofBits_tiny, ← ofBits_one]
  rfl

/-- The greatest value of each row. -/
def rowMax (A : Arr) : FVec Ideal S128 .f32 :=
  Host.reduce FloatOps.maximumf A (constant S_ .f32 0xFF800000#32) reducesTo_S128x100000_S128_d1 h_S_

/-- The sum of each row. -/
def rowSum (E : Arr) : FVec Ideal S128 .f32 :=
  Host.reduceAdd E (constant S_ .f32 0x00000000#32) reducesTo_S128x100000_S128_d1 h_S_

/-- The masked exponentials over the numbers `m` of the rows. -/
def exps (W G : Arr) (m : FVec Ideal S128 .f32) : Arr :=
  mulf (Host.exp (mulf (subf W (broadcastInDim S128x100000 ![0, 1] bcast_S128x1_S128x100000_0_1
    (broadcastInDim S128x1 ![0] bcast_S128_S128x1_0 m))) G)) G

/-- The probabilities: the exponentials over their sums `s`. -/
def probs (E : Arr) (s : FVec Ideal S128 .f32) : Arr :=
  Host.divf E (broadcastInDim S128x100000 ![0, 1] bcast_S128x1_S128x100000_0_1
    (addf (broadcastInDim S128x1 ![0] bcast_S128_S128x1_0 s)
      (broadcastInDim S128x1 ![] bcast_S_S128x1 (constant S_ .f32 0x322BCC77#32))))

/-- The one-hot rows. -/
def hot (S : IVec S128 32) : Arr :=
  uitofp .f32 (cmpi .eq (broadcastInDim S128x100000 ![0, 1] bcast_S128x1_S128x100000_0_1
      (broadcastInDim S128x1 ![0] bcast_S128_S128x1_0 S))
    (broadcastInDim S128x100000 ![0, 1] bcast_S1x100000_S128x100000_0_1 (iotaInDim S1x100000 32 1)))

/-- The array of the constant that scales the probabilities. -/
def tauA : Arr := broadcastInDim S128x100000 ![] bcast_S_S128x100000 (constant S_ .f32 0x3C23D70A#32)

/-- The one-hot rows, straight-through, times the columns' numbers. -/
def vals (H P : Arr) (K : FVec Ideal S1x100000 .f32) : Arr :=
  mulf (subf (addf H (mulf tauA P)) (mulf tauA P))
    (broadcastInDim S128x100000 ![0, 1] bcast_S1x100000_S128x100000_0_1 K)

/-- The one-hot rows as mask bits. -/
def hotBit (H : Arr) : Bit :=
  cmpf .une H (broadcastInDim S128x100000 ![] bcast_S_S128x100000 (constant S_ .f32 0x00000000#32))

/-- The one-hot rows at an index. -/
theorem hot_at (S : IVec S128 32) (r : Fin 128) (p : ℕ) (hp : p < 100000) (hS : S (ix1 r) = BitVec.ofNat 32 p) (c : Fin 100000) :
    (c.val = p → (hot S (ix2 r c) : EReal) = ((1 : ℝ) : EReal)) ∧ (¬ c.val = p → (hot S (ix2 r c) : EReal) = ((0 : ℝ) : EReal)) := by
  have e : (hot S (ix2 r c) : EReal) = (((IntOp.cmpi .eq (BitVec.ofNat 32 p) (BitVec.ofNat 32 c.val)).toNat : ℝ) : EReal) := by
    refine congrArg (fun b : BitVec 1 => ((b.toNat : ℝ) : EReal)) ?_
    refine congrArg₂ (IntOp.cmpi .eq) ?_ ?_
    · exact ((bc_col _ r c).trans (bc_v _ r 0)).trans hS
    · exact bc_row _ r c
  rw [e]
  have h := bit_num (IntOp.cmpi .eq (BitVec.ofNat 32 p) (BitVec.ofNat 32 c.val))
  exact ⟨fun hc => h.1 ((col_eq p c.val hp c.isLt).2 hc), fun hc => h.2 fun h' => hc ((col_eq p c.val hp c.isLt).1 h')⟩

/-- A scalar over the array, at an index. -/
theorem const_at (b : BitVec 32) (j : S128x100000.Idx) :
    (broadcastInDim S128x100000 ![] bcast_S_S128x100000 (constant (F := Ideal) S_ .f32 b) j : EReal) = Ideal.ofBits .f32 b :=
  bc_s _ _ j

/-- A scalar over a column, at an index. -/
theorem const_col (b : BitVec 32) (j : S128x1.Idx) :
    (broadcastInDim S128x1 ![] bcast_S_S128x1 (constant (F := Ideal) S_ .f32 b) j : EReal) = Ideal.ofBits .f32 b :=
  bc_s _ _ j

/-- The greatest value of a row. -/
theorem rowMax_at (A : Arr) (r : Fin 128) :
    (∀ c, A (ix2 r c) ≤ (rowMax A (ix1 r) : EReal)) ∧ ((rowMax A (ix1 r) : EReal) = ⊥ ∨ ∃ c, (rowMax A (ix1 r) : EReal) = A (ix2 r c)) :=
  max_at A r _ rfl

/-- The sum of a row. -/
theorem rowSum_at (E : Arr) (r : Fin 128) :
    (rowSum E (ix1 r) : EReal) = ((0 : ℝ) : EReal) + ∑ c : Fin 100000, (E (ix2 r c) : EReal) :=
  sum_at E r

/-- The place of the largest of a row. -/
theorem place_at (Z : Arr) (S : IVec S128 32) (hS : S = fun j => (Host.argReduce reducer_argmax_f32_i32 Z (iotaInDim S128x100000 32 1)
      (constant S_ .f32 0xFF800000#32) (constantI S_ 32 0#32) reducesTo_S128x100000_S128_d1 h_S_ j).2)
    (r : Fin 128) (M : ℕ → Prop) (s : ℕ → ℝ)
    (hx : ∀ c : Fin 100000, (M c → Z (ix2 r c) = (⊥ : EReal)) ∧ (¬ M c → Z (ix2 r c) = ((s c : ℝ) : EReal)))
    (hne : ∃ c, c < 100000 ∧ ¬ M c) : ∃ c, IsPick 100000 M s c ∧ S (ix1 r) = BitVec.ofNat 32 c := by
  obtain ⟨c, h, hc⟩ := argmax_at Z r M s hx hne
  exact ⟨c, h, (congrFun hS (ix1 r)).trans hc⟩

/-- A product of arrays at a place. -/
theorem mulf_at (x y : Arr) (j : S128x100000.Idx) : (mulf x y j : EReal) = (x j : EReal) * (y j : EReal) := rfl
/-- A sum of arrays at a place. -/
theorem addf_at (x y : Arr) (j : S128x100000.Idx) : (addf x y j : EReal) = (x j : EReal) + (y j : EReal) := rfl
/-- A difference of arrays at a place. -/
theorem subf_at (x y : Arr) (j : S128x100000.Idx) : (subf x y j : EReal) = (x j : EReal) - (y j : EReal) := rfl
/-- The exponential of an array at a place. -/
theorem exp_at (x : Arr) (j : S128x100000.Idx) : (Host.exp x j : EReal) = Ideal.exp (x j) := rfl
/-- A quotient of arrays at a place. -/
theorem divf_at (x y : Arr) (j : S128x100000.Idx) : (Host.divf x y j : EReal) = Ideal.div (x j) (y j) := rfl
/-- A sum of columns at a place. -/
theorem addf_col (x y : FVec Ideal S128x1 .f32) (j : S128x1.Idx) : (addf x y j : EReal) = (x j : EReal) + (y j : EReal) := rfl

/-- The exponentials at an index. -/
theorem exps_at (W G : Arr) (m : FVec Ideal S128 .f32) (r : Fin 128) (c : Fin 100000) :
    (exps W G m (ix2 r c) : EReal) = Ideal.exp (((W (ix2 r c) : EReal) - (m (ix1 r) : EReal)) * (G (ix2 r c) : EReal)) * (G (ix2 r c) : EReal) := by
  unfold exps
  rw [mulf_at, exp_at, mulf_at, subf_at, bc_col, bc_v]

/-- The probabilities at an index. -/
theorem probs_at (E : Arr) (s : FVec Ideal S128 .f32) (r : Fin 128) (c : Fin 100000) :
    (probs E s (ix2 r c) : EReal) = Ideal.div (E (ix2 r c)) ((s (ix1 r) : EReal) + Ideal.ofBits .f32 0x322BCC77#32) := by
  unfold probs
  rw [divf_at, bc_col, addf_col, bc_v, const_col]

/-- The values at an index. -/
theorem vals_at (H P : Arr) (K : FVec Ideal S1x100000 .f32) (r : Fin 128) (c : Fin 100000) :
    (vals H P K (ix2 r c) : EReal) = ((H (ix2 r c) : EReal) + Ideal.ofBits .f32 0x3C23D70A#32 * (P (ix2 r c) : EReal)
      - Ideal.ofBits .f32 0x3C23D70A#32 * (P (ix2 r c) : EReal)) * (K (ix2 0 c) : EReal) := by
  unfold vals
  rw [mulf_at, subf_at, addf_at, mulf_at, bc_row, tauA, const_at]

/-- The one-hot rows' bits at an index. -/
theorem hotBit_at (H : Arr) (j : S128x100000.Idx) :
    hotBit H j = FloatOps.cmpf (F := Ideal) (φ := .f32) .une (H j) (Ideal.ofBits .f32 0x00000000#32) := by
  rw [← const_at _ j]
  rfl

/-- The logarithm of an array at an index. -/
theorem log_arr (P : Arr) (j : S128x100000.Idx) : (Host.log P j : EReal) = Ideal.log (P j) := rfl

/-- The log-probabilities of a row. -/
theorem logp_at (r : Fin 128) (M : ℕ → Prop) (w : ℕ → ℝ) (W G A : Arr) (B : Bit)
    (hW : ∀ c : Fin 100000, (W (ix2 r c) : EReal) = (w c.val : EReal))
    (hB : ∀ c : Fin 100000, B (ix2 r c) = 1#1 ↔ M c.val)
    (hG : ∀ c : Fin 100000, (G (ix2 r c) : EReal) = (((~~~(B (ix2 r c))).toNat : ℝ) : EReal))
    (hA : ∀ c : Fin 100000, (A (ix2 r c) : EReal) = (W (ix2 r c) : EReal) * (G (ix2 r c) : EReal)
      - Ideal.ofBits .f32 0x461C4000#32 * (Ideal.ofBits .f32 0x3F800000#32 - (G (ix2 r c) : EReal)))
    (E P : Arr) (hE : E = exps W G (rowMax A)) (hP : P = probs E (rowSum E)) :
    (∃ p : Fin 100000 → ℝ, ∀ c, (P (ix2 r c) : EReal) = (p c : EReal)) ∧
    ∃ C : ℝ, ∀ c : Fin 100000, (M c → (Host.log P (ix2 r c) : EReal) = ⊥)
      ∧ (¬ M c → (Host.log P (ix2 r c) : EReal) = ((w c + C : ℝ) : EReal)) := by
  obtain ⟨big, hbig⟩ := ofBits_big
  obtain ⟨eps, heps, heps'⟩ := ofBits_eps
  have hE' : ∀ c, (E (ix2 r c) : EReal) = _ := fun c => (congrArg (fun x : Arr => (x (ix2 r c) : EReal)) hE).trans (exps_at W G (rowMax A) r c)
  have hP' : ∀ c, (P (ix2 r c) : EReal) = _ := fun c => (congrArg (fun x : Arr => (x (ix2 r c) : EReal)) hP).trans (probs_at E (rowSum E) r c)
  have hm := rowMax_at A r
  have hs := rowSum_at E r
  clear hE hP
  generalize rowMax A (ix1 r) = mx at hm hE'
  generalize rowSum E (ix1 r) = sm at hs hP'
  rw [heps'] at hP'
  exact logp_row (n := 100000) (by norm_num) (fun c => M c.val) (fun c => w c.val) (fun c => W (ix2 r c)) (fun c => G (ix2 r c))
    (fun c => A (ix2 r c)) (fun c => E (ix2 r c)) (fun c => P (ix2 r c)) (fun c => Host.log P (ix2 r c)) mx sm eps big heps hW
    (fun c => by rw [hG]; exact mask_num _ _ (hB c)) (fun c => by rw [hA, hbig, ofBits_one]) hm hE' hs hP' (fun c => log_arr P (ix2 r c))

/-- The value a row's one-hot column adds to the result. -/
theorem value_at (r : Fin 128) (q : ℕ) (hq : q < 100000) (S : IVec S128 32) (hS : S (ix1 r) = BitVec.ofNat 32 q) (P : Arr)
    (hP : ∃ p : Fin 100000 → ℝ, ∀ c, (P (ix2 r c) : EReal) = (p c : EReal)) (K : FVec Ideal S1x100000 .f32)
    (hK : ∀ c : Fin 100000, (K (ix2 0 c) : EReal) = ((c.val : ℝ) : EReal)) :
    (rowSum (vals (hot S) P K) (ix1 r) : EReal) = ((q : ℝ) : EReal) := by
  obtain ⟨tau, htau⟩ := ofBits_tau
  obtain ⟨p, hp⟩ := hP
  have hH := hot_at S r q hq hS
  generalize hot S = H at hH ⊢
  have hv := vals_at H P K r
  rw [htau] at hv
  have hs := rowSum_at (vals H P K) r
  generalize vals H P K = X at hv hs ⊢
  generalize rowSum X (ix1 r) = v at hs ⊢
  exact value_row (n := 100000) ⟨q, hq⟩ (fun c => H (ix2 r c)) (fun c => P (ix2 r c)) (fun c => X (ix2 r c)) (fun c => K (ix2 0 c)) p tau v
    (fun c => ⟨fun h => (hH c).1 (congrArg Fin.val h), fun h => (hH c).2 fun h' => h (Fin.ext h')⟩) hp hK hv hs

/-- A draw at a row: with `M` the masked columns, `w` the weights and `N` the noise, it picks the first column not masked
    with the greatest sum of weight and noise, adds that column's number, and masks it too. -/
theorem draw_at (r : Fin 128) (M : ℕ → Prop) (w N : ℕ → ℝ) (W G A U : Arr) (B : Bit) (K : FVec Ideal S1x100000 .f32)
    (hM : ∃ c, c < 100000 ∧ ¬ M c) (hW : ∀ c : Fin 100000, (W (ix2 r c) : EReal) = (w c.val : EReal))
    (hB : ∀ c : Fin 100000, B (ix2 r c) = 1#1 ↔ M c.val)
    (hG : ∀ c : Fin 100000, (G (ix2 r c) : EReal) = (((~~~(B (ix2 r c))).toNat : ℝ) : EReal))
    (hA : ∀ c : Fin 100000, (A (ix2 r c) : EReal) = (W (ix2 r c) : EReal) * (G (ix2 r c) : EReal)
      - Ideal.ofBits .f32 0x461C4000#32 * (Ideal.ofBits .f32 0x3F800000#32 - (G (ix2 r c) : EReal)))
    (hU : ∀ c : Fin 100000, (gum U (ix2 r c) : EReal) = (N c.val : EReal))
    (hK : ∀ c : Fin 100000, (K (ix2 0 c) : EReal) = ((c.val : ℝ) : EReal))
    (E P H B' : _) (S : IVec S128 32) (v : FVec Ideal S128 .f32)
    (hE : E = exps W G (rowMax A)) (hP : P = probs E (rowSum E)) (Z : Arr) (hZ : Z = addf (gum U) (Host.log P))
    (hS : S = fun j => (Host.argReduce reducer_argmax_f32_i32 Z (iotaInDim S128x100000 32 1)
      (constant S_ .f32 0xFF800000#32) (constantI S_ 32 0#32) reducesTo_S128x100000_S128_d1 h_S_ j).2) (hH : H = hot S)
    (hv : v = rowSum (vals H P K)) (hB' : B' = ori (hotBit H) B) :
    ∃ p, IsPick 100000 M (fun c => w c + N c) p ∧ (v (ix1 r) : EReal) = ((p : ℝ) : EReal)
      ∧ ∀ c : Fin 100000, B' (ix2 r c) = 1#1 ↔ M c.val ∨ c.val = p := by
  obtain ⟨hp, C, hL⟩ := logp_at r M w W G A B hW hB hG hA E P hE hP
  clear hE hP hA hG
  have hZ' : ∀ c : Fin 100000, (Z (ix2 r c) : EReal) = (gum U (ix2 r c) : EReal) + (Host.log P (ix2 r c) : EReal) := fun c => by
    rw [hZ]; exact addf_at _ _ _
  obtain ⟨q, hq, hq'⟩ := place_at Z S hS r M (fun c => N c + (w c + C))
    (fun c => ⟨fun h => by rw [hZ', (hL c).1 h, EReal.add_bot], fun h => by rw [hZ', (hL c).2 h, hU, ← EReal.coe_add]⟩) hM
  subst hH
  refine ⟨q, hq.shift (-C) (fun c _ => by ring), ?_, fun c => ?_⟩
  · rw [hv]; exact value_at r q hq.1 S hq' P hp K hK
  · have hH := hot_at S r q hq.1 hq' c
    have hb := hotBit_at (hot S) (ix2 r c)
    have ho : B' (ix2 r c) = IntOp.ori (hotBit (hot S) (ix2 r c)) (B (ix2 r c)) := by rw [hB']; rfl
    rw [ho, or_bit, hB, hb, hot_bit _ (c.val = q) hH.1 hH.2, or_comm]

end Cert.ReferenceIdeal.Own

end
-- ==== Proof.RefDraws.lean ====
/- The three draws of the reference's line: what their steps' equations say of one row. -/
module

public import proofs.«01_k».proof.Proof.RefDraw
public import proofs.«01_k».proof.Proof.Keys
public import Idealize.ShloMosaic.Lib.ValueLayoutCasts

@[expose] public section

set_option maxRecDepth 16384

noncomputable section

namespace Cert.ReferenceIdeal.Own

open Idealize.ShloMosaic hiding ix0 ix1 ix2
open Idealize.ShloMosaic.StableHlo Idealize.SL.Sem Cert.Line
open Idealize.ShloMosaic.ValueIdx
open Cert.ReferenceIdeal Cert.ReferenceIdeal.Gen Cert.Pick

/-! ## The steps of a draw -/

/-- The references of arrays of numbers, of mask bits, of numbers, of rows' numbers, of columns. -/
abbrev RA := TRef sig ⟨S128x100000, .f32⟩
/-- A reference to a full array of bits. -/
abbrev RB := TRef sig ⟨S128x100000, .i1⟩
/-- A reference to a single number. -/
abbrev RN := TRef sig ⟨S_, .f32⟩
/-- A reference to one number for each row. -/
abbrev RV := TRef sig ⟨S128, .f32⟩
/-- A reference to a column of numbers. -/
abbrev RC := TRef sig ⟨S128x1, .f32⟩

/-- The buffers of a draw from its key to its one-hot rows. -/
structure Mid where
  (v22 v24 v25 v26 v27 v28 v29 v30 v31 v32 v33 v34 : RA)
  (k6 k7 k8 k9 k10 : RN)
  (fold : fn_threefry_fold_in.Bufs) (uni : fn_uniform.Bufs) (arg : fn_argmax.Bufs) (hot : fn_one_hot.Bufs)

/-- The buffers of a draw under a mask of every row's own. -/
structure Draw where
  (v0 v44 v45 v46 : RB)
  (v1 v2 v3 v4 v5 v6 v7 v10 v11 v12 v13 v14 v19 v20 v37 v38 v39 v40 v41 v42 v43 v47 v48 : RA)
  (k0 k1 k2 k3 k4 k11 k12 k13 k14 : RN)
  (v8 v15 v49 : RV)
  (v9 v16 v17 v18 v50 : RC)
  (n : R0 sig)
  (m : Mid)

section Lists

variable {F : FTy → Type} [FloatOps F]

/-- The steps of a draw from its key to its one-hot rows, and more steps `t`. -/
def midL (k : RS sig S2) (P : RA) (n : R0 sig) (φ : Mid) (t : List (Step τ sig (Elt F))) : List (Step τ sig (Elt F)) :=
  foldL k n (foldB φ.fold) ++ (
  [ un P φ.v22 Host.log,
    nul φ.k6 (constant S_ .f32 0x00000000#32),
    nul φ.k7 (constant S_ .f32 0x3F800000#32) ] ++ (
  uniL (foldB φ.fold).v12 φ.k6 φ.k7 φ.uni ++ (
  [ nul φ.k8 (constant S_ .f32 0x3F800000#32),
    un φ.k8 φ.v24 (broadcastInDim S128x100000 ![] bcast_S_S128x100000),
    bin φ.uni.v34 φ.v24 φ.v25 mulf,
    nul φ.k9 (constant S_ .f32 0x00800000#32),
    un φ.k9 φ.v26 (broadcastInDim S128x100000 ![] bcast_S_S128x100000),
    bin φ.v25 φ.v26 φ.v27 addf,
    nul φ.k10 (constant S_ .f32 0x00800000#32),
    un φ.k10 φ.v28 (broadcastInDim S128x100000 ![] bcast_S_S128x100000),
    bin φ.v28 φ.v27 φ.v29 maximumf,
    un φ.v29 φ.v30 Host.log,
    un φ.v30 φ.v31 Host.negf,
    un φ.v31 φ.v32 Host.log,
    un φ.v32 φ.v33 Host.negf,
    bin φ.v33 φ.v22 φ.v34 addf ] ++ (
  argmaxL φ.v34 φ.arg ++ (
  hotL φ.arg.v1_1 φ.hot ++ t)))))

/-- The steps of a draw up to its probabilities. -/
def headL (B : RB) (W : RA) (d : BitVec 32) (φ : Draw) : List (Step τ sig (Elt F)) :=
  [ un B φ.v0 noti,
    un φ.v0 φ.v1 (uitofp .f32),
    bin W φ.v1 φ.v2 mulf,
    nul φ.k0 (constant S_ .f32 0x3F800000#32),
    un φ.k0 φ.v3 (broadcastInDim S128x100000 ![] bcast_S_S128x100000),
    bin φ.v3 φ.v1 φ.v4 subf,
    nul φ.k1 (constant S_ .f32 0x461C4000#32),
    un φ.k1 φ.v5 (broadcastInDim S128x100000 ![] bcast_S_S128x100000),
    bin φ.v5 φ.v4 φ.v6 mulf,
    bin φ.v2 φ.v6 φ.v7 subf,
    nul φ.k2 (constant S_ .f32 0xFF800000#32),
    bin φ.v7 φ.k2 φ.v8 ((fun x v => Host.reduce FloatOps.maximumf x v reducesTo_S128x100000_S128_d1 h_S_)),
    un φ.v8 φ.v9 (broadcastInDim S128x1 ![0] bcast_S128_S128x1_0),
    un φ.v9 φ.v10 (broadcastInDim S128x100000 ![0, 1] bcast_S128x1_S128x100000_0_1),
    bin W φ.v10 φ.v11 subf,
    bin φ.v11 φ.v1 φ.v12 mulf,
    un φ.v12 φ.v13 Host.exp,
    bin φ.v13 φ.v1 φ.v14 mulf,
    nul φ.k3 (constant S_ .f32 0x00000000#32),
    bin φ.v14 φ.k3 φ.v15 ((fun x v => Host.reduceAdd x v reducesTo_S128x100000_S128_d1 h_S_)),
    un φ.v15 φ.v16 (broadcastInDim S128x1 ![0] bcast_S128_S128x1_0),
    nul φ.k4 (constant S_ .f32 0x322BCC77#32),
    un φ.k4 φ.v17 (broadcastInDim S128x1 ![] bcast_S_S128x1),
    bin φ.v16 φ.v17 φ.v18 addf,
    un φ.v18 φ.v19 (broadcastInDim S128x100000 ![0, 1] bcast_S128x1_S128x100000_0_1),
    bin φ.v14 φ.v19 φ.v20 Host.divf,
    nul φ.n (constantI S_ 32 d) ]

/-- The steps of a draw from its one-hot rows. -/
def tailL (B : RB) (K : TRef sig ⟨S1x100000, .f32⟩) (φ : Draw) : List (Step τ sig (Elt F)) :=
  [ nul φ.k11 (constant S_ .f32 0x3C23D70A#32),
    un φ.k11 φ.v37 (broadcastInDim S128x100000 ![] bcast_S_S128x100000),
    bin φ.v37 φ.v20 φ.v38 mulf,
    bin φ.m.hot.v5 φ.v38 φ.v39 addf,
    nul φ.k12 (constant S_ .f32 0x3C23D70A#32),
    un φ.k12 φ.v40 (broadcastInDim S128x100000 ![] bcast_S_S128x100000),
    bin φ.v40 φ.v20 φ.v41 mulf,
    bin φ.v39 φ.v41 φ.v42 subf,
    nul φ.k13 (constant S_ .f32 0x00000000#32),
    un φ.k13 φ.v43 (broadcastInDim S128x100000 ![] bcast_S_S128x100000),
    bin φ.m.hot.v5 φ.v43 φ.v44 (cmpf .une),
    un φ.v44 φ.v45 id,
    bin φ.v45 B φ.v46 ori,
    un K φ.v47 (broadcastInDim S128x100000 ![0, 1] bcast_S1x100000_S128x100000_0_1),
    bin φ.v42 φ.v47 φ.v48 mulf,
    nul φ.k14 (constant S_ .f32 0x00000000#32),
    bin φ.v48 φ.k14 φ.v49 ((fun x v => Host.reduceAdd x v reducesTo_S128x100000_S128_d1 h_S_)),
    resh φ.v49 φ.v50 shapeCasts_S128_S128x1 ]

end Lists

/-- The first draw's buffers from its key to its one-hot rows. -/
def draw0 : Mid :=
  ⟨.of main_v47, .of main_v49, .of main_v50, .of main_v51, .of main_v52, .of main_v53, .of main_v54, .of main_v55, .of
    main_v56, .of main_v57, .of main_v58, .of main_v59, .of main_cst_7, .of main_cst_8, .of main_cst_9, .of main_cst_10, .of
    main_cst_11, main_call0, main_call1, main_call2, main_call3⟩

/-- The second draw's buffers. -/
def draw1 : Draw :=
  ⟨.of main_v79, .of main_v123, .of main_v124, .of main_v125, .of main_v80, .of main_v81, .of main_v82, .of main_v83, .of
    main_v84, .of main_v85, .of main_v86, .of main_v89, .of main_v90, .of main_v91, .of main_v92, .of main_v93, .of main_v98,
    .of main_v99, .of main_v116, .of main_v117, .of main_v118, .of main_v119, .of main_v120, .of main_v121, .of main_v122,
    .of main_v126, .of main_v127, .of main_cst_16, .of main_cst_17, .of main_cst_18, .of main_cst_19, .of main_cst_20, .of
    main_cst_27, .of main_cst_28, .of main_cst_29, .of main_cst_30, .of main_v87, .of main_v94, .of main_v128, .of main_v88,
    .of main_v95, .of main_v96, .of main_v97, .of main_v129, .of main_c_21, ⟨.of main_v101, .of main_v103, .of main_v104, .of
    main_v105, .of main_v106, .of main_v107, .of main_v108, .of main_v109, .of main_v110, .of main_v111, .of main_v112, .of
    main_v113, .of main_cst_22, .of main_cst_23, .of main_cst_24, .of main_cst_25, .of main_cst_26, main_call4, main_call5,
    main_call6, main_call7⟩⟩

/-- The third draw's buffers. -/
def draw2 : Draw :=
  ⟨.of main_v131, .of main_v175, .of main_v176, .of main_v177, .of main_v132, .of main_v133, .of main_v134, .of main_v135,
    .of main_v136, .of main_v137, .of main_v138, .of main_v141, .of main_v142, .of main_v143, .of main_v144, .of main_v145,
    .of main_v150, .of main_v151, .of main_v168, .of main_v169, .of main_v170, .of main_v171, .of main_v172, .of main_v173,
    .of main_v174, .of main_v178, .of main_v179, .of main_cst_31, .of main_cst_32, .of main_cst_33, .of main_cst_34, .of
    main_cst_35, .of main_cst_42, .of main_cst_43, .of main_cst_44, .of main_cst_45, .of main_v139, .of main_v146, .of
    main_v180, .of main_v140, .of main_v147, .of main_v148, .of main_v149, .of main_v181, .of main_c_36, ⟨.of main_v153, .of
    main_v155, .of main_v156, .of main_v157, .of main_v158, .of main_v159, .of main_v160, .of main_v161, .of main_v162, .of
    main_v163, .of main_v164, .of main_v165, .of main_cst_37, .of main_cst_38, .of main_cst_39, .of main_cst_40, .of
    main_cst_41, main_call8, main_call9, main_call10, main_call11⟩⟩

/-! ## What their equations say -/

/-- The key of draw `d`. -/
abbrev dk (d : BitVec 32) : S2.Idx → BitVec 32 :=
  drawKey bcast_S_S1 concatenates_S1_S1_S2_d0 slices_S2_S1_0 slices_S2_S1_1 shapeCasts_S1_S_ d

/-- The noise of draw `d` at a column of the row that starts at `b`. -/
abbrev nz (d : BitVec 32) (b c : ℕ) : ℝ := noise (tf (dk d (ix1 0)) (dk d (ix1 1)) 0#32 (BitVec.ofNat 32 (b + c)))

variable {V : Valuation τ sig (Elt Ideal)}

/-- A fold into the seed makes the draw's key. -/
theorem key_at (d : BitVec 32) {k : RS sig S2} {n : R0 sig} {φ : Fold sig}
    (hk : get V k = seed bcast_S_S1 concatenates_S1_S1_S2_d0) (hn : get V n = constantI S_ 32 d) (e : Eqs (foldL k n φ) V) :
    get V φ.v12 = dk d := by
  have h := fold_of _ _ _ _ _ e
  rw [hk, hn] at h
  exact h

/-- From its key to its one-hot rows a draw adds its noise to the logarithms of the probabilities and takes the place of
    the largest. -/
theorem mid_of {k : RS sig S2} {P : RA} {n : R0 sig} {φ : Mid} {t : List (Step τ sig (Elt Ideal))} (e : Eqs (midL k P n φ t) V)
    (d : BitVec 32) (hk : get V k = seed bcast_S_S1 concatenates_S1_S1_S2_d0) (hn : get V n = constantI S_ 32 d) :
    (∀ (r : Fin 128) (c : Fin 100000), (gum (get V φ.uni.v34) (ix2 r c) : EReal) = (nz d (r.val * 100000) c.val : EReal))
      ∧ get V φ.v34 = (addf (gum (get V φ.uni.v34)) (Host.log (get V P : FVec Ideal S128x100000 .f32)) : FVec Ideal S128x100000 .f32)
      ∧ get V φ.arg.v1_1 = (fun j => (Host.argReduce (F := Ideal) reducer_argmax_f32_i32 (get V φ.v34 : FVec Ideal S128x100000 .f32)
          (iotaInDim S128x100000 32 1) (constant S_ .f32 0xFF800000#32) (constantI S_ 32 0#32)
          reducesTo_S128x100000_S128_d1 h_S_ j).2)
      ∧ get V φ.hot.v5 = hot (get V φ.arg.v1_1) ∧ Eqs t V := by
  unfold midL at e
  obtain ⟨ef, e⟩ := (eqs_append (foldL _ _ (foldB φ.fold)) _ V).mp e
  obtain ⟨⟨l1, l2, l3⟩, e⟩ := (eqs_append [_, _, _] _ V).mp e
  obtain ⟨eu, e⟩ := (eqs_append (uniL _ _ _ φ.uni) _ V).mp e
  obtain ⟨⟨g1, g2, g3, g4, g5, g6, g7, g8, g9, g10, g11, g12, g13, g14⟩, e⟩ :=
    (eqs_append [_, _, _, _, _, _, _, _, _, _, _, _, _, _] _ V).mp e
  obtain ⟨⟨a1, a2, a3, a4, a5⟩, e⟩ := (eqs_append (argmaxL _ φ.arg) _ V).mp e
  obtain ⟨⟨o1, o2, o3, o4, o5, o6⟩, e⟩ := (eqs_append (hotL _ φ.hot) _ V).mp e
  have hkey := key_at d hk hn ef
  refine ⟨fun r c => gum_at _ _ _ (uniform_at eu l2 l3 (dk d) hkey r c), ?_, ?_, ?_, e⟩
  · rw [g14, l1, g13, g12, g11, g10, g9, g8, g7, g6, g5, g4, g3, g2, g1]
    rfl
  · refine Eq.trans a5 ?_
    rw [a3, a2, a1]
  · rw [o6, o5, o4, o3, o2, o1]
    rfl

/-- The probabilities' first step: the masked weights, the others moved far down. -/
def low (W G : FVec Ideal S128x100000 .f32) : FVec Ideal S128x100000 .f32 :=
  subf (mulf W G) (mulf (broadcastInDim S128x100000 ![] bcast_S_S128x100000 (constant S_ .f32 0x461C4000#32))
    (subf (broadcastInDim S128x100000 ![] bcast_S_S128x100000 (constant S_ .f32 0x3F800000#32)) G))

/-- The masked weights at an index. -/
theorem low_at (W G : FVec Ideal S128x100000 .f32) (j : S128x100000.Idx) :
    (low W G j : EReal) = (W j : EReal) * (G j : EReal)
      - Ideal.ofBits .f32 0x461C4000#32 * (Ideal.ofBits .f32 0x3F800000#32 - (G j : EReal)) := by
  unfold low
  rw [subf_at, mulf_at, mulf_at, subf_at, const_at, const_at]

/-- A draw under a mask of every row's own, at a row: the pick, its number, and the mask with it. -/
theorem draw_of {B : RB} {W : RA} {k : RS sig S2} {K : TRef sig ⟨S1x100000, .f32⟩} {d : BitVec 32} {φ : Draw}
    {t : List (Step τ sig (Elt Ideal))} (e : Eqs (headL B W d φ ++ midL k φ.v20 φ.n φ.m (tailL B K φ ++ t)) V)
    (hk : get V k = seed bcast_S_S1 concatenates_S1_S1_S2_d0) (r : Fin 128) (M : ℕ → Prop) (w : ℕ → ℝ)
    (hM : ∃ c, c < 100000 ∧ ¬ M c) (hW : ∀ c : Fin 100000, (get V W (ix2 r c) : EReal) = (w c.val : EReal))
    (hB : ∀ c : Fin 100000, (get V B : IVec S128x100000 1) (ix2 r c) = 1#1 ↔ M c.val)
    (hK : ∀ c : Fin 100000, (get V K (ix2 0 c) : EReal) = ((c.val : ℝ) : EReal)) :
    ∃ p, IsPick 100000 M (sc (dk d (ix1 0)) (dk d (ix1 1)) w (r.val * 100000)) p
      ∧ (get V φ.v50 (ix2 r 0) : EReal) = ((p : ℝ) : EReal)
      ∧ (∀ c : Fin 100000, (get V φ.v46 : IVec S128x100000 1) (ix2 r c) = 1#1 ↔ M c.val ∨ c.val = p) ∧ Eqs t V := by
  obtain ⟨⟨b1, b2, b3, b4, b5, b6, b7, b8, b9, b10, b11, b12, b13, b14, b15, b16, b17, b18, b19, b20, b21, b22, b23, b24, b25, b26,
    b27⟩, e⟩ := (eqs_append (headL B W d φ) _ V).mp e
  obtain ⟨hN, hZ, hS, hH, e⟩ := mid_of e d hk b27
  obtain ⟨⟨t1, t2, t3, t4, t5, t6, t7, t8, t9, t10, t11, t12, t13, t14, t15, t16, t17, t18⟩, e⟩ := (eqs_append (tailL B K φ) _ V).mp e
  have hA : get V φ.v7 = low (get V W) (get V φ.v1) := by rw [b10, b9, b8, b7, b6, b5, b4, b3]; rfl
  have hE : get V φ.v14 = exps (get V W) (get V φ.v1) (rowMax (get V φ.v7)) := by
    rw [b18, b17, b16, b15, b14, b13, b12, b11]; rfl
  have hP : get V φ.v20 = probs (get V φ.v14) (rowSum (get V φ.v14)) := by
    rw [b26, b25, b24, b23, b22, b21, b20, b19]; rfl
  have hv : get V φ.v49 = rowSum (vals (get V φ.m.hot.v5) (get V φ.v20) (get V K)) := by
    rw [t17, t16, t15, t14, t8, t7, t6, t5, t4, t3, t2, t1]; rfl
  have hB' : get V φ.v46 = (ori (hotBit (get V φ.m.hot.v5)) (get V B) : IVec S128x100000 1) := by
    rw [t13, t12, t11, t10, t9]; rfl
  obtain ⟨p, hp, hv', hb⟩ := draw_at r M w (nz d (r.val * 100000)) (get V W) (get V φ.v1) (get V φ.v7) (get V φ.m.uni.v34) (get V B) (get V K)
    hM hW hB (fun c => by rw [b2, b1]; rfl) (fun c => by rw [hA]; exact low_at _ _ _) (fun c => hN r c) hK
    (get V φ.v14) (get V φ.v20) (get V φ.m.hot.v5) (get V φ.v46) (get V φ.m.arg.v1_1) (get V φ.v49) hE hP (get V φ.m.v34) hZ hS hH hv hB'
  refine ⟨p, hp, ?_, hb, e⟩
  rw [t18]
  exact (shapeCast_a_a1_apply _ _ r 0).trans hv'

end Cert.ReferenceIdeal.Own

end
-- ==== Proof.RefValue.lean ====
/- The reference's result: every row is the row of its weights, its place and the target under the three draws' keys. -/
module

public import proofs.«01_k».proof.Proof.RefDraws
public import Idealize.ShloMosaic.Lib.ValueLayout

@[expose] public section

set_option maxRecDepth 16384

noncomputable section

namespace Cert.ReferenceIdeal.Own

open Idealize.ShloMosaic hiding ix0 ix1 ix2
open Idealize.ShloMosaic.StableHlo Idealize.SL.Sem Cert.Line
open Idealize.ShloMosaic.ValueIdx
open Cert.ReferenceIdeal Cert.ReferenceIdeal.Gen Cert.Pick

/-! ## The result's columns -/

section Columns

variable {α : Type}

/-- Two columns side by side: the left one. -/
theorem cat2_left (a b : S128x1.Idx → α) (r : Fin 128) :
    concatenate S128x2 1 [⟨S128x1, a⟩, ⟨S128x1, b⟩] concatenates_S128x1_S128x1_S128x2_d1 (ix2 r 0) = a (ix2 r 0) :=
  concatenate_pair_apply_left (t := S128x2) 1 a b _ (ix2 r 0) rfl (ix2 r 0) fun x => by
    match x with
    | ⟨0, _⟩ => rfl
    | ⟨1, _⟩ => rfl

/-- Two columns side by side: the right one. -/
theorem cat2_right (a b : S128x1.Idx → α) (r : Fin 128) :
    concatenate S128x2 1 [⟨S128x1, a⟩, ⟨S128x1, b⟩] concatenates_S128x1_S128x1_S128x2_d1 (ix2 r 1) = b (ix2 r 0) :=
  concatenate_pair_apply_right (t := S128x2) 1 a b _ (ix2 r 1) rfl rfl (ix2 r 0) (fun x hx => by
    match x with
    | ⟨0, _⟩ => rfl
    | ⟨1, _⟩ => exact absurd rfl hx) rfl

/-- Two columns and a third: the first two. -/
theorem cat3_left (a : S128x2.Idx → α) (b : S128x1.Idx → α) (r : Fin 128) (q : Fin 2) :
    concatenate S128x3 1 [⟨S128x2, a⟩, ⟨S128x1, b⟩] concatenates_S128x2_S128x1_S128x3_d1 (ix2 r q.castSucc) = a (ix2 r q) :=
  concatenate_pair_apply_left (t := S128x3) 1 a b _ (ix2 r q.castSucc) rfl (ix2 r q) fun x => by
    match x with
    | ⟨0, _⟩ => rfl
    | ⟨1, _⟩ => rfl

/-- Two columns and a third: the third. -/
theorem cat3_right (a : S128x2.Idx → α) (b : S128x1.Idx → α) (r : Fin 128) :
    concatenate S128x3 1 [⟨S128x2, a⟩, ⟨S128x1, b⟩] concatenates_S128x2_S128x1_S128x3_d1 (ix2 r 2) = b (ix2 r 0) :=
  concatenate_pair_apply_right (t := S128x3) 1 a b _ (ix2 r 2) rfl rfl (ix2 r 0) (fun x hx => by
    match x with
    | ⟨0, _⟩ => rfl
    | ⟨1, _⟩ => exact absurd rfl hx) rfl

/-- Three columns and a fourth: the first three. -/
theorem cat4_left (a : S128x3.Idx → α) (b : S128x1.Idx → α) (r : Fin 128) (q : Fin 3) :
    concatenate S128x4 1 [⟨S128x3, a⟩, ⟨S128x1, b⟩] concatenates_S128x3_S128x1_S128x4_d1 (ix2 r q.castSucc) = a (ix2 r q) :=
  concatenate_pair_apply_left (t := S128x4) 1 a b _ (ix2 r q.castSucc) rfl (ix2 r q) fun x => by
    match x with
    | ⟨0, _⟩ => rfl
    | ⟨1, _⟩ => rfl

/-- Three columns and a fourth: the fourth. -/
theorem cat4_right (a : S128x3.Idx → α) (b : S128x1.Idx → α) (r : Fin 128) :
    concatenate S128x4 1 [⟨S128x3, a⟩, ⟨S128x1, b⟩] concatenates_S128x3_S128x1_S128x4_d1 (ix2 r 3) = b (ix2 r 0) :=
  concatenate_pair_apply_right (t := S128x4) 1 a b _ (ix2 r 3) rfl rfl (ix2 r 0) (fun x hx => by
    match x with
    | ⟨0, _⟩ => rfl
    | ⟨1, _⟩ => exact absurd rfl hx) rfl

/-- An array of one value keeps it when reshaped. -/
theorem cast_const {S T : Shape} (x : S.Idx → α) (h : S.ShapeCasts T) (a : α) (hx : ∀ i, x i = a) (j : T.Idx) :
    shapeCast T x h j = a := hx _

/-- An array of one value keeps it when broadcast. -/
theorem bc_const {S T : Shape} (dims : Fin S.rank → Fin T.rank) (h : S.BroadcastsInDim T dims) (x : S.Idx → α) (a : α)
    (hx : ∀ i, x i = a) (j : T.Idx) : broadcastInDim T dims h x j = a := hx _

end Columns

variable {V : Valuation τ sig (Elt Ideal)}

/-! ## Before the draws -/

/-- What the first steps leave: the seed's key, the columns' numbers, the target as a number, and the target's column masked. -/
theorem pre_of (e : Eqs (preL (F := Ideal)) V) (t : BitVec 32)
    (ht : (get V (.of main_arg1 : TRef sig ⟨S_, .i32⟩) : S_.Idx → BitVec 32) = fun _ => t) :
    get V (.of main_v16 : RS sig S2) = seed bcast_S_S1 concatenates_S1_S1_S2_d0
      ∧ (∀ c : Fin 100000, (get V (.of main_v9 : TRef sig ⟨S1x100000, .f32⟩) (ix2 0 c) : EReal) = ((c.val : ℝ) : EReal))
      ∧ (∀ r : Fin 128, (get V (.of main_v7 : RC) (ix2 r 0) : EReal) = ((t.toInt : ℝ) : EReal))
      ∧ ∀ c : Fin 100000, (get V (.of main_v2 : TRef sig ⟨S100000, .i1⟩) : IVec S100000 1) (ix1 c) = 1#1 ↔ M1 t c.val := by
  obtain ⟨h1, h2, h3, h4, h5, h6, h7, h8, h9, h10, h11, h12, h13, h14, h15, h16, h17, h18, h19, h20⟩ := e
  refine ⟨?_, fun c => ?_, fun r => ?_, fun c => ?_⟩
  · rw [h20, h19, h18, h17, h16, h15, h14, h13, h12, h11]
    rfl
  · rw [h10]
    refine (shapeCast_a_1a_apply _ _ 0 c).trans ?_
    rw [h9]
    exact congrArg (fun x : ℝ => (x : EReal)) (toInt_col c.isLt)
  · rw [h8]
    refine cast_const _ _ _ (fun i => ?_) _
    rw [h7]
    refine bc_const _ _ _ _ (fun i => ?_) _
    rw [h6]
    refine cast_const _ _ _ (fun i => ?_) _
    rw [h5]
    refine cast_const _ _ _ (fun i => ?_) _
    rw [h4, ht]
    rfl
  · have h : (get V (.of main_v2 : TRef sig ⟨S100000, .i1⟩) : IVec S100000 1) (ix1 c) = IntOp.cmpi .eq (BitVec.ofNat 32 c.val) t := by
      rw [h3, h2, h1, ht]
      rfl
    rw [h, eq_bit]
    exact ofNat_eq_iff c.isLt t

/-! ## The draws -/

/-- The first draw, whose mask is one row for all, at a row. -/
theorem first_of (e : Eqs (it0L (F := Ideal)) V) (hk : get V (.of main_v16 : RS sig S2) = seed bcast_S_S1 concatenates_S1_S1_S2_d0)
    (r : Fin 128) (M : ℕ → Prop) (w : ℕ → ℝ) (hM : ∃ c, c < 100000 ∧ ¬ M c)
    (hW : ∀ c : Fin 100000, (get V (.of main_arg0 : RA) (ix2 r c) : EReal) = (w c.val : EReal))
    (hB : ∀ c : Fin 100000, (get V (.of main_v2 : TRef sig ⟨S100000, .i1⟩) : IVec S100000 1) (ix1 c) = 1#1 ↔ M c.val)
    (hK : ∀ c : Fin 100000, (get V (.of main_v9 : TRef sig ⟨S1x100000, .f32⟩) (ix2 0 c) : EReal) = ((c.val : ℝ) : EReal)) :
    ∃ p, IsPick 100000 M (sc (dk 0#32 (ix1 0)) (dk 0#32 (ix1 1)) w (r.val * 100000)) p
      ∧ (get V (.of main_v77 : RC) (ix2 r 0) : EReal) = ((p : ℝ) : EReal)
      ∧ (∀ c : Fin 100000, (get V (.of main_v73 : RB) : IVec S128x100000 1) (ix2 r c) = 1#1 ↔ M c.val ∨ c.val = p)
      ∧ get V (.of main_v78 : TRef sig ⟨S128x2, .f32⟩) = concatenate S128x2 1 [⟨S128x1, get V (.of main_v7 : RC)⟩,
          ⟨S128x1, get V (.of main_v77 : RC)⟩] concatenates_S128x1_S128x1_S128x2_d1 := by
  unfold it0L at e
  obtain ⟨⟨b1, b2, b3, b4, b5, b6, b7, b8, b9, b10, b11, b12, b13, b14, b15, b16, b17, b18, b19, b20, b21, b22, b23, b24, b25, b26,
    b27, b28, b29, b30, b31, b32, b33, b34, b35⟩, e⟩ := (eqs_append [_, _, _, _, _, _, _, _, _, _, _, _, _, _, _, _, _, _, _, _, _, _,
      _, _, _, _, _, _, _, _, _, _, _, _, _] _ V).mp e
  have e' : Eqs (midL (.of main_v16) (.of main_v45) (.of main_c_6) draw0 _) V := e
  obtain ⟨hN, hZ, hS, hH, t1, t2, t3, t4, t5, t6, t7, t8, t9, t10, t11, t12, t13, t14, t15, t16, t17, t18, t19, t20, t21⟩ :=
    mid_of e' 0#32 hk b35
  have q20 : ∀ c : Fin 100000, (get V (.of main_v20 : RA) (ix2 r c) : EReal) = get V (.of main_v18 : TRef sig ⟨S100000, .f32⟩) (ix1 c) :=
    fun c => by rw [b4, b3]; exact (bc_row _ r c).trans (bc_r _ 0 c)
  have q72 : ∀ c : Fin 100000, (get V (.of main_v72 : RB) : IVec S128x100000 1) (ix2 r c)
      = (get V (.of main_v2 : TRef sig ⟨S100000, .i1⟩) : IVec S100000 1) (ix1 c) :=
    fun c => by rw [t14, t13]; exact (bc_row _ r c).trans (bc_r _ 0 c)
  have q18 : ∀ c : Fin 100000, (get V (.of main_v18 : TRef sig ⟨S100000, .f32⟩) (ix1 c) : EReal)
      = (((~~~((get V (.of main_v2 : TRef sig ⟨S100000, .i1⟩) : IVec S100000 1) (ix1 c))).toNat : ℝ) : EReal) :=
    fun c => by rw [b2, b1]; rfl
  have q27 : ∀ c : Fin 100000, (get V (.of main_v27 : RA) (ix2 r c) : EReal) = Ideal.ofBits .f32 0x461C4000#32
      * (Ideal.ofBits .f32 0x3F800000#32 - get V (.of main_v18 : TRef sig ⟨S100000, .f32⟩) (ix1 c)) := fun c => by
    rw [b13, b12]
    refine ((bc_row _ r c).trans (bc_r _ 0 c)).trans ?_
    rw [b11, b10, b9, b8, b7, b6]
    rfl
  have hA : ∀ c : Fin 100000, (get V (.of main_v28 : RA) (ix2 r c) : EReal)
      = (get V (.of main_arg0 : RA) (ix2 r c) : EReal) * (get V (.of main_v20 : RA) (ix2 r c) : EReal)
        - Ideal.ofBits .f32 0x461C4000#32 * (Ideal.ofBits .f32 0x3F800000#32 - (get V (.of main_v20 : RA) (ix2 r c) : EReal)) := fun c => by
    rw [b14]
    refine (subf_at _ _ _).trans ?_
    rw [q27, b5, q20]
    refine congrArg (fun x : EReal => x - _) ?_
    refine (mulf_at _ _ _).trans ?_
    rw [q20]
  have hE : get V (.of main_v39 : RA) = exps (get V (.of main_arg0 : RA)) (get V (.of main_v20 : RA)) (rowMax (get V (.of main_v28 : RA))) := by
    rw [b26, b25, b24, b23, b22, b21, b20, b19, b18, b17, b16, b15, b4, b3]; rfl
  have hP : get V (.of main_v45 : RA) = probs (get V (.of main_v39 : RA)) (rowSum (get V (.of main_v39 : RA))) := by
    rw [b34, b33, b32, b31, b30, b29, b28, b27]; rfl
  have hv : get V (.of main_v76 : RV) = rowSum (vals (get V draw0.hot.v5) (get V (.of main_v45 : RA)) (get V (.of main_v9 : TRef sig ⟨S1x100000, .f32⟩))) := by
    rw [t19, t18, t17, t16, t8, t7, t6, t5, t4, t3, t2, t1]; rfl
  have hB' : get V (.of main_v73 : RB) = (ori (hotBit (get V draw0.hot.v5)) (get V (.of main_v72 : RB)) : IVec S128x100000 1) := by
    rw [t15, t12, t11, t10, t9]; rfl
  obtain ⟨p, hp, hv', hb⟩ := draw_at r M w (nz 0#32 (r.val * 100000)) (get V (.of main_arg0 : RA)) (get V (.of main_v20 : RA))
    (get V (.of main_v28 : RA)) (get V draw0.uni.v34) (get V (.of main_v72 : RB)) (get V (.of main_v9 : TRef sig ⟨S1x100000, .f32⟩))
    hM hW (fun c => by rw [q72]; exact hB c) (fun c => by rw [q20, q72]; exact q18 c) hA (fun c => hN r c) hK
    (get V (.of main_v39 : RA)) (get V (.of main_v45 : RA)) (get V draw0.hot.v5) (get V (.of main_v73 : RB)) (get V draw0.arg.v1_1)
    (get V (.of main_v76 : RV)) hE hP (get V draw0.v34) hZ hS hH hv hB'
  refine ⟨p, hp, ?_, hb, t21⟩
  rw [t20]
  exact (shapeCast_a_a1_apply _ _ r 0).trans hv'

/-- The second draw's steps. -/
theorem it1_eq : it1L (F := Ideal) = headL (.of main_v73) (.of main_arg0) 1#32 draw1 ++ midL (.of main_v16) draw1.v20 draw1.n draw1.m
    (tailL (.of main_v73) (.of main_v9) draw1 ++ [bin (.of main_v78 : TRef sig ⟨S128x2, .f32⟩) (.of main_v129 : TRef sig ⟨S128x1, .f32⟩)
      (.of main_v130 : TRef sig ⟨S128x3, .f32⟩) (fun a b => concatenate S128x3 1 [⟨S128x2, a⟩, ⟨S128x1, b⟩] concatenates_S128x2_S128x1_S128x3_d1)]) := by
  chain_rfl

/-- The third draw's steps. -/
theorem it2_eq : it2L (F := Ideal) = headL (.of main_v125) (.of main_arg0) 2#32 draw2 ++ midL (.of main_v16) draw2.v20 draw2.n draw2.m
    (tailL (.of main_v125) (.of main_v9) draw2 ++ [bin (.of main_v130 : TRef sig ⟨S128x3, .f32⟩) (.of main_v181 : TRef sig ⟨S128x1, .f32⟩)
      (.of main_v182 : TRef sig ⟨S128x4, .f32⟩) (fun a b => concatenate S128x4 1 [⟨S128x3, a⟩, ⟨S128x1, b⟩] concatenates_S128x3_S128x1_S128x4_d1)]) := by
  chain_rfl

/-- The reference's result: where the weights are reals, every row is the row of its weights, its place in the flat array and
    the target, under the three draws' keys. -/
theorem ref_row (e : Eqs (line (F := Ideal)) V) (t : BitVec 32)
    (ht : (get V (.of main_arg1 : TRef sig ⟨S_, .i32⟩) : S_.Idx → BitVec 32) = fun _ => t) (r : Fin 128) (w : ℕ → ℝ)
    (hW : ∀ c : Fin 100000, (get V (.of main_arg0 : RA) (ix2 r c) : EReal) = (w c.val : EReal)) :
    Row (words bcast_S_S1 concatenates_S1_S1_S2_d0 slices_S2_S1_0 slices_S2_S1_1 shapeCasts_S1_S_) t w (r.val * 100000)
      (fun q => get V (.of main_v182 : TRef sig ⟨S128x4, .f32⟩) (ix2 r q)) := by
  obtain ⟨e0, e⟩ := (eqs_append preL _ V).mp e
  obtain ⟨e1, e⟩ := (eqs_append it0L _ V).mp e
  obtain ⟨e2, e3⟩ := (eqs_append it1L _ V).mp e
  rw [it1_eq] at e2
  rw [it2_eq] at e3
  obtain ⟨hk, hK, hT, hB⟩ := pre_of e0 t ht
  obtain ⟨p, hp, vp, bp, cp⟩ := first_of e1 hk r (M1 t) w (M1_open t) hW hB hK
  obtain ⟨q, hq, vq, bq, cq⟩ := draw_of e2 hk r (M2 t p) w (M2_open t p) hW bp hK
  obtain ⟨s, hs, vs, -, cs⟩ := draw_of e3 hk r (M3 t p q) w (M3_open t p q) hW bq hK
  have cq' : get V (.of main_v130 : TRef sig ⟨S128x3, .f32⟩) = concatenate S128x3 1 [⟨S128x2, get V (.of main_v78 : TRef sig ⟨S128x2, .f32⟩)⟩,
      ⟨S128x1, get V (.of main_v129 : RC)⟩] concatenates_S128x2_S128x1_S128x3_d1 := cq
  have cs' : get V (.of main_v182 : TRef sig ⟨S128x4, .f32⟩) = concatenate S128x4 1 [⟨S128x3, get V (.of main_v130 : TRef sig ⟨S128x3, .f32⟩)⟩,
      ⟨S128x1, get V (.of main_v181 : RC)⟩] concatenates_S128x3_S128x1_S128x4_d1 := cs
  refine ⟨p, q, s, hp, hq, hs, funext fun i => ?_⟩
  rw [cs']
  fin_cases i
  · refine (cat4_left _ _ r 0).trans ?_
    rw [cq']
    refine (cat3_left _ _ r 0).trans ?_
    rw [cp]
    exact (cat2_left _ _ r).trans (hT r)
  · refine (cat4_left _ _ r 1).trans ?_
    rw [cq']
    refine (cat3_left _ _ r 1).trans ?_
    rw [cp]
    exact (cat2_right _ _ r).trans vp
  · refine (cat4_left _ _ r 2).trans ?_
    rw [cq']
    exact (cat3_right _ _ r).trans vq
  · exact (cat4_right _ _ r).trans vs

end Cert.ReferenceIdeal.Own

end
-- ==== Proof.Algebraic.lean ====
/- The value claim: on finite weights the kernel and the reference, read over the extended reals, end with equal results. -/
module

public import proofs.«01_k».proof.Defs
public import proofs.«01_k».proof.Proof.KernelArray
public import proofs.«01_k».proof.Proof.KernelHost
public import proofs.«01_k».proof.Proof.RefValue
public import Idealize.ShloMosaic.Adequacy

@[expose] public section

set_option maxRecDepth 16384

noncomputable section

namespace Cert.Proof

open Idealize.ShloMosaic hiding ix0 ix1 ix2
open Idealize.ShloMosaic.StableHlo Idealize.SL.Sem Cert.Line Cert.Pick
open Idealize.ShloMosaic.ValueIdx (ix0 ix1 ix2)

/-- A number below the infinite one in absolute value is a real. -/
theorem real_of_finite (x : EReal) (h : FloatOps.cmpf (F := Ideal) (φ := .f32) .olt (max x (-x)) (Ideal.ofBits .f32 0x7F800000#32) = 1#1) :
    ((x.toReal : ℝ) : EReal) = x := by
  have ht : Ideal.ofBits .f32 0x7F800000#32 = (⊤ : EReal) := by simp [Ideal.ofBits, Ideal.ieee]
  rw [ht] at h
  have hl : max x (-x) < (⊤ : EReal) := by
    by_contra hc
    simp [Ideal.cmpf_def, Ideal.cmp, hc] at h
  refine EReal.coe_toReal (fun h' => ?_) (fun h' => ?_)
  · rw [h'] at hl; simp at hl
  · rw [h'] at hl; simp at hl

/-- The weights of a launch, read as real numbers; zero off the array. -/
def weight (m : (ℓ : Loc Cert.KernelIdeal.nD Cert.KernelIdeal.τ Cert.KernelIdeal.sig) → Buf (Elt Ideal) ℓ) (r : Fin 128) (d : ℕ) : ℝ :=
  if h : d < 100000 then
    EReal.toReal ((m ((0 : Dev Cert.KernelIdeal.nD).tc.loc Cert.KernelIdeal.main_arg0) : Cert.KernelIdeal.S128x100000.Idx → EReal) (ix2 r ⟨d, h⟩))
  else 0

/-- On finite weights the array of weights holds those real numbers. -/
theorem weights [Cert.Pre_finite_weights.Facts] (m : (ℓ : Loc Cert.KernelIdeal.nD Cert.KernelIdeal.τ Cert.KernelIdeal.sig) → Buf (Elt Ideal) ℓ)
    (h : Cert.Pre_finite_weights.fn (F := Ideal) (m ((0 : Dev Cert.KernelIdeal.nD).tc.loc Cert.KernelIdeal.main_arg0))
      (m ((0 : Dev Cert.KernelIdeal.nD).tc.loc Cert.KernelIdeal.main_arg1)) = fun _ => 1#1)
    (r : Fin 128) (d : Fin 100000) :
    m ((0 : Dev Cert.KernelIdeal.nD).tc.loc Cert.KernelIdeal.main_arg0) (ix2 r d) = ((weight m r d.val : ℝ) : EReal) := by
  rw [weight, dif_pos d.isLt]
  exact (real_of_finite _ (congrFun h (ix2 r d))).symm

/-- On finite weights both programs run, their arguments as they were, and end with the same array. -/
theorem algebraic [hP : Cert.Pre_finite_weights.Facts] : Cert.algebraic_KernelIdeal_ReferenceIdeal_pre_finite_weights
    (hKernelIdeal := Cert.KernelIdeal.Gen.facts) (hReferenceIdeal := Cert.ReferenceIdeal.Gen.facts) := by
  intro m g m' g' hpre hm
  refine ⟨fun c => Cert.KernelIdeal.Own.whole m trivial c, Cert.KernelIdeal.Own.run_whole m trivial g,
    θ_run_mono (Cert.ReferenceIdeal.Own.run m' g') fun r h c => ⟨?_, (h c Cert.ReferenceIdeal.main_arg0).trans
      (Cert.ReferenceIdeal.Own.keep m' c Cert.ReferenceIdeal.main_arg0 (by decide)), (h c Cert.ReferenceIdeal.main_arg1).trans
      (Cert.ReferenceIdeal.Own.keep m' c Cert.ReferenceIdeal.main_arg1 (by decide))⟩⟩
  refine (h c Cert.ReferenceIdeal.main_v182).trans ?_
  have e := eqs_after Cert.ReferenceIdeal.Own.key Cert.ReferenceIdeal.Own.line 2 (launchContents m' c)
    (Cert.ReferenceIdeal.Own.line_chk (F := Ideal))
  have k0 := Cert.ReferenceIdeal.Own.keep m' c Cert.ReferenceIdeal.main_arg0 (by decide)
  have k1 := Cert.ReferenceIdeal.Own.keep m' c Cert.ReferenceIdeal.main_arg1 (by decide)
  generalize after (ops Cert.ReferenceIdeal.Own.line) (launchContents m' c) = V at e k0 k1 ⊢
  have hkm := Cert.KernelIdeal.Own.keys_words m c
  have htm := Cert.KernelIdeal.Own.target_word m c
  obtain rfl : c = 0 := Subsingleton.elim _ _
  have hw := weights m (hpre 0)
  have hk := Cert.KernelIdeal.Own.whole_row m trivial 0 (weight m) hw
  rw [hkm, htm] at hk
  have hr := fun R : Fin 128 => Cert.ReferenceIdeal.Own.ref_row e
    ((m ((0 : Dev Cert.KernelIdeal.nD).tc.loc Cert.KernelIdeal.main_arg1) : Cert.KernelIdeal.S_.Idx → BitVec 32) ix0)
    (funext fun j => (congrFun (k1.trans (hm 0).2) j).trans
      (congrArg (m ((0 : Dev Cert.KernelIdeal.nD).tc.loc Cert.KernelIdeal.main_arg1)) (funext fun a => a.elim0)))
    R (weight m R) (fun d => (congrFun (k0.trans (hm 0).1) (ix2 R d)).trans (hw R d))
  funext j
  obtain ⟨R, q, rfl⟩ : ∃ (R : Fin 128) (q : Fin 4), j = ix2 R q := ⟨j 0, j 1, eq_ix2 j⟩
  exact congrFun (Row.unique (hr R) (hk R)) q

end Cert.Proof

end
-- ==== Proof.lean ====
/- The proof of the claim: the frames, that the idealized kernel is the kernel, and that kernel and reference have equal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.RunA
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.RunA
public import proofs.«01_k».proof.Proof.Gen.ReferenceIdeal
public import proofs.«01_k».proof.Proof.KernelFrame
public import proofs.«01_k».proof.Proof.KernelIdealFrame
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem

/-- The claim: both kernels and the reference run to the end, their arguments as they were and every counter at zero; the
    idealized kernel is the kernel; and on finite weights the idealized kernel and the reference have equal results. -/
theorem claim : Cert.Claim :=
  ⟨Cert.Kernel.Gen.facts, Cert.KernelIdeal.Gen.facts, Cert.ReferenceIdeal.Gen.facts, ⟨by decide⟩,
    fun m ρ _ => Cert.Kernel.Gen.frame m ρ trivial, fun m ρ _ => Cert.KernelIdeal.Gen.frame m ρ trivial,
    fun m ρ _ => Cert.KernelIdeal.Gen.frame m ρ trivial, fun m ρ _ => Cert.ReferenceIdeal.Own.frame m ρ,
    fun m ρ _ => Cert.ReferenceIdeal.Own.frame m ρ, trivial, algebraic (hP := ⟨by decide⟩)⟩

end Cert.Proof

end
